-- ==== Defs.lean ====
def Pre_KernelQK (m : (ℓ : Loc Cert.KernelQK.nD Cert.KernelQK.τ Cert.KernelQK.sig) → Buf (Elt Bits) ℓ) : Prop :=
  True

def Pre_KernelQKIdeal (m : (ℓ : Loc Cert.KernelQKIdeal.nD Cert.KernelQKIdeal.τ Cert.KernelQKIdeal.sig) → Buf (Elt Ideal) ℓ) : Prop :=
  True

def Pre_ReferenceQKIdeal (m : (ℓ : Loc Cert.ReferenceQKIdeal.nD Cert.ReferenceQKIdeal.τ Cert.ReferenceQKIdeal.sig) → Buf (Elt Ideal) ℓ) : Prop :=
  True

def Pre_KernelV (m : (ℓ : Loc Cert.KernelV.nD Cert.KernelV.τ Cert.KernelV.sig) → Buf (Elt Bits) ℓ) : Prop :=
  True

def Pre_KernelVIdeal (m : (ℓ : Loc Cert.KernelVIdeal.nD Cert.KernelVIdeal.τ Cert.KernelVIdeal.sig) → Buf (Elt Ideal) ℓ) : Prop :=
  True

def Pre_ReferenceVIdeal (m : (ℓ : Loc Cert.ReferenceVIdeal.nD Cert.ReferenceVIdeal.τ Cert.ReferenceVIdeal.sig) → Buf (Elt Ideal) ℓ) : Prop :=
  True

def Pre_KernelHgrn (m : (ℓ : Loc Cert.KernelHgrn.nD Cert.KernelHgrn.τ Cert.KernelHgrn.sig) → Buf (Elt Bits) ℓ) : Prop :=
  True

def Pre_KernelHgrnIdeal (m : (ℓ : Loc Cert.KernelHgrnIdeal.nD Cert.KernelHgrnIdeal.τ Cert.KernelHgrnIdeal.sig) → Buf (Elt Ideal) ℓ) : Prop :=
  True

def Pre_ReferenceHgrnIdeal (m : (ℓ : Loc Cert.ReferenceHgrnIdeal.nD Cert.ReferenceHgrnIdeal.τ Cert.ReferenceHgrnIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite [hPre_finite : Cert.Pre_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))) = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite [hPre_finite : Cert.Pre_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def quiescent_KernelQK [hKernelQK : Cert.KernelQK.Facts] : Prop :=
  ∀ (m : (ℓ : Loc Cert.KernelQK.nD Cert.KernelQK.τ Cert.KernelQK.sig) → Buf (Elt Bits) ℓ) (g : Dev Cert.KernelQK.nD → PrngReg), Pre_KernelQK m →
    θ_run (Cert.KernelQK.defs (F := Bits)) (onTc (τ := Cert.KernelQK.τ) (Cert.KernelQK.main (F := Bits))) ⟨m, fun _ => 0, g⟩ (fun r => (∀ c : Dev Cert.KernelQK.nD,
      r.2.mem ((c.tc : Thread Cert.KernelQK.nD Cert.KernelQK.τ).loc Cert.KernelQK.main_arg0) = m ((c.tc : Thread Cert.KernelQK.nD Cert.KernelQK.τ).loc Cert.KernelQK.main_arg0)
      ∧ r.2.mem ((c.tc : Thread Cert.KernelQK.nD Cert.KernelQK.τ).loc Cert.KernelQK.main_arg1) = m ((c.tc : Thread Cert.KernelQK.nD Cert.KernelQK.τ).loc Cert.KernelQK.main_arg1)
      ∧ r.2.mem ((c.tc : Thread Cert.KernelQK.nD Cert.KernelQK.τ).loc Cert.KernelQK.main_arg2) = m ((c.tc : Thread Cert.KernelQK.nD Cert.KernelQK.τ).loc Cert.KernelQK.main_arg2)
      ∧ r.2.mem ((c.tc : Thread Cert.KernelQK.nD Cert.KernelQK.τ).loc Cert.KernelQK.main_arg3) = m ((c.tc : Thread Cert.KernelQK.nD Cert.KernelQK.τ).loc Cert.KernelQK.main_arg3))
      ∧ r.2.sem = fun _ => 0)

def quiescent_KernelQKIdeal [hKernelQKIdeal : Cert.KernelQKIdeal.Facts] : Prop :=
  ∀ (m : (ℓ : Loc Cert.KernelQKIdeal.nD Cert.KernelQKIdeal.τ Cert.KernelQKIdeal.sig) → Buf (Elt Ideal) ℓ) (g : Dev Cert.KernelQKIdeal.nD → PrngReg), Pre_KernelQKIdeal m →
    θ_run (Cert.KernelQKIdeal.defs (F := Ideal)) (onTc (τ := Cert.KernelQKIdeal.τ) (Cert.KernelQKIdeal.main (F := Ideal))) ⟨m, fun _ => 0, g⟩ (fun r => (∀ c : Dev Cert.KernelQKIdeal.nD,
      r.2.mem ((c.tc : Thread Cert.KernelQKIdeal.nD Cert.KernelQKIdeal.τ).loc Cert.KernelQKIdeal.main_arg0) = m ((c.tc : Thread Cert.KernelQKIdeal.nD Cert.KernelQKIdeal.τ).loc Cert.KernelQKIdeal.main_arg0)
      ∧ r.2.mem ((c.tc : Thread Cert.KernelQKIdeal.nD Cert.KernelQKIdeal.τ).loc Cert.KernelQKIdeal.main_arg1) = m ((c.tc : Thread Cert.KernelQKIdeal.nD Cert.KernelQKIdeal.τ).loc Cert.KernelQKIdeal.main_arg1)
      ∧ r.2.mem ((c.tc : Thread Cert.KernelQKIdeal.nD Cert.KernelQKIdeal.τ).loc Cert.KernelQKIdeal.main_arg2) = m ((c.tc : Thread Cert.KernelQKIdeal.nD Cert.KernelQKIdeal.τ).loc Cert.KernelQKIdeal.main_arg2)
      ∧ r.2.mem ((c.tc : Thread Cert.KernelQKIdeal.nD Cert.KernelQKIdeal.τ).loc Cert.KernelQKIdeal.main_arg3) = m ((c.tc : Thread Cert.KernelQKIdeal.nD Cert.KernelQKIdeal.τ).loc Cert.KernelQKIdeal.main_arg3))
      ∧ r.2.sem = fun _ => 0)

def quiescent_ReferenceQKIdeal [hReferenceQKIdeal : Cert.ReferenceQKIdeal.Facts] : Prop :=
  ∀ (m : (ℓ : Loc Cert.ReferenceQKIdeal.nD Cert.ReferenceQKIdeal.τ Cert.ReferenceQKIdeal.sig) → Buf (Elt Ideal) ℓ) (g : Dev Cert.ReferenceQKIdeal.nD → PrngReg), Pre_ReferenceQKIdeal m →
    θ_run (Cert.ReferenceQKIdeal.defs (F := Ideal)) (onTc (τ := Cert.ReferenceQKIdeal.τ) (Cert.ReferenceQKIdeal.main (F := Ideal))) ⟨m, fun _ => 0, g⟩ (fun r => (∀ c : Dev Cert.ReferenceQKIdeal.nD,
      r.2.mem ((c.tc : Thread Cert.ReferenceQKIdeal.nD Cert.ReferenceQKIdeal.τ).loc Cert.ReferenceQKIdeal.main_arg0) = m ((c.tc : Thread Cert.ReferenceQKIdeal.nD Cert.ReferenceQKIdeal.τ).loc Cert.ReferenceQKIdeal.main_arg0)
      ∧ r.2.mem ((c.tc : Thread Cert.ReferenceQKIdeal.nD Cert.ReferenceQKIdeal.τ).loc Cert.ReferenceQKIdeal.main_arg1) = m ((c.tc : Thread Cert.ReferenceQKIdeal.nD Cert.ReferenceQKIdeal.τ).loc Cert.ReferenceQKIdeal.main_arg1)
      ∧ r.2.mem ((c.tc : Thread Cert.ReferenceQKIdeal.nD Cert.ReferenceQKIdeal.τ).loc Cert.ReferenceQKIdeal.main_arg2) = m ((c.tc : Thread Cert.ReferenceQKIdeal.nD Cert.ReferenceQKIdeal.τ).loc Cert.ReferenceQKIdeal.main_arg2)
      ∧ r.2.mem ((c.tc : Thread Cert.ReferenceQKIdeal.nD Cert.ReferenceQKIdeal.τ).loc Cert.ReferenceQKIdeal.main_arg3) = m ((c.tc : Thread Cert.ReferenceQKIdeal.nD Cert.ReferenceQKIdeal.τ).loc Cert.ReferenceQKIdeal.main_arg3))
      ∧ r.2.sem = fun _ => 0)

def quiescent_KernelV [hKernelV : Cert.KernelV.Facts] : Prop :=
  ∀ (m : (ℓ : Loc Cert.KernelV.nD Cert.KernelV.τ Cert.KernelV.sig) → Buf (Elt Bits) ℓ) (g : Dev Cert.KernelV.nD → PrngReg), Pre_KernelV m →
    θ_run (Cert.KernelV.defs (F := Bits)) (onTc (τ := Cert.KernelV.τ) (Cert.KernelV.main (F := Bits))) ⟨m, fun _ => 0, g⟩ (fun r => (∀ c : Dev Cert.KernelV.nD,
      r.2.mem ((c.tc : Thread Cert.KernelV.nD Cert.KernelV.τ).loc Cert.KernelV.main_arg0) = m ((c.tc : Thread Cert.KernelV.nD Cert.KernelV.τ).loc Cert.KernelV.main_arg0)
      ∧ r.2.mem ((c.tc : Thread Cert.KernelV.nD Cert.KernelV.τ).loc Cert.KernelV.main_arg1) = m ((c.tc : Thread Cert.KernelV.nD Cert.KernelV.τ).loc Cert.KernelV.main_arg1))
      ∧ r.2.sem = fun _ => 0)

def quiescent_KernelVIdeal [hKernelVIdeal : Cert.KernelVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg), Pre_KernelVIdeal m →
    θ_run (Cert.KernelVIdeal.defs (F := Ideal)) (onTc (τ := Cert.KernelVIdeal.τ) (Cert.KernelVIdeal.main (F := Ideal))) ⟨m, fun _ => 0, g⟩ (fun r => (∀ c : Dev Cert.KernelVIdeal.nD,
      r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
      ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ r.2.sem = fun _ => 0)

def quiescent_ReferenceVIdeal [hReferenceVIdeal : Cert.ReferenceVIdeal.Facts] : Prop :=
  ∀ (m : (ℓ : Loc Cert.ReferenceVIdeal.nD Cert.ReferenceVIdeal.τ Cert.ReferenceVIdeal.sig) → Buf (Elt Ideal) ℓ) (g : Dev Cert.ReferenceVIdeal.nD → PrngReg), Pre_ReferenceVIdeal m →
    θ_run (Cert.ReferenceVIdeal.defs (F := Ideal)) (onTc (τ := Cert.ReferenceVIdeal.τ) (Cert.ReferenceVIdeal.main (F := Ideal))) ⟨m, fun _ => 0, g⟩ (fun r => (∀ c : Dev Cert.ReferenceVIdeal.nD,
      r.2.mem ((c.tc : Thread Cert.ReferenceVIdeal.nD Cert.ReferenceVIdeal.τ).loc Cert.ReferenceVIdeal.main_arg0) = m ((c.tc : Thread Cert.ReferenceVIdeal.nD Cert.ReferenceVIdeal.τ).loc Cert.ReferenceVIdeal.main_arg0)
      ∧ r.2.mem ((c.tc : Thread Cert.ReferenceVIdeal.nD Cert.ReferenceVIdeal.τ).loc Cert.ReferenceVIdeal.main_arg1) = m ((c.tc : Thread Cert.ReferenceVIdeal.nD Cert.ReferenceVIdeal.τ).loc Cert.ReferenceVIdeal.main_arg1))
      ∧ r.2.sem = fun _ => 0)

def quiescent_KernelHgrn [hKernelHgrn : Cert.KernelHgrn.Facts] : Prop :=
  ∀ (m : (ℓ : Loc Cert.KernelHgrn.nD Cert.KernelHgrn.τ Cert.KernelHgrn.sig) → Buf (Elt Bits) ℓ) (g : Dev Cert.KernelHgrn.nD → PrngReg), Pre_KernelHgrn m →
    θ_run (Cert.KernelHgrn.defs (F := Bits)) (onTc (τ := Cert.KernelHgrn.τ) (Cert.KernelHgrn.main (F := Bits))) ⟨m, fun _ => 0, g⟩ (fun r => (∀ c : Dev Cert.KernelHgrn.nD,
      r.2.mem ((c.tc : Thread Cert.KernelHgrn.nD Cert.KernelHgrn.τ).loc Cert.KernelHgrn.main_arg0) = m ((c.tc : Thread Cert.KernelHgrn.nD Cert.KernelHgrn.τ).loc Cert.KernelHgrn.main_arg0)
      ∧ r.2.mem ((c.tc : Thread Cert.KernelHgrn.nD Cert.KernelHgrn.τ).loc Cert.KernelHgrn.main_arg1) = m ((c.tc : Thread Cert.KernelHgrn.nD Cert.KernelHgrn.τ).loc Cert.KernelHgrn.main_arg1)
      ∧ r.2.mem ((c.tc : Thread Cert.KernelHgrn.nD Cert.KernelHgrn.τ).loc Cert.KernelHgrn.main_arg2) = m ((c.tc : Thread Cert.KernelHgrn.nD Cert.KernelHgrn.τ).loc Cert.KernelHgrn.main_arg2)
      ∧ r.2.mem ((c.tc : Thread Cert.KernelHgrn.nD Cert.KernelHgrn.τ).loc Cert.KernelHgrn.main_arg3) = m ((c.tc : Thread Cert.KernelHgrn.nD Cert.KernelHgrn.τ).loc Cert.KernelHgrn.main_arg3)
      ∧ r.2.mem ((c.tc : Thread Cert.KernelHgrn.nD Cert.KernelHgrn.τ).loc Cert.KernelHgrn.main_arg4) = m ((c.tc : Thread Cert.KernelHgrn.nD Cert.KernelHgrn.τ).loc Cert.KernelHgrn.main_arg4))
      ∧ r.2.sem = fun _ => 0)

def quiescent_KernelHgrnIdeal [hKernelHgrnIdeal : Cert.KernelHgrnIdeal.Facts] : Prop :=
  ∀ (m : (ℓ : Loc Cert.KernelHgrnIdeal.nD Cert.KernelHgrnIdeal.τ Cert.KernelHgrnIdeal.sig) → Buf (Elt Ideal) ℓ) (g : Dev Cert.KernelHgrnIdeal.nD → PrngReg), Pre_KernelHgrnIdeal m →
    θ_run (Cert.KernelHgrnIdeal.defs (F := Ideal)) (onTc (τ := Cert.KernelHgrnIdeal.τ) (Cert.KernelHgrnIdeal.main (F := Ideal))) ⟨m, fun _ => 0, g⟩ (fun r => (∀ c : Dev Cert.KernelHgrnIdeal.nD,
      r.2.mem ((c.tc : Thread Cert.KernelHgrnIdeal.nD Cert.KernelHgrnIdeal.τ).loc Cert.KernelHgrnIdeal.main_arg0) = m ((c.tc : Thread Cert.KernelHgrnIdeal.nD Cert.KernelHgrnIdeal.τ).loc Cert.KernelHgrnIdeal.main_arg0)
      ∧ r.2.mem ((c.tc : Thread Cert.KernelHgrnIdeal.nD Cert.KernelHgrnIdeal.τ).loc Cert.KernelHgrnIdeal.main_arg1) = m ((c.tc : Thread Cert.KernelHgrnIdeal.nD Cert.KernelHgrnIdeal.τ).loc Cert.KernelHgrnIdeal.main_arg1)
      ∧ r.2.mem ((c.tc : Thread Cert.KernelHgrnIdeal.nD Cert.KernelHgrnIdeal.τ).loc Cert.KernelHgrnIdeal.main_arg2) = m ((c.tc : Thread Cert.KernelHgrnIdeal.nD Cert.KernelHgrnIdeal.τ).loc Cert.KernelHgrnIdeal.main_arg2)
      ∧ r.2.mem ((c.tc : Thread Cert.KernelHgrnIdeal.nD Cert.KernelHgrnIdeal.τ).loc Cert.KernelHgrnIdeal.main_arg3) = m ((c.tc : Thread Cert.KernelHgrnIdeal.nD Cert.KernelHgrnIdeal.τ).loc Cert.KernelHgrnIdeal.main_arg3)
      ∧ r.2.mem ((c.tc : Thread Cert.KernelHgrnIdeal.nD Cert.KernelHgrnIdeal.τ).loc Cert.KernelHgrnIdeal.main_arg4) = m ((c.tc : Thread Cert.KernelHgrnIdeal.nD Cert.KernelHgrnIdeal.τ).loc Cert.KernelHgrnIdeal.main_arg4))
      ∧ r.2.sem = fun _ => 0)

def quiescent_ReferenceHgrnIdeal [hReferenceHgrnIdeal : Cert.ReferenceHgrnIdeal.Facts] : Prop :=
  ∀ (m : (ℓ : Loc Cert.ReferenceHgrnIdeal.nD Cert.ReferenceHgrnIdeal.τ Cert.ReferenceHgrnIdeal.sig) → Buf (Elt Ideal) ℓ) (g : Dev Cert.ReferenceHgrnIdeal.nD → PrngReg), Pre_ReferenceHgrnIdeal m →
    θ_run (Cert.ReferenceHgrnIdeal.defs (F := Ideal)) (onTc (τ := Cert.ReferenceHgrnIdeal.τ) (Cert.ReferenceHgrnIdeal.main (F := Ideal))) ⟨m, fun _ => 0, g⟩ (fun r => (∀ c : Dev Cert.ReferenceHgrnIdeal.nD,
      r.2.mem ((c.tc : Thread Cert.ReferenceHgrnIdeal.nD Cert.ReferenceHgrnIdeal.τ).loc Cert.ReferenceHgrnIdeal.main_arg0) = m ((c.tc : Thread Cert.ReferenceHgrnIdeal.nD Cert.ReferenceHgrnIdeal.τ).loc Cert.ReferenceHgrnIdeal.main_arg0)
      ∧ r.2.mem ((c.tc : Thread Cert.ReferenceHgrnIdeal.nD Cert.ReferenceHgrnIdeal.τ).loc Cert.ReferenceHgrnIdeal.main_arg1) = m ((c.tc : Thread Cert.ReferenceHgrnIdeal.nD Cert.ReferenceHgrnIdeal.τ).loc Cert.ReferenceHgrnIdeal.main_arg1)
      ∧ r.2.mem ((c.tc : Thread Cert.ReferenceHgrnIdeal.nD Cert.ReferenceHgrnIdeal.τ).loc Cert.ReferenceHgrnIdeal.main_arg2) = m ((c.tc : Thread Cert.ReferenceHgrnIdeal.nD Cert.ReferenceHgrnIdeal.τ).loc Cert.ReferenceHgrnIdeal.main_arg2)
      ∧ r.2.mem ((c.tc : Thread Cert.ReferenceHgrnIdeal.nD Cert.ReferenceHgrnIdeal.τ).loc Cert.ReferenceHgrnIdeal.main_arg3) = m ((c.tc : Thread Cert.ReferenceHgrnIdeal.nD Cert.ReferenceHgrnIdeal.τ).loc Cert.ReferenceHgrnIdeal.main_arg3)
      ∧ r.2.mem ((c.tc : Thread Cert.ReferenceHgrnIdeal.nD Cert.ReferenceHgrnIdeal.τ).loc Cert.ReferenceHgrnIdeal.main_arg4) = m ((c.tc : Thread Cert.ReferenceHgrnIdeal.nD Cert.ReferenceHgrnIdeal.τ).loc Cert.ReferenceHgrnIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_KernelAttnIdeal_pre_finite [hKernelAttnIdeal : Cert.KernelAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_ReferenceAttnIdeal_pre_finite [hReferenceAttnIdeal : Cert.ReferenceAttnIdeal.Facts] [hPre_finite : Cert.Pre_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def preserves_KernelQK_KernelQKIdeal : Prop :=
  True

def algebraic_KernelQKIdeal_ReferenceQKIdeal [hKernelQKIdeal : Cert.KernelQKIdeal.Facts] [hReferenceQKIdeal : Cert.ReferenceQKIdeal.Facts] : Prop :=
  ∀ (m : (ℓ : Loc Cert.KernelQKIdeal.nD Cert.KernelQKIdeal.τ Cert.KernelQKIdeal.sig) → Buf (Elt Ideal) ℓ) (g : Dev Cert.KernelQKIdeal.nD → PrngReg)
    (m' : (ℓ : Loc Cert.ReferenceQKIdeal.nD Cert.ReferenceQKIdeal.τ Cert.ReferenceQKIdeal.sig) → Buf (Elt Ideal) ℓ) (g' : Dev Cert.ReferenceQKIdeal.nD → PrngReg), Pre_KernelQKIdeal m →
    (∀ c : Dev Cert.KernelQKIdeal.nD,
      m' ((c.tc : Thread Cert.ReferenceQKIdeal.nD Cert.ReferenceQKIdeal.τ).loc Cert.ReferenceQKIdeal.main_arg0) = m ((c.tc : Thread Cert.KernelQKIdeal.nD Cert.KernelQKIdeal.τ).loc Cert.KernelQKIdeal.main_arg0)
      ∧ m' ((c.tc : Thread Cert.ReferenceQKIdeal.nD Cert.ReferenceQKIdeal.τ).loc Cert.ReferenceQKIdeal.main_arg1) = m ((c.tc : Thread Cert.KernelQKIdeal.nD Cert.KernelQKIdeal.τ).loc Cert.KernelQKIdeal.main_arg1)
      ∧ m' ((c.tc : Thread Cert.ReferenceQKIdeal.nD Cert.ReferenceQKIdeal.τ).loc Cert.ReferenceQKIdeal.main_arg2) = m ((c.tc : Thread Cert.KernelQKIdeal.nD Cert.KernelQKIdeal.τ).loc Cert.KernelQKIdeal.main_arg2)
      ∧ m' ((c.tc : Thread Cert.ReferenceQKIdeal.nD Cert.ReferenceQKIdeal.τ).loc Cert.ReferenceQKIdeal.main_arg3) = m ((c.tc : Thread Cert.KernelQKIdeal.nD Cert.KernelQKIdeal.τ).loc Cert.KernelQKIdeal.main_arg3)) →
    ∃ (v0 : (c : Dev Cert.KernelQKIdeal.nD) → Buf (Elt Ideal) ((c.tc : Thread Cert.KernelQKIdeal.nD Cert.KernelQKIdeal.τ).loc Cert.KernelQKIdeal.main_v8)),
      θ_run (Cert.KernelQKIdeal.defs (F := Ideal)) (onTc (τ := Cert.KernelQKIdeal.τ) (Cert.KernelQKIdeal.main (F := Ideal))) ⟨m, fun _ => 0, g⟩ (fun r => ∀ c : Dev Cert.KernelQKIdeal.nD,
          r.2.mem ((c.tc : Thread Cert.KernelQKIdeal.nD Cert.KernelQKIdeal.τ).loc Cert.KernelQKIdeal.main_v8) = v0 c
          ∧ r.2.mem ((c.tc : Thread Cert.KernelQKIdeal.nD Cert.KernelQKIdeal.τ).loc Cert.KernelQKIdeal.main_arg0) = m ((c.tc : Thread Cert.KernelQKIdeal.nD Cert.KernelQKIdeal.τ).loc Cert.KernelQKIdeal.main_arg0)
          ∧ r.2.mem ((c.tc : Thread Cert.KernelQKIdeal.nD Cert.KernelQKIdeal.τ).loc Cert.KernelQKIdeal.main_arg1) = m ((c.tc : Thread Cert.KernelQKIdeal.nD Cert.KernelQKIdeal.τ).loc Cert.KernelQKIdeal.main_arg1)
          ∧ r.2.mem ((c.tc : Thread Cert.KernelQKIdeal.nD Cert.KernelQKIdeal.τ).loc Cert.KernelQKIdeal.main_arg2) = m ((c.tc : Thread Cert.KernelQKIdeal.nD Cert.KernelQKIdeal.τ).loc Cert.KernelQKIdeal.main_arg2)
          ∧ r.2.mem ((c.tc : Thread Cert.KernelQKIdeal.nD Cert.KernelQKIdeal.τ).loc Cert.KernelQKIdeal.main_arg3) = m ((c.tc : Thread Cert.KernelQKIdeal.nD Cert.KernelQKIdeal.τ).loc Cert.KernelQKIdeal.main_arg3))
      ∧ θ_run (Cert.ReferenceQKIdeal.defs (F := Ideal)) (onTc (τ := Cert.ReferenceQKIdeal.τ) (Cert.ReferenceQKIdeal.main (F := Ideal))) ⟨m', fun _ => 0, g'⟩ (fun r => ∀ c : Dev Cert.ReferenceQKIdeal.nD,
          r.2.mem ((c.tc : Thread Cert.ReferenceQKIdeal.nD Cert.ReferenceQKIdeal.τ).loc Cert.ReferenceQKIdeal.main_v40) = v0 c
          ∧ r.2.mem ((c.tc : Thread Cert.ReferenceQKIdeal.nD Cert.ReferenceQKIdeal.τ).loc Cert.ReferenceQKIdeal.main_arg0) = m' ((c.tc : Thread Cert.ReferenceQKIdeal.nD Cert.ReferenceQKIdeal.τ).loc Cert.ReferenceQKIdeal.main_arg0)
          ∧ r.2.mem ((c.tc : Thread Cert.ReferenceQKIdeal.nD Cert.ReferenceQKIdeal.τ).loc Cert.ReferenceQKIdeal.main_arg1) = m' ((c.tc : Thread Cert.ReferenceQKIdeal.nD Cert.ReferenceQKIdeal.τ).loc Cert.ReferenceQKIdeal.main_arg1)
          ∧ r.2.mem ((c.tc : Thread Cert.ReferenceQKIdeal.nD Cert.ReferenceQKIdeal.τ).loc Cert.ReferenceQKIdeal.main_arg2) = m' ((c.tc : Thread Cert.ReferenceQKIdeal.nD Cert.ReferenceQKIdeal.τ).loc Cert.ReferenceQKIdeal.main_arg2)
          ∧ r.2.mem ((c.tc : Thread Cert.ReferenceQKIdeal.nD Cert.ReferenceQKIdeal.τ).loc Cert.ReferenceQKIdeal.main_arg3) = m' ((c.tc : Thread Cert.ReferenceQKIdeal.nD Cert.ReferenceQKIdeal.τ).loc Cert.ReferenceQKIdeal.main_arg3))

def preserves_KernelV_KernelVIdeal : Prop :=
  True

def algebraic_KernelVIdeal_ReferenceVIdeal [hKernelVIdeal : Cert.KernelVIdeal.Facts] [hReferenceVIdeal : Cert.ReferenceVIdeal.Facts] : Prop :=
  ∀ (m : (ℓ : Loc Cert.KernelVIdeal.nD Cert.KernelVIdeal.τ Cert.KernelVIdeal.sig) → Buf (Elt Ideal) ℓ) (g : Dev Cert.KernelVIdeal.nD → PrngReg)
    (m' : (ℓ : Loc Cert.ReferenceVIdeal.nD Cert.ReferenceVIdeal.τ Cert.ReferenceVIdeal.sig) → Buf (Elt Ideal) ℓ) (g' : Dev Cert.ReferenceVIdeal.nD → PrngReg), Pre_KernelVIdeal m →
    (∀ c : Dev Cert.KernelVIdeal.nD,
      m' ((c.tc : Thread Cert.ReferenceVIdeal.nD Cert.ReferenceVIdeal.τ).loc Cert.ReferenceVIdeal.main_arg0) = m ((c.tc : Thread Cert.KernelVIdeal.nD Cert.KernelVIdeal.τ).loc Cert.KernelVIdeal.main_arg0)
      ∧ m' ((c.tc : Thread Cert.ReferenceVIdeal.nD Cert.ReferenceVIdeal.τ).loc Cert.ReferenceVIdeal.main_arg1) = m ((c.tc : Thread Cert.KernelVIdeal.nD Cert.KernelVIdeal.τ).loc Cert.KernelVIdeal.main_arg1)) →
    ∃ (v0 : (c : Dev Cert.KernelVIdeal.nD) → Buf (Elt Ideal) ((c.tc : Thread Cert.KernelVIdeal.nD Cert.KernelVIdeal.τ).loc Cert.KernelVIdeal.main_v1)),
      θ_run (Cert.KernelVIdeal.defs (F := Ideal)) (onTc (τ := Cert.KernelVIdeal.τ) (Cert.KernelVIdeal.main (F := Ideal))) ⟨m, fun _ => 0, g⟩ (fun r => ∀ c : Dev Cert.KernelVIdeal.nD,
          r.2.mem ((c.tc : Thread Cert.KernelVIdeal.nD Cert.KernelVIdeal.τ).loc Cert.KernelVIdeal.main_v1) = v0 c
          ∧ r.2.mem ((c.tc : Thread Cert.KernelVIdeal.nD Cert.KernelVIdeal.τ).loc Cert.KernelVIdeal.main_arg0) = m ((c.tc : Thread Cert.KernelVIdeal.nD Cert.KernelVIdeal.τ).loc Cert.KernelVIdeal.main_arg0)
          ∧ r.2.mem ((c.tc : Thread Cert.KernelVIdeal.nD Cert.KernelVIdeal.τ).loc Cert.KernelVIdeal.main_arg1) = m ((c.tc : Thread Cert.KernelVIdeal.nD Cert.KernelVIdeal.τ).loc Cert.KernelVIdeal.main_arg1))
      ∧ θ_run (Cert.ReferenceVIdeal.defs (F := Ideal)) (onTc (τ := Cert.ReferenceVIdeal.τ) (Cert.ReferenceVIdeal.main (F := Ideal))) ⟨m', fun _ => 0, g'⟩ (fun r => ∀ c : Dev Cert.ReferenceVIdeal.nD,
          r.2.mem ((c.tc : Thread Cert.ReferenceVIdeal.nD Cert.ReferenceVIdeal.τ).loc Cert.ReferenceVIdeal.main_v5) = v0 c
          ∧ r.2.mem ((c.tc : Thread Cert.ReferenceVIdeal.nD Cert.ReferenceVIdeal.τ).loc Cert.ReferenceVIdeal.main_arg0) = m' ((c.tc : Thread Cert.ReferenceVIdeal.nD Cert.ReferenceVIdeal.τ).loc Cert.ReferenceVIdeal.main_arg0)
          ∧ r.2.mem ((c.tc : Thread Cert.ReferenceVIdeal.nD Cert.ReferenceVIdeal.τ).loc Cert.ReferenceVIdeal.main_arg1) = m' ((c.tc : Thread Cert.ReferenceVIdeal.nD Cert.ReferenceVIdeal.τ).loc Cert.ReferenceVIdeal.main_arg1))

def preserves_KernelHgrn_KernelHgrnIdeal : Prop :=
  True

def algebraic_KernelHgrnIdeal_ReferenceHgrnIdeal [hKernelHgrnIdeal : Cert.KernelHgrnIdeal.Facts] [hReferenceHgrnIdeal : Cert.ReferenceHgrnIdeal.Facts] : Prop :=
  ∀ (m : (ℓ : Loc Cert.KernelHgrnIdeal.nD Cert.KernelHgrnIdeal.τ Cert.KernelHgrnIdeal.sig) → Buf (Elt Ideal) ℓ) (g : Dev Cert.KernelHgrnIdeal.nD → PrngReg)
    (m' : (ℓ : Loc Cert.ReferenceHgrnIdeal.nD Cert.ReferenceHgrnIdeal.τ Cert.ReferenceHgrnIdeal.sig) → Buf (Elt Ideal) ℓ) (g' : Dev Cert.ReferenceHgrnIdeal.nD → PrngReg), Pre_KernelHgrnIdeal m →
    (∀ c : Dev Cert.KernelHgrnIdeal.nD,
      m' ((c.tc : Thread Cert.ReferenceHgrnIdeal.nD Cert.ReferenceHgrnIdeal.τ).loc Cert.ReferenceHgrnIdeal.main_arg0) = m ((c.tc : Thread Cert.KernelHgrnIdeal.nD Cert.KernelHgrnIdeal.τ).loc Cert.KernelHgrnIdeal.main_arg0)
      ∧ m' ((c.tc : Thread Cert.ReferenceHgrnIdeal.nD Cert.ReferenceHgrnIdeal.τ).loc Cert.ReferenceHgrnIdeal.main_arg1) = m ((c.tc : Thread Cert.KernelHgrnIdeal.nD Cert.KernelHgrnIdeal.τ).loc Cert.KernelHgrnIdeal.main_arg1)
      ∧ m' ((c.tc : Thread Cert.ReferenceHgrnIdeal.nD Cert.ReferenceHgrnIdeal.τ).loc Cert.ReferenceHgrnIdeal.main_arg2) = m ((c.tc : Thread Cert.KernelHgrnIdeal.nD Cert.KernelHgrnIdeal.τ).loc Cert.KernelHgrnIdeal.main_arg2)
      ∧ m' ((c.tc : Thread Cert.ReferenceHgrnIdeal.nD Cert.ReferenceHgrnIdeal.τ).loc Cert.ReferenceHgrnIdeal.main_arg3) = m ((c.tc : Thread Cert.KernelHgrnIdeal.nD Cert.KernelHgrnIdeal.τ).loc Cert.KernelHgrnIdeal.main_arg3)
      ∧ m' ((c.tc : Thread Cert.ReferenceHgrnIdeal.nD Cert.ReferenceHgrnIdeal.τ).loc Cert.ReferenceHgrnIdeal.main_arg4) = m ((c.tc : Thread Cert.KernelHgrnIdeal.nD Cert.KernelHgrnIdeal.τ).loc Cert.KernelHgrnIdeal.main_arg4)) →
    ∃ (v0 : (c : Dev Cert.KernelHgrnIdeal.nD) → Buf (Elt Ideal) ((c.tc : Thread Cert.KernelHgrnIdeal.nD Cert.KernelHgrnIdeal.τ).loc Cert.KernelHgrnIdeal.main_v4_0)) (v1 : (c : Dev Cert.KernelHgrnIdeal.nD) → Buf (Elt Ideal) ((c.tc : Thread Cert.KernelHgrnIdeal.nD Cert.KernelHgrnIdeal.τ).loc Cert.KernelHgrnIdeal.main_v4_1)),
      θ_run (Cert.KernelHgrnIdeal.defs (F := Ideal)) (onTc (τ := Cert.KernelHgrnIdeal.τ) (Cert.KernelHgrnIdeal.main (F := Ideal))) ⟨m, fun _ => 0, g⟩ (fun r => ∀ c : Dev Cert.KernelHgrnIdeal.nD,
          r.2.mem ((c.tc : Thread Cert.KernelHgrnIdeal.nD Cert.KernelHgrnIdeal.τ).loc Cert.KernelHgrnIdeal.main_v4_0) = v0 c
          ∧ r.2.mem ((c.tc : Thread Cert.KernelHgrnIdeal.nD Cert.KernelHgrnIdeal.τ).loc Cert.KernelHgrnIdeal.main_v4_1) = v1 c
          ∧ r.2.mem ((c.tc : Thread Cert.KernelHgrnIdeal.nD Cert.KernelHgrnIdeal.τ).loc Cert.KernelHgrnIdeal.main_arg0) = m ((c.tc : Thread Cert.KernelHgrnIdeal.nD Cert.KernelHgrnIdeal.τ).loc Cert.KernelHgrnIdeal.main_arg0)
          ∧ r.2.mem ((c.tc : Thread Cert.KernelHgrnIdeal.nD Cert.KernelHgrnIdeal.τ).loc Cert.KernelHgrnIdeal.main_arg1) = m ((c.tc : Thread Cert.KernelHgrnIdeal.nD Cert.KernelHgrnIdeal.τ).loc Cert.KernelHgrnIdeal.main_arg1)
          ∧ r.2.mem ((c.tc : Thread Cert.KernelHgrnIdeal.nD Cert.KernelHgrnIdeal.τ).loc Cert.KernelHgrnIdeal.main_arg2) = m ((c.tc : Thread Cert.KernelHgrnIdeal.nD Cert.KernelHgrnIdeal.τ).loc Cert.KernelHgrnIdeal.main_arg2)
          ∧ r.2.mem ((c.tc : Thread Cert.KernelHgrnIdeal.nD Cert.KernelHgrnIdeal.τ).loc Cert.KernelHgrnIdeal.main_arg3) = m ((c.tc : Thread Cert.KernelHgrnIdeal.nD Cert.KernelHgrnIdeal.τ).loc Cert.KernelHgrnIdeal.main_arg3)
          ∧ r.2.mem ((c.tc : Thread Cert.KernelHgrnIdeal.nD Cert.KernelHgrnIdeal.τ).loc Cert.KernelHgrnIdeal.main_arg4) = m ((c.tc : Thread Cert.KernelHgrnIdeal.nD Cert.KernelHgrnIdeal.τ).loc Cert.KernelHgrnIdeal.main_arg4))
      ∧ θ_run (Cert.ReferenceHgrnIdeal.defs (F := Ideal)) (onTc (τ := Cert.ReferenceHgrnIdeal.τ) (Cert.ReferenceHgrnIdeal.main (F := Ideal))) ⟨m', fun _ => 0, g'⟩ (fun r => ∀ c : Dev Cert.ReferenceHgrnIdeal.nD,
          r.2.mem ((c.tc : Thread Cert.ReferenceHgrnIdeal.nD Cert.ReferenceHgrnIdeal.τ).loc Cert.ReferenceHgrnIdeal.main_v15) = v0 c
          ∧ r.2.mem ((c.tc : Thread Cert.ReferenceHgrnIdeal.nD Cert.ReferenceHgrnIdeal.τ).loc Cert.ReferenceHgrnIdeal.main_v16) = v1 c
          ∧ r.2.mem ((c.tc : Thread Cert.ReferenceHgrnIdeal.nD Cert.ReferenceHgrnIdeal.τ).loc Cert.ReferenceHgrnIdeal.main_arg0) = m' ((c.tc : Thread Cert.ReferenceHgrnIdeal.nD Cert.ReferenceHgrnIdeal.τ).loc Cert.ReferenceHgrnIdeal.main_arg0)
          ∧ r.2.mem ((c.tc : Thread Cert.ReferenceHgrnIdeal.nD Cert.ReferenceHgrnIdeal.τ).loc Cert.ReferenceHgrnIdeal.main_arg1) = m' ((c.tc : Thread Cert.ReferenceHgrnIdeal.nD Cert.ReferenceHgrnIdeal.τ).loc Cert.ReferenceHgrnIdeal.main_arg1)
          ∧ r.2.mem ((c.tc : Thread Cert.ReferenceHgrnIdeal.nD Cert.ReferenceHgrnIdeal.τ).loc Cert.ReferenceHgrnIdeal.main_arg2) = m' ((c.tc : Thread Cert.ReferenceHgrnIdeal.nD Cert.ReferenceHgrnIdeal.τ).loc Cert.ReferenceHgrnIdeal.main_arg2)
          ∧ r.2.mem ((c.tc : Thread Cert.ReferenceHgrnIdeal.nD Cert.ReferenceHgrnIdeal.τ).loc Cert.ReferenceHgrnIdeal.main_arg3) = m' ((c.tc : Thread Cert.ReferenceHgrnIdeal.nD Cert.ReferenceHgrnIdeal.τ).loc Cert.ReferenceHgrnIdeal.main_arg3)
          ∧ r.2.mem ((c.tc : Thread Cert.ReferenceHgrnIdeal.nD Cert.ReferenceHgrnIdeal.τ).loc Cert.ReferenceHgrnIdeal.main_arg4) = m' ((c.tc : Thread Cert.ReferenceHgrnIdeal.nD Cert.ReferenceHgrnIdeal.τ).loc Cert.ReferenceHgrnIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v7) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelAttn_KernelAttnIdeal : Prop :=
  IdealRules.named_const.Statement Cert.KernelAttnIdeal.κ "masked" .f32 0xF149F2CA#32 ⊥

def algebraic_KernelAttnIdeal_ReferenceAttnIdeal_pre_finite [hKernelAttnIdeal : Cert.KernelAttnIdeal.Facts] [hReferenceAttnIdeal : Cert.ReferenceAttnIdeal.Facts] [hPre_finite : Cert.Pre_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)) →
    ∃ (v0 : (c : Dev Cert.KernelAttnIdeal.nD) → Buf (Elt Ideal) ((c.tc : Thread Cert.KernelAttnIdeal.nD Cert.KernelAttnIdeal.τ).loc Cert.KernelAttnIdeal.main_v3_0)) (v1 : (c : Dev Cert.KernelAttnIdeal.nD) → Buf (Elt Ideal) ((c.tc : Thread Cert.KernelAttnIdeal.nD Cert.KernelAttnIdeal.τ).loc Cert.KernelAttnIdeal.main_v3_1)) (v2 : (c : Dev Cert.KernelAttnIdeal.nD) → Buf (Elt Ideal) ((c.tc : Thread Cert.KernelAttnIdeal.nD Cert.KernelAttnIdeal.τ).loc Cert.KernelAttnIdeal.main_v3_2)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v3_0) = v0 c
          ∧ r.2.mem ((c.tc : Thread Cert.KernelAttnIdeal.nD Cert.KernelAttnIdeal.τ).loc Cert.KernelAttnIdeal.main_v3_1) = v1 c
          ∧ r.2.mem ((c.tc : Thread Cert.KernelAttnIdeal.nD Cert.KernelAttnIdeal.τ).loc Cert.KernelAttnIdeal.main_v3_2) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v45) = v0 c
          ∧ r.2.mem ((c.tc : Thread Cert.ReferenceAttnIdeal.nD Cert.ReferenceAttnIdeal.τ).loc Cert.ReferenceAttnIdeal.main_v47) = v1 c
          ∧ r.2.mem ((c.tc : Thread Cert.ReferenceAttnIdeal.nD Cert.ReferenceAttnIdeal.τ).loc Cert.ReferenceAttnIdeal.main_v49) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def Claim : Prop :=
  ∃ (hKernelQK : Cert.KernelQK.Facts) (hKernelQKIdeal : Cert.KernelQKIdeal.Facts) (hReferenceQKIdeal : Cert.ReferenceQKIdeal.Facts) (hKernelV : Cert.KernelV.Facts) (hKernelVIdeal : Cert.KernelVIdeal.Facts) (hReferenceVIdeal : Cert.ReferenceVIdeal.Facts) (hKernelHgrn : Cert.KernelHgrn.Facts) (hKernelHgrnIdeal : Cert.KernelHgrnIdeal.Facts) (hReferenceHgrnIdeal : Cert.ReferenceHgrnIdeal.Facts) (hKernelOut : Cert.KernelOut.Facts) (hKernelOutIdeal : Cert.KernelOutIdeal.Facts) (hReferenceOutIdeal : Cert.ReferenceOutIdeal.Facts) (hKernelAttn : Cert.KernelAttn.Facts) (hKernelAttnIdeal : Cert.KernelAttnIdeal.Facts) (hReferenceAttnIdeal : Cert.ReferenceAttnIdeal.Facts) (hKernelDown : Cert.KernelDown.Facts) (hKernelDownIdeal : Cert.KernelDownIdeal.Facts) (hReferenceDownIdeal : Cert.ReferenceDownIdeal.Facts) (hPre_finite : Cert.Pre_finite.Facts),
    quiescent_KernelQK (hKernelQK := hKernelQK)
    ∧ quiescent_KernelQKIdeal (hKernelQKIdeal := hKernelQKIdeal)
    ∧ quiescent_ReferenceQKIdeal (hReferenceQKIdeal := hReferenceQKIdeal)
    ∧ quiescent_KernelV (hKernelV := hKernelV)
    ∧ quiescent_KernelVIdeal (hKernelVIdeal := hKernelVIdeal)
    ∧ quiescent_ReferenceVIdeal (hReferenceVIdeal := hReferenceVIdeal)
    ∧ quiescent_KernelHgrn (hKernelHgrn := hKernelHgrn)
    ∧ quiescent_KernelHgrnIdeal (hKernelHgrnIdeal := hKernelHgrnIdeal)
    ∧ quiescent_ReferenceHgrnIdeal (hReferenceHgrnIdeal := hReferenceHgrnIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelAttn (hKernelAttn := hKernelAttn)
    ∧ quiescent_KernelAttnIdeal (hKernelAttnIdeal := hKernelAttnIdeal)
    ∧ quiescent_KernelAttnIdeal_pre_finite (hKernelAttnIdeal := hKernelAttnIdeal) (hPre_finite := hPre_finite)
    ∧ quiescent_ReferenceAttnIdeal (hReferenceAttnIdeal := hReferenceAttnIdeal)
    ∧ quiescent_ReferenceAttnIdeal_pre_finite (hReferenceAttnIdeal := hReferenceAttnIdeal) (hPre_finite := hPre_finite)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ preserves_KernelQK_KernelQKIdeal
    ∧ algebraic_KernelQKIdeal_ReferenceQKIdeal (hKernelQKIdeal := hKernelQKIdeal) (hReferenceQKIdeal := hReferenceQKIdeal)
    ∧ preserves_KernelV_KernelVIdeal
    ∧ algebraic_KernelVIdeal_ReferenceVIdeal (hKernelVIdeal := hKernelVIdeal) (hReferenceVIdeal := hReferenceVIdeal)
    ∧ preserves_KernelHgrn_KernelHgrnIdeal
    ∧ algebraic_KernelHgrnIdeal_ReferenceHgrnIdeal (hKernelHgrnIdeal := hKernelHgrnIdeal) (hReferenceHgrnIdeal := hReferenceHgrnIdeal)
    ∧ preserves_KernelOut_KernelOutIdeal
    ∧ algebraic_KernelOutIdeal_ReferenceOutIdeal (hKernelOutIdeal := hKernelOutIdeal) (hReferenceOutIdeal := hReferenceOutIdeal)
    ∧ preserves_KernelAttn_KernelAttnIdeal
    ∧ algebraic_KernelAttnIdeal_ReferenceAttnIdeal_pre_finite (hKernelAttnIdeal := hKernelAttnIdeal) (hReferenceAttnIdeal := hReferenceAttnIdeal) (hPre_finite := hPre_finite)
    ∧ preserves_KernelDown_KernelDownIdeal
    ∧ algebraic_KernelDownIdeal_ReferenceDownIdeal (hKernelDownIdeal := hKernelDownIdeal) (hReferenceDownIdeal := hReferenceDownIdeal)
-- ==== Pre_finite.lean ====
abbrev S8192x4096 : Shape := ⟨2, ![8192, 4096]⟩
abbrev S2048x8192 : Shape := ⟨2, ![2048, 8192]⟩
abbrev S8192x16 : Shape := ⟨2, ![8192, 16]⟩
abbrev S1x16384x4096 : Shape := ⟨3, ![1, 16384, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x4096 .bf16) (main_arg1 : FVec F S2048x8192 .bf16) (main_arg2 : FVec F S8192x16 .f32) (main_arg3 : FVec F S1x16384x4096 .f32) (main_arg4 : FVec F S1x16384x4096 .f32) : IVec S_ 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x16 .f32 := Host.absf main_arg2
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  main_v8
-- ==== KernelQK.lean ====
abbrev S8192x4096 : Shape := ⟨2, ![8192, 4096]⟩
abbrev S1x4096x14352 : Shape := ⟨3, ![1, 4096, 14352]⟩
abbrev S1x16x128 : Shape := ⟨3, ![1, 16, 128]⟩
abbrev S1x14352x4096 : Shape := ⟨3, ![1, 14352, 4096]⟩
abbrev S16x128 : Shape := ⟨2, ![16, 128]⟩
abbrev S1x2048 : Shape := ⟨2, ![1, 2048]⟩
abbrev S_ : Shape := ⟨0, ![]⟩
abbrev S1x4096 : Shape := ⟨2, ![1, 4096]⟩
abbrev S1024x4096 : Shape := ⟨2, ![1024, 4096]⟩
abbrev S1x512x4096 : Shape := ⟨3, ![1, 512, 4096]⟩
abbrev S1x512 : Shape := ⟨2, ![1, 512]⟩
abbrev S1024x512 : Shape := ⟨2, ![1024, 512]⟩
abbrev S512x4096 : Shape := ⟨2, ![512, 4096]⟩
abbrev S1024x128 : Shape := ⟨2, ![1024, 128]⟩
abbrev S1024 : Shape := ⟨1, ![1024]⟩
abbrev S1024x1 : Shape := ⟨2, ![1024, 1]⟩
abbrev S1x128 : Shape := ⟨2, ![1, 128]⟩

abbrev nBuf : Space → Nat
  | .hbm => 14
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S1x16x128, .f32⟩
  | .hbm, ⟨3, _⟩ => ⟨S1x16x128, .f32⟩
  | .hbm, ⟨4, _⟩ => ⟨S1x14352x4096, .f32⟩
  | .hbm, ⟨5, _⟩ => ⟨S16x128, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S16x128, .f32⟩
  | .hbm, ⟨11, _⟩ => ⟨S1x2048, .f32⟩
  | .hbm, ⟨12, _⟩ => ⟨S1x4096, .f32⟩
  | .hbm, ⟨13, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQKIdeal.lean ====
abbrev S8192x4096 : Shape := ⟨2, ![8192, 4096]⟩
abbrev S1x4096x14352 : Shape := ⟨3, ![1, 4096, 14352]⟩
abbrev S1x16x128 : Shape := ⟨3, ![1, 16, 128]⟩
abbrev S4096x14352 : Shape := ⟨2, ![4096, 14352]⟩
abbrev S8192x14352 : Shape := ⟨2, ![8192, 14352]⟩
abbrev S8192x2048 : Shape := ⟨2, ![8192, 2048]⟩
abbrev S8192x16x128 : Shape := ⟨3, ![8192, 16, 128]⟩
abbrev S16x128 : Shape := ⟨2, ![16, 128]⟩
abbrev S_ : Shape := ⟨0, ![]⟩
abbrev S8192x16 : Shape := ⟨2, ![8192, 16]⟩
abbrev S8192x16x1 : Shape := ⟨3, ![8192, 16, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S1x16x128, .f32⟩
  | .hbm, ⟨3, _⟩ => ⟨S1x16x128, .f32⟩
  | .hbm, ⟨4, _⟩ => ⟨S8192x4096, .f32⟩
  | .hbm, ⟨5, _⟩ => ⟨S4096x14352, .f32⟩
  | .hbm, ⟨6, _⟩ => ⟨S8192x14352, .f32⟩
  | .hbm, ⟨7, _⟩ => ⟨S8192x2048, .f32⟩
  | .hbm, ⟨8, _⟩ => ⟨S8192x16x128, .f32⟩
  | .hbm, ⟨9, _⟩ => ⟨S8192x2048, .f32⟩
  | .hbm, ⟨10, _⟩ => ⟨S8192x16x128, .f32⟩
  | .hbm, ⟨11, _⟩ => ⟨S16x128, .f32⟩
  | .hbm, ⟨12, _⟩ => ⟨S8192x16x128, .f32⟩
  | .hbm, ⟨13, _⟩ => ⟨S_, .f32⟩
  | .hbm, ⟨14, _⟩ => ⟨S8192x16, .f32⟩
  | .hbm, ⟨15, _⟩ => ⟨S8192x16x1, .f32⟩
  | .hbm, ⟨16, _⟩ => ⟨S_, .f32⟩
  | .hbm, ⟨17, _⟩ => ⟨S8192x16x1, .f32⟩
  | .hbm, ⟨18, _⟩ => ⟨S8192x16x1, .f32⟩
  | .hbm, ⟨19, _⟩ => ⟨S_, .f32⟩
  | .hbm, ⟨20, _⟩ => ⟨S8192x16x1, .f32⟩
  | .hbm, ⟨21, _⟩ => ⟨S8192x16x1, .f32⟩
  | .hbm, ⟨22, _⟩ => ⟨S8192x16x1, .f32⟩
  | .hbm, ⟨23, _⟩ => ⟨S8192x16x128, .f32⟩
  | .hbm, ⟨24, _⟩ => ⟨S8192x16x128, .f32⟩
  | .hbm, ⟨25, _⟩ => ⟨S1x16x128, .f32⟩
  | .hbm, ⟨26, _⟩ => ⟨S8192x16x128, .f32⟩
  | .hbm, ⟨27, _⟩ => ⟨S8192x16x128, .f32⟩
  | .hbm, ⟨28, _⟩ => ⟨S_, .f32⟩
  | .hbm, ⟨29, _⟩ => ⟨S8192x16x128, .f32⟩
  | .hbm, ⟨30, _⟩ => ⟨S8192x16x128, .f32⟩
  | .hbm, ⟨31, _⟩ => ⟨S16x128, .f32⟩
  | .hbm, ⟨32, _⟩ => ⟨S8192x16x128, .f32⟩
  | .hbm, ⟨33, _⟩ => ⟨S_, .f32⟩
  | .hbm, ⟨34, _⟩ => ⟨S8192x16, .f32⟩
  | .hbm, ⟨35, _⟩ => ⟨S8192x16x1, .f32⟩
  | .hbm, ⟨36, _⟩ => ⟨S_, .f32⟩
  | .hbm, ⟨37, _⟩ => ⟨S8192x16x1, .f32⟩
  | .hbm, ⟨38, _⟩ => ⟨S8192x16x1, .f32⟩
  | .hbm, ⟨39, _⟩ => ⟨S_, .f32⟩
  | .hbm, ⟨40, _⟩ => ⟨S8192x16x1, .f32⟩
  | .hbm, ⟨41, _⟩ => ⟨S8192x16x1, .f32⟩
  | .hbm, ⟨42, _⟩ => ⟨S8192x16x1, .f32⟩
  | .hbm, ⟨43, _⟩ => ⟨S8192x16x128, .f32⟩
  | .hbm, ⟨44, _⟩ => ⟨S8192x16x128, .f32⟩
  | .hbm, ⟨45, _⟩ => ⟨S1x16x128, .f32⟩
  | .hbm, ⟨46, _⟩ => ⟨S8192x16x128, .f32⟩
  | .hbm, ⟨47, _⟩ => ⟨S8192x16x128, .f32⟩
  | .hbm, ⟨48, _⟩ => ⟨S8192x2048, .f32⟩
  | .hbm, ⟨49, _⟩ => ⟨S8192x2048, .f32⟩
  | .hbm, ⟨50, _⟩ => ⟨S8192x4096, .f32⟩
  | .hbm, ⟨51, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== KernelV.lean ====
abbrev S8192x4096 : Shape := ⟨2, ![8192, 4096]⟩
abbrev S1x4096x14352 : Shape := ⟨3, ![1, 4096, 14352]⟩
abbrev S1x14352x4096 : Shape := ⟨3, ![1, 14352, 4096]⟩
abbrev S2048x8192 : Shape := ⟨2, ![2048, 8192]⟩
abbrev S1024x4096 : Shape := ⟨2, ![1024, 4096]⟩
abbrev S1x512x4096 : Shape := ⟨3, ![1, 512, 4096]⟩
abbrev S512x1024 : Shape := ⟨2, ![512, 1024]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S1x14352x4096, .f32⟩
  | .hbm, ⟨3, _⟩ => ⟨S2048x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S512x1024, .bf16⟩
  | .local _ .vmem, ⟨5, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c4096_i32 : BitVec 32 := 4096#32
  let arg1 : BitVec 32 := BitVec.ofNat 32 (i 1).val
  let c512_i32 : BitVec 32 := 512#32
  let v0 : BitVec 32 := Scalar.muli arg1 c512_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c4096_i32 : BitVec 32 := 4096#32
  let v1 : BitVec 32 := Scalar.addi c4096_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceVIdeal.lean ====
abbrev S8192x4096 : Shape := ⟨2, ![8192, 4096]⟩
abbrev S1x4096x14352 : Shape := ⟨3, ![1, 4096, 14352]⟩
abbrev S4096x14352 : Shape := ⟨2, ![4096, 14352]⟩
abbrev S8192x14352 : Shape := ⟨2, ![8192, 14352]⟩
abbrev S8192x2048 : Shape := ⟨2, ![8192, 2048]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S8192x4096, .f32⟩
  | .hbm, ⟨3, _⟩ => ⟨S4096x14352, .f32⟩
  | .hbm, ⟨4, _⟩ => ⟨S8192x14352, .f32⟩
  | .hbm, ⟨5, _⟩ => ⟨S8192x2048, .f32⟩
  | .hbm, ⟨6, _⟩ => ⟨S2048x8192, .f32⟩
  | .hbm, ⟨7, _⟩ => ⟨S2048x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelHgrn.lean ====
abbrev S8192x4096 : Shape := ⟨2, ![8192, 4096]⟩
abbrev S1x4096x14352 : Shape := ⟨3, ![1, 4096, 14352]⟩
abbrev S1x4096 : Shape := ⟨2, ![1, 4096]⟩
abbrev S1x4096x24576 : Shape := ⟨3, ![1, 4096, 24576]⟩
abbrev S1x24576 : Shape := ⟨2, ![1, 24576]⟩
abbrev S4096x1 : Shape := ⟨2, ![4096, 1]⟩
abbrev S1x14352x4096 : Shape := ⟨3, ![1, 14352, 4096]⟩
abbrev S24576 : Shape := ⟨1, ![24576]⟩
abbrev S8192x8192 : Shape := ⟨2, ![8192, 8192]⟩
abbrev S1x16384 : Shape := ⟨2, ![1, 16384]⟩
abbrev S1024x4096 : Shape := ⟨2, ![1024, 4096]⟩
abbrev S1x512x4096 : Shape := ⟨3, ![1, 512, 4096]⟩
abbrev S1x4096x128 : Shape := ⟨3, ![1, 4096, 128]⟩
abbrev S1x128 : Shape := ⟨2, ![1, 128]⟩
abbrev S1024x512 : Shape := ⟨2, ![1024, 512]⟩
abbrev S512x4096 : Shape := ⟨2, ![512, 4096]⟩
abbrev S4096x128 : Shape := ⟨2, ![4096, 128]⟩
abbrev S128 : Shape := ⟨1, ![128]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S1x4096, .f32⟩
  | .hbm, ⟨3, _⟩ => ⟨S1x4096x24576, .f32⟩
  | .hbm, ⟨4, _⟩ => ⟨S1x24576, .f32⟩
  | .hbm, ⟨5, _⟩ => ⟨S4096x1, .f32⟩
  | .hbm, ⟨6, _⟩ => ⟨S1x14352x4096, .f32⟩
  | .hbm, ⟨7, _⟩ => ⟨S24576, .f32⟩
  | .hbm, ⟨8, _⟩ => ⟨S1x24576, .f32⟩
  | .hbm, ⟨9, _⟩ => ⟨S8192x8192, .f32⟩
  | .hbm, ⟨10, _⟩ => ⟨S1x16384, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S4096x1, .f32⟩
  | .local _ .vmem, ⟨5, _⟩ => ⟨S1x4096x128, .f32⟩
  | .local _ .vmem, ⟨6, _⟩ => ⟨S1x4096x128, .f32⟩
  | .local _ .vmem, ⟨7, _⟩ => ⟨S1x128, .f32⟩
  | .local _ .vmem, ⟨8, _⟩ => ⟨S1x128, .f32⟩
  | .local _ .vmem, ⟨9, _⟩ => ⟨S1024x512, .f32⟩
  | .local _ .vmem, ⟨10, _⟩ => ⟨S1024x512, .f32⟩
  | .local _ .vmem, ⟨11, _⟩ => ⟨S1x128, .f32⟩
  | .local _ .vmem, ⟨12, _⟩ => ⟨S1x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c6160_i32 : BitVec 32 := 6160#32
  let arg1 : BitVec 32 := BitVec.ofNat 32 (i 1).val
  let c512_i32 : BitVec 32 := 512#32
  let v0 : BitVec 32 := Scalar.muli arg1 c512_i32
  let v1 : BitVec 32 := Scalar.addi c6160_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c6160_i32 : BitVec 32 := 6160#32
  let v1 : BitVec 32 := Scalar.addi c6160_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c64_i32 : BitVec 32 := 64#32
  let v1 : BitVec 32 := Scalar.addi c64_i32 v0
  let v2 : BitVec 32 := Scalar.addi v1 arg1
  let c0_i32 : BitVec 32 := 0#32
  let c0_i32_0 : BitVec 32 := 0#32
  let c0_i32_1 : BitVec 32 := 0#32
  ![c0_i32.toNat, c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c64_i32 : BitVec 32 := 64#32
  let v1 : BitVec 32 := Scalar.addi c64_i32 v0
  let v2 : BitVec 32 := Scalar.addi v1 arg1
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceHgrnIdeal.lean ====
abbrev S8192x4096 : Shape := ⟨2, ![8192, 4096]⟩
abbrev S1x4096x14352 : Shape := ⟨3, ![1, 4096, 14352]⟩
abbrev S1x4096 : Shape := ⟨2, ![1, 4096]⟩
abbrev S1x4096x24576 : Shape := ⟨3, ![1, 4096, 24576]⟩
abbrev S1x24576 : Shape := ⟨2, ![1, 24576]⟩
abbrev S4096x14352 : Shape := ⟨2, ![4096, 14352]⟩
abbrev S8192x14352 : Shape := ⟨2, ![8192, 14352]⟩
abbrev S_ : Shape := ⟨0, ![]⟩
abbrev S4096x24576 : Shape := ⟨2, ![4096, 24576]⟩
abbrev S24576 : Shape := ⟨1, ![24576]⟩
abbrev S8192x8192 : Shape := ⟨2, ![8192, 8192]⟩
abbrev S1x16384 : Shape := ⟨2, ![1, 16384]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x14352, .f32⟩
  | .hbm, ⟨2, _⟩ => ⟨S1x4096, .f32⟩
  | .hbm, ⟨3, _⟩ => ⟨S1x4096x24576, .f32⟩
  | .hbm, ⟨4, _⟩ => ⟨S1x24576, .f32⟩
  | .hbm, ⟨5, _⟩ => ⟨S8192x4096, .f32⟩
  | .hbm, ⟨6, _⟩ => ⟨S4096x14352, .f32⟩
  | .hbm, ⟨7, _⟩ => ⟨S8192x14352, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S_, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S4096x24576, .f32⟩
  | .hbm, ⟨18, _⟩ => ⟨S1x24576, .f32⟩
  | .hbm, ⟨19, _⟩ => ⟨S24576, .f32⟩
  | .hbm, ⟨20, _⟩ => ⟨S1x24576, .f32⟩
  | .hbm, ⟨21, _⟩ => ⟨S1x24576, .f32⟩
  | .hbm, ⟨22, _⟩ => ⟨S8192x8192, .f32⟩
  | .hbm, ⟨23, _⟩ => ⟨S1x16384, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelOut.lean ====
abbrev S8192x2048 : Shape := ⟨2, ![8192, 2048]⟩
abbrev S1x4096x4096 : Shape := ⟨3, ![1, 4096, 4096]⟩
abbrev S8192x4096 : Shape := ⟨2, ![8192, 4096]⟩
abbrev S1x4096 : Shape := ⟨2, ![1, 4096]⟩
abbrev S1024x2048 : Shape := ⟨2, ![1024, 2048]⟩
abbrev S1x2048x512 : Shape := ⟨3, ![1, 2048, 512]⟩
abbrev S1024x512 : Shape := ⟨2, ![1024, 512]⟩
abbrev S1x512 : Shape := ⟨2, ![1, 512]⟩
abbrev S2048x512 : Shape := ⟨2, ![2048, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S1x4096, .f32⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_mult2 (i : grid0.Coords) : BitVec 32 :=
  let arg1 : BitVec 32 := BitVec.ofNat 32 (i 1).val
  let c512_i32 : BitVec 32 := 512#32
  let v0 : BitVec 32 := Scalar.muli arg1 c512_i32
  v0
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v1 : BitVec 32 := v0
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let v1 : BitVec 32 := v0
  let c0_i32 : BitVec 32 := 0#32
  let c2048_i32 : BitVec 32 := 2048#32
  let c0_i32_0 : BitVec 32 := 0#32
  ![c0_i32.toNat, c2048_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceOutIdeal.lean ====
abbrev S8192x2048 : Shape := ⟨2, ![8192, 2048]⟩
abbrev S1x4096x4096 : Shape := ⟨3, ![1, 4096, 4096]⟩
abbrev S8192x4096 : Shape := ⟨2, ![8192, 4096]⟩
abbrev S1x4096 : Shape := ⟨2, ![1, 4096]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S1x4096, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S4096x4096, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== KernelAttn.lean ====
abbrev S8192x4096 : Shape := ⟨2, ![8192, 4096]⟩
abbrev S2048x8192 : Shape := ⟨2, ![2048, 8192]⟩
abbrev S8192x16 : Shape := ⟨2, ![8192, 16]⟩
abbrev S1x16384x4096 : Shape := ⟨3, ![1, 16384, 4096]⟩
abbrev S16x8192 : Shape := ⟨2, ![16, 8192]⟩
abbrev S16x8192x1 : Shape := ⟨3, ![16, 8192, 1]⟩
abbrev S16x8192x128 : Shape := ⟨3, ![16, 8192, 128]⟩
abbrev S8192x2048 : Shape := ⟨2, ![8192, 2048]⟩
abbrev S16384x4096 : Shape := ⟨2, ![16384, 4096]⟩
abbrev S512x128 : Shape := ⟨2, ![512, 128]⟩
abbrev S8192x128 : Shape := ⟨2, ![8192, 128]⟩
abbrev S128x8192 : Shape := ⟨2, ![128, 8192]⟩
abbrev S1x8192x128 : Shape := ⟨3, ![1, 8192, 128]⟩
abbrev S1x64x4096 : Shape := ⟨3, ![1, 64, 4096]⟩
abbrev S64x4096 : Shape := ⟨2, ![64, 4096]⟩
abbrev S512x512 : Shape := ⟨2, ![512, 512]⟩
abbrev S1x512 : Shape := ⟨2, ![1, 512]⟩
abbrev S144x512 : Shape := ⟨2, ![144, 512]⟩
abbrev S1x8x128 : Shape := ⟨3, ![1, 8, 128]⟩
abbrev S8x128 : Shape := ⟨2, ![8, 128]⟩
abbrev S1x128 : Shape := ⟨2, ![1, 128]⟩
abbrev S16x512 : Shape := ⟨2, ![16, 512]⟩
abbrev S1x512x128 : Shape := ⟨3, ![1, 512, 128]⟩
abbrev S512x256 : Shape := ⟨2, ![512, 256]⟩
abbrev S128x512 : Shape := ⟨2, ![128, 512]⟩
abbrev S1x256 : Shape := ⟨2, ![1, 256]⟩
abbrev S256 : Shape := ⟨1, ![256]⟩
abbrev S144x256 : Shape := ⟨2, ![144, 256]⟩

abbrev nBuf : Space → Nat
  | .hbm => 11
  | .vmem => 22
  | .smem => 0
  | _ => 0

abbrev bufTy : (tb : Table) → Fin (tcTables nBuf tb) → BufTy
  | .hbm, ⟨0, _⟩ => ⟨S8192x4096, .bf16⟩
  | .hbm, ⟨1, _⟩ => ⟨S2048x8192, .bf16⟩
  | .hbm, ⟨2, _⟩ => ⟨S8192x16, .f32⟩
  | .hbm, ⟨3, _⟩ => ⟨S1x16384x4096, .f32⟩
  | .hbm, ⟨4, _⟩ => ⟨S1x16384x4096, .f32⟩
  | .hbm, ⟨5, _⟩ => ⟨S16x8192, .f32⟩
  | .hbm, ⟨6, _⟩ => ⟨S16x8192x1, .f32⟩
  | .hbm, ⟨7, _⟩ => ⟨S16x8192x128, .f32⟩
  | .hbm, ⟨8, _⟩ => ⟨S8192x2048, .bf16⟩
  | .hbm, ⟨9, _⟩ => ⟨S16384x4096, .bf16⟩
  | .hbm, ⟨10, _⟩ => ⟨S16384x4096, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S128x8192, .bf16⟩
  | .local _ .vmem, ⟨5, _⟩ => ⟨S128x8192, .bf16⟩
  | .local _ .vmem, ⟨6, _⟩ => ⟨S1x8192x128, .f32⟩
  | .local _ .vmem, ⟨7, _⟩ => ⟨S1x8192x128, .f32⟩
  | .local _ .vmem, ⟨8, _⟩ => ⟨S1x64x4096, .f32⟩
  | .local _ .vmem, ⟨9, _⟩ => ⟨S1x64x4096, .f32⟩
  | .local _ .vmem, ⟨10, _⟩ => ⟨S1x64x4096, .f32⟩
  | .local _ .vmem, ⟨11, _⟩ => ⟨S1x64x4096, .f32⟩
  | .local _ .vmem, ⟨12, _⟩ => ⟨S512x128, .bf16⟩
  | .local _ .vmem, ⟨13, _⟩ => ⟨S512x128, .bf16⟩
  | .local _ .vmem, ⟨14, _⟩ => ⟨S64x4096, .bf16⟩
  | .local _ .vmem, ⟨15, _⟩ => ⟨S64x4096, .bf16⟩
  | .local _ .vmem, ⟨16, _⟩ => ⟨S64x4096, .bf16⟩
  | .local _ .vmem, ⟨17, _⟩ => ⟨S64x4096, .bf16⟩
  | .local _ .vmem, ⟨18, _⟩ => ⟨S512x512, .f32⟩
  | .local _ .vmem, ⟨19, _⟩ => ⟨S512x512, .f32⟩
  | .local _ .vmem, ⟨20, _⟩ => ⟨S1x512, .f32⟩
  | .local _ .vmem, ⟨21, _⟩ => ⟨S144x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 3 → Nat :=
  let c0_11 : Index := 0#32
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_12 : Index := 0#32
  ![0, v11.toNat, 0]
def k0_mult2 : BitVec 32 :=
  let c0_i32 : BitVec 32 := 0#32
  c0_i32
@[reducible] def k0_t1_loop (i : grid0.Coords) : Scf.Loop 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_31 : BitVec 32 := 1#32
  ⟨c0_i32_29, v52, c1_i32_31⟩
def k0_mult3 (i : grid0.Coords) (k0_t1 : Fin (k0_t1_loop i).trips) : BitVec 32 :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let c0_i32_49 : BitVec 32 := 0#32
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  v83
def k0_off2 (i : grid0.Coords) (k0_t1 : Fin (k0_t1_loop i).trips) (c0_i32_49 : BitVec 32) : Fin 2 → Nat :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  let v84 : BitVec 32 := v83
  let v85 : Index := Scalar.indexCast v84
  let c0_52 : Index := 0#32
  ![v85.toNat, 0]
def k0_mult4 (i : grid0.Coords) (k0_t1 : Fin (k0_t1_loop i).trips) : BitVec 32 :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let c0_i32_56 : BitVec 32 := 0#32
  let v91 : BitVec 32 := Scalar.addi v80 c0_i32_56
  let c512_i32_57 : BitVec 32 := 512#32
  let v92 : BitVec 32 := Scalar.muli v91 c512_i32_57
  v92
def k0_off3 (i : grid0.Coords) (k0_t1 : Fin (k0_t1_loop i).trips) (c0_i32_56 : BitVec 32) : Fin 3 → Nat :=
  let c0_58 : Index := 0#32
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let v91 : BitVec 32 := Scalar.addi v80 c0_i32_56
  let c512_i32_57 : BitVec 32 := 512#32
  let v92 : BitVec 32 := Scalar.muli v91 c512_i32_57
  let v93 : BitVec 32 := v92
  let v94 : Index := Scalar.indexCast v93
  let c0_59 : Index := 0#32
  ![0, v94.toNat, 0]
def k0_off4 (i : grid0.Coords) (k0_t1 : Fin (k0_t1_loop i).trips) (c0_i32_56 : BitVec 32) : Fin 2 → Nat :=
  let c0_60 : Index := 0#32
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let v91 : BitVec 32 := Scalar.addi v80 c0_i32_56
  let c512_i32_57 : BitVec 32 := 512#32
  let v92 : BitVec 32 := Scalar.muli v91 c512_i32_57
  let v93 : BitVec 32 := v92
  let v100 : Index := Scalar.indexCast v93
  ![0, v100.toNat]
def k0_mult5 (i : grid0.Coords) (k0_t1 : Fin (k0_t1_loop i).trips) : BitVec 32 :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let c1_i32_84 : BitVec 32 := 1#32
  let v149 : BitVec 32 := Scalar.addi v80 c1_i32_84
  let c1_i32_85 : BitVec 32 := 1#32
  let v150 : BitVec 32 := Scalar.addi v149 c1_i32_85
  let c512_i32_86 : BitVec 32 := 512#32
  let v151 : BitVec 32 := Scalar.muli v150 c512_i32_86
  v151
def k0_mult6 (i : grid0.Coords) (k0_t1 : Fin (k0_t1_loop i).trips) : BitVec 32 :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let c1_i32_91 : BitVec 32 := 1#32
  let v159 : BitVec 32 := Scalar.addi v80 c1_i32_91
  let c512_i32_92 : BitVec 32 := 512#32
  let v160 : BitVec 32 := Scalar.muli v159 c512_i32_92
  v160
def k0_mult7 (i : grid0.Coords) (k0_t1 : Fin (k0_t1_loop i).trips) : BitVec 32 :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let c2_i32_120 : BitVec 32 := 2#32
  let v217 : BitVec 32 := Scalar.addi v80 c2_i32_120
  let c1_i32_121 : BitVec 32 := 1#32
  let v218 : BitVec 32 := Scalar.addi v217 c1_i32_121
  let c512_i32_122 : BitVec 32 := 512#32
  let v219 : BitVec 32 := Scalar.muli v218 c512_i32_122
  v219
def k0_mult8 (i : grid0.Coords) (k0_t1 : Fin (k0_t1_loop i).trips) : BitVec 32 :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let c2_i32_127 : BitVec 32 := 2#32
  let v227 : BitVec 32 := Scalar.addi v80 c2_i32_127
  let c512_i32_128 : BitVec 32 := 512#32
  let v228 : BitVec 32 := Scalar.muli v227 c512_i32_128
  v228
def k0_mult9 (i : grid0.Coords) (k0_t1 : Fin (k0_t1_loop i).trips) : BitVec 32 :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let c3_i32_156 : BitVec 32 := 3#32
  let v285 : BitVec 32 := Scalar.addi v80 c3_i32_156
  let c1_i32_157 : BitVec 32 := 1#32
  let v286 : BitVec 32 := Scalar.addi v285 c1_i32_157
  let c512_i32_158 : BitVec 32 := 512#32
  let v287 : BitVec 32 := Scalar.muli v286 c512_i32_158
  v287
def k0_mult10 (i : grid0.Coords) (k0_t1 : Fin (k0_t1_loop i).trips) : BitVec 32 :=
  let c0_i32_29 : BitVec 32 := 0#32
  let c1_i32_31 : BitVec 32 := 1#32
  let arg15 : BitVec 32 := Scf.iv c0_i32_29 c1_i32_31 k0_t1
  let c4_i32_48 : BitVec 32 := 4#32
  let v80 : BitVec 32 := Scalar.muli arg15 c4_i32_48
  let c3_i32_163 : BitVec 32 := 3#32
  let v295 : BitVec 32 := Scalar.addi v80 c3_i32_163
  let c512_i32_164 : BitVec 32 := 512#32
  let v296 : BitVec 32 := Scalar.muli v295 c512_i32_164
  v296
@[reducible] def k0_t2_loop (i : grid0.Coords) : Scf.Loop 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let v49 : BitVec 32 := Scalar.addi c0_i32_29 v48
  let c1_i32_32 : BitVec 32 := 1#32
  ⟨v52, v49, c1_i32_32⟩
def k0_mult11 (i : grid0.Coords) (k0_t2 : Fin (k0_t2_loop i).trips) : BitVec 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let c0_i32_49 : BitVec 32 := 0#32
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  v83
def k0_off5 (i : grid0.Coords) (k0_t2 : Fin (k0_t2_loop i).trips) (c0_i32_49 : BitVec 32) : Fin 2 → Nat :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  let v84 : BitVec 32 := v83
  let v85 : Index := Scalar.indexCast v84
  let c0_52 : Index := 0#32
  ![v85.toNat, 0]
def k0_mult12 (i : grid0.Coords) (k0_t2 : Fin (k0_t2_loop i).trips) : BitVec 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let c0_i32_56 : BitVec 32 := 0#32
  let v91 : BitVec 32 := Scalar.addi v80 c0_i32_56
  let c512_i32_57 : BitVec 32 := 512#32
  let v92 : BitVec 32 := Scalar.muli v91 c512_i32_57
  v92
def k0_off6 (i : grid0.Coords) (k0_t2 : Fin (k0_t2_loop i).trips) (c0_i32_56 : BitVec 32) : Fin 3 → Nat :=
  let c0_58 : Index := 0#32
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let v91 : BitVec 32 := Scalar.addi v80 c0_i32_56
  let c512_i32_57 : BitVec 32 := 512#32
  let v92 : BitVec 32 := Scalar.muli v91 c512_i32_57
  let v93 : BitVec 32 := v92
  let v94 : Index := Scalar.indexCast v93
  let c0_59 : Index := 0#32
  ![0, v94.toNat, 0]
def k0_off7 (i : grid0.Coords) (k0_t2 : Fin (k0_t2_loop i).trips) (c0_i32_56 : BitVec 32) : Fin 2 → Nat :=
  let c0_60 : Index := 0#32
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let v91 : BitVec 32 := Scalar.addi v80 c0_i32_56
  let c512_i32_57 : BitVec 32 := 512#32
  let v92 : BitVec 32 := Scalar.muli v91 c512_i32_57
  let v93 : BitVec 32 := v92
  let v100 : Index := Scalar.indexCast v93
  ![0, v100.toNat]
def k0_mult13 (i : grid0.Coords) (k0_t2 : Fin (k0_t2_loop i).trips) : BitVec 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let c1_i32_84 : BitVec 32 := 1#32
  let v149 : BitVec 32 := Scalar.addi v80 c1_i32_84
  let c1_i32_85 : BitVec 32 := 1#32
  let v150 : BitVec 32 := Scalar.addi v149 c1_i32_85
  let c512_i32_86 : BitVec 32 := 512#32
  let v151 : BitVec 32 := Scalar.muli v150 c512_i32_86
  v151
def k0_mult14 (i : grid0.Coords) (k0_t2 : Fin (k0_t2_loop i).trips) : BitVec 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let c1_i32_91 : BitVec 32 := 1#32
  let v159 : BitVec 32 := Scalar.addi v80 c1_i32_91
  let c512_i32_92 : BitVec 32 := 512#32
  let v160 : BitVec 32 := Scalar.muli v159 c512_i32_92
  v160
def k0_mult15 (i : grid0.Coords) (k0_t2 : Fin (k0_t2_loop i).trips) : BitVec 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let c2_i32_120 : BitVec 32 := 2#32
  let v217 : BitVec 32 := Scalar.addi v80 c2_i32_120
  let c1_i32_121 : BitVec 32 := 1#32
  let v218 : BitVec 32 := Scalar.addi v217 c1_i32_121
  let c512_i32_122 : BitVec 32 := 512#32
  let v219 : BitVec 32 := Scalar.muli v218 c512_i32_122
  v219
def k0_mult16 (i : grid0.Coords) (k0_t2 : Fin (k0_t2_loop i).trips) : BitVec 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let c2_i32_127 : BitVec 32 := 2#32
  let v227 : BitVec 32 := Scalar.addi v80 c2_i32_127
  let c512_i32_128 : BitVec 32 := 512#32
  let v228 : BitVec 32 := Scalar.muli v227 c512_i32_128
  v228
def k0_mult17 (i : grid0.Coords) (k0_t2 : Fin (k0_t2_loop i).trips) : BitVec 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let c3_i32_156 : BitVec 32 := 3#32
  let v285 : BitVec 32 := Scalar.addi v80 c3_i32_156
  let c1_i32_157 : BitVec 32 := 1#32
  let v286 : BitVec 32 := Scalar.addi v285 c1_i32_157
  let c512_i32_158 : BitVec 32 := 512#32
  let v287 : BitVec 32 := Scalar.muli v286 c512_i32_158
  v287
def k0_mult18 (i : grid0.Coords) (k0_t2 : Fin (k0_t2_loop i).trips) : BitVec 32 :=
  let c0_i32_29 : BitVec 32 := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let v48 : BitVec 32 := Scalar.subi v47 c0_i32_29
  let c1_i32_30 : BitVec 32 := 1#32
  let v50 : BitVec 32 := Scalar.divsi v48 c1_i32_30
  let v51 : BitVec 32 := Scalar.muli v50 c1_i32_30
  let v52 : BitVec 32 := Scalar.addi c0_i32_29 v51
  let c1_i32_32 : BitVec 32 := 1#32
  let arg15 : BitVec 32 := Scf.iv v52 c1_i32_32 k0_t2
  let c4_i32_48 : BitVec 32 := 4#32
  let v80 : BitVec 32 := Scalar.muli arg15 c4_i32_48
  let c3_i32_163 : BitVec 32 := 3#32
  let v295 : BitVec 32 := Scalar.addi v80 c3_i32_163
  let c512_i32_164 : BitVec 32 := 512#32
  let v296 : BitVec 32 := Scalar.muli v295 c512_i32_164
  v296
def k0_cond1 (i : grid0.Coords) : BitVec 1 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_33 : BitVec 32 := 4#32
  let v53 : BitVec 32 := Scalar.muli v47 c4_i32_33
  let v54 : BitVec 32 := Scalar.subi arg1 v53
  let c0_i32_34 : BitVec 32 := 0#32
  let v55 : BitVec 1 := Scalar.cmpi .eq v54 c0_i32_34
  let v56 : BitVec 32 := Scalar.extui v55
  let c0_i32_35 : BitVec 32 := 0#32
  let v57 : BitVec 1 := Scalar.cmpi .ne v56 c0_i32_35
  v57

def k0_mult19 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_49 : BitVec 32 := 0#32
  let v81 : BitVec 32 := Scalar.addi v80 c0_i32_49
  let c512_i32_50 : BitVec 32 := 512#32
  let v82 : BitVec 32 := Scalar.muli v81 c512_i32_50
  v82
def k0_off8 (i : grid0.Coords) : Fin 3 → Nat :=
  let c0_51 : Index := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_49 : BitVec 32 := 0#32
  let v81 : BitVec 32 := Scalar.addi v80 c0_i32_49
  let c512_i32_50 : BitVec 32 := 512#32
  let v82 : BitVec 32 := Scalar.muli v81 c512_i32_50
  let v83 : BitVec 32 := v82
  let v84 : Index := Scalar.indexCast v83
  let c0_52 : Index := 0#32
  ![0, v84.toNat, 0]
def k0_off9 (i : grid0.Coords) : Fin 2 → Nat :=
  let c0_53 : Index := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_49 : BitVec 32 := 0#32
  let v81 : BitVec 32 := Scalar.addi v80 c0_i32_49
  let c512_i32_50 : BitVec 32 := 512#32
  let v82 : BitVec 32 := Scalar.muli v81 c512_i32_50
  let v83 : BitVec 32 := v82
  let v90 : Index := Scalar.indexCast v83
  ![0, v90.toNat]
def k0_cond2 (i : grid0.Coords) : BitVec 1 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_36 : BitVec 32 := 4#32
  let v58 : BitVec 32 := Scalar.muli v47 c4_i32_36
  let v59 : BitVec 32 := Scalar.subi arg1 v58
  let c1_i32_37 : BitVec 32 := 1#32
  let v60 : BitVec 1 := Scalar.cmpi .eq v59 c1_i32_37
  let v61 : BitVec 32 := Scalar.extui v60
  let c0_i32_38 : BitVec 32 := 0#32
  let v62 : BitVec 1 := Scalar.cmpi .ne v61 c0_i32_38
  v62

def k0_mult20 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_49 : BitVec 32 := 0#32
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  v83
def k0_off10 (i : grid0.Coords) : Fin 2 → Nat :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_49 : BitVec 32 := 0#32
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  let v84 : BitVec 32 := v83
  let v85 : Index := Scalar.indexCast v84
  let c0_52 : Index := 0#32
  ![v85.toNat, 0]
def k0_mult21 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_56 : BitVec 32 := 0#32
  let v91 : BitVec 32 := Scalar.addi v80 c0_i32_56
  let c512_i32_57 : BitVec 32 := 512#32
  let v92 : BitVec 32 := Scalar.muli v91 c512_i32_57
  v92
def k0_off11 (i : grid0.Coords) (c0_i32_56 : BitVec 32) : Fin 3 → Nat :=
  let c0_58 : Index := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let v91 : BitVec 32 := Scalar.addi v80 c0_i32_56
  let c512_i32_57 : BitVec 32 := 512#32
  let v92 : BitVec 32 := Scalar.muli v91 c512_i32_57
  let v93 : BitVec 32 := v92
  let v94 : Index := Scalar.indexCast v93
  let c0_59 : Index := 0#32
  ![0, v94.toNat, 0]
def k0_off12 (i : grid0.Coords) (c0_i32_56 : BitVec 32) : Fin 2 → Nat :=
  let c0_60 : Index := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let v91 : BitVec 32 := Scalar.addi v80 c0_i32_56
  let c512_i32_57 : BitVec 32 := 512#32
  let v92 : BitVec 32 := Scalar.muli v91 c512_i32_57
  let v93 : BitVec 32 := v92
  let v100 : Index := Scalar.indexCast v93
  ![0, v100.toNat]
def k0_mult22 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c1_i32_84 : BitVec 32 := 1#32
  let v149 : BitVec 32 := Scalar.addi v80 c1_i32_84
  let c512_i32_85 : BitVec 32 := 512#32
  let v150 : BitVec 32 := Scalar.muli v149 c512_i32_85
  v150
def k0_cond3 (i : grid0.Coords) : BitVec 1 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_39 : BitVec 32 := 4#32
  let v63 : BitVec 32 := Scalar.muli v47 c4_i32_39
  let v64 : BitVec 32 := Scalar.subi arg1 v63
  let c2_i32 : BitVec 32 := 2#32
  let v65 : BitVec 1 := Scalar.cmpi .eq v64 c2_i32
  let v66 : BitVec 32 := Scalar.extui v65
  let c0_i32_40 : BitVec 32 := 0#32
  let v67 : BitVec 1 := Scalar.cmpi .ne v66 c0_i32_40
  v67

def k0_mult23 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_49 : BitVec 32 := 0#32
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  v83
def k0_off13 (i : grid0.Coords) (c0_i32_49 : BitVec 32) : Fin 2 → Nat :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  let v84 : BitVec 32 := v83
  let v85 : Index := Scalar.indexCast v84
  let c0_52 : Index := 0#32
  ![v85.toNat, 0]
def k0_mult24 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_56 : BitVec 32 := 0#32
  let v91 : BitVec 32 := Scalar.addi v80 c0_i32_56
  let c512_i32_57 : BitVec 32 := 512#32
  let v92 : BitVec 32 := Scalar.muli v91 c512_i32_57
  v92
def k0_off14 (i : grid0.Coords) (c0_i32_56 : BitVec 32) : Fin 3 → Nat :=
  let c0_58 : Index := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let v91 : BitVec 32 := Scalar.addi v80 c0_i32_56
  let c512_i32_57 : BitVec 32 := 512#32
  let v92 : BitVec 32 := Scalar.muli v91 c512_i32_57
  let v93 : BitVec 32 := v92
  let v94 : Index := Scalar.indexCast v93
  let c0_59 : Index := 0#32
  ![0, v94.toNat, 0]
def k0_off15 (i : grid0.Coords) (c0_i32_56 : BitVec 32) : Fin 2 → Nat :=
  let c0_60 : Index := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let v91 : BitVec 32 := Scalar.addi v80 c0_i32_56
  let c512_i32_57 : BitVec 32 := 512#32
  let v92 : BitVec 32 := Scalar.muli v91 c512_i32_57
  let v93 : BitVec 32 := v92
  let v100 : Index := Scalar.indexCast v93
  ![0, v100.toNat]
def k0_mult25 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c1_i32_84 : BitVec 32 := 1#32
  let v149 : BitVec 32 := Scalar.addi v80 c1_i32_84
  let c1_i32_85 : BitVec 32 := 1#32
  let v150 : BitVec 32 := Scalar.addi v149 c1_i32_85
  let c512_i32_86 : BitVec 32 := 512#32
  let v151 : BitVec 32 := Scalar.muli v150 c512_i32_86
  v151
def k0_mult26 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c1_i32_91 : BitVec 32 := 1#32
  let v159 : BitVec 32 := Scalar.addi v80 c1_i32_91
  let c512_i32_92 : BitVec 32 := 512#32
  let v160 : BitVec 32 := Scalar.muli v159 c512_i32_92
  v160
def k0_mult27 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c2_i32_120 : BitVec 32 := 2#32
  let v217 : BitVec 32 := Scalar.addi v80 c2_i32_120
  let c512_i32_121 : BitVec 32 := 512#32
  let v218 : BitVec 32 := Scalar.muli v217 c512_i32_121
  v218
def k0_cond4 (i : grid0.Coords) : BitVec 1 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_41 : BitVec 32 := 4#32
  let v68 : BitVec 32 := Scalar.muli v47 c4_i32_41
  let v69 : BitVec 32 := Scalar.subi arg1 v68
  let c3_i32 : BitVec 32 := 3#32
  let v70 : BitVec 1 := Scalar.cmpi .eq v69 c3_i32
  let v71 : BitVec 32 := Scalar.extui v70
  let c0_i32_42 : BitVec 32 := 0#32
  let v72 : BitVec 1 := Scalar.cmpi .ne v71 c0_i32_42
  v72

def k0_mult28 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_49 : BitVec 32 := 0#32
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  v83
def k0_off16 (i : grid0.Coords) (c0_i32_49 : BitVec 32) : Fin 2 → Nat :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let v81 : BitVec 32 := Scalar.addi v80 c0_i32_49
  let c1_i32_50 : BitVec 32 := 1#32
  let v82 : BitVec 32 := Scalar.addi v81 c1_i32_50
  let c512_i32_51 : BitVec 32 := 512#32
  let v83 : BitVec 32 := Scalar.muli v82 c512_i32_51
  let v84 : BitVec 32 := v83
  let v85 : Index := Scalar.indexCast v84
  let c0_52 : Index := 0#32
  ![v85.toNat, 0]
def k0_mult29 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c0_i32_56 : BitVec 32 := 0#32
  let v91 : BitVec 32 := Scalar.addi v80 c0_i32_56
  let c512_i32_57 : BitVec 32 := 512#32
  let v92 : BitVec 32 := Scalar.muli v91 c512_i32_57
  v92
def k0_off17 (i : grid0.Coords) (c0_i32_56 : BitVec 32) : Fin 3 → Nat :=
  let c0_58 : Index := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let v91 : BitVec 32 := Scalar.addi v80 c0_i32_56
  let c512_i32_57 : BitVec 32 := 512#32
  let v92 : BitVec 32 := Scalar.muli v91 c512_i32_57
  let v93 : BitVec 32 := v92
  let v94 : Index := Scalar.indexCast v93
  let c0_59 : Index := 0#32
  ![0, v94.toNat, 0]
def k0_off18 (i : grid0.Coords) (c0_i32_56 : BitVec 32) : Fin 2 → Nat :=
  let c0_60 : Index := 0#32
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let v91 : BitVec 32 := Scalar.addi v80 c0_i32_56
  let c512_i32_57 : BitVec 32 := 512#32
  let v92 : BitVec 32 := Scalar.muli v91 c512_i32_57
  let v93 : BitVec 32 := v92
  let v100 : Index := Scalar.indexCast v93
  ![0, v100.toNat]
def k0_mult30 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c1_i32_84 : BitVec 32 := 1#32
  let v149 : BitVec 32 := Scalar.addi v80 c1_i32_84
  let c1_i32_85 : BitVec 32 := 1#32
  let v150 : BitVec 32 := Scalar.addi v149 c1_i32_85
  let c512_i32_86 : BitVec 32 := 512#32
  let v151 : BitVec 32 := Scalar.muli v150 c512_i32_86
  v151
def k0_mult31 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c1_i32_91 : BitVec 32 := 1#32
  let v159 : BitVec 32 := Scalar.addi v80 c1_i32_91
  let c512_i32_92 : BitVec 32 := 512#32
  let v160 : BitVec 32 := Scalar.muli v159 c512_i32_92
  v160
def k0_mult32 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c2_i32_120 : BitVec 32 := 2#32
  let v217 : BitVec 32 := Scalar.addi v80 c2_i32_120
  let c1_i32_121 : BitVec 32 := 1#32
  let v218 : BitVec 32 := Scalar.addi v217 c1_i32_121
  let c512_i32_122 : BitVec 32 := 512#32
  let v219 : BitVec 32 := Scalar.muli v218 c512_i32_122
  v219
def k0_mult33 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c2_i32_127 : BitVec 32 := 2#32
  let v227 : BitVec 32 := Scalar.addi v80 c2_i32_127
  let c512_i32_128 : BitVec 32 := 512#32
  let v228 : BitVec 32 := Scalar.muli v227 c512_i32_128
  v228
def k0_mult34 (i : grid0.Coords) : BitVec 32 :=
  let arg1 : BitVec 32 := BitVec.ofNat 32 (i 1).val
  let c0_i32_23 : BitVec 32 := 0#32
  let v32 : BitVec 1 := Scalar.cmpi .sgt arg1 c0_i32_23
  let v33 : BitVec 32 := Scalar.extui v32
  let c0_i32_24 : BitVec 32 := 0#32
  let v34 : BitVec 1 := Scalar.cmpi .slt arg1 c0_i32_24
  let v35 : BitVec 32 := Scalar.extui v34
  let v36 : BitVec 32 := Scalar.subi v33 v35
  let c4_i32 : BitVec 32 := 4#32
  let c0_i32_25 : BitVec 32 := 0#32
  let v37 : BitVec 1 := Scalar.cmpi .sgt c4_i32 c0_i32_25
  let v38 : BitVec 32 := Scalar.extui v37
  let c0_i32_26 : BitVec 32 := 0#32
  let v39 : BitVec 1 := Scalar.cmpi .slt c4_i32 c0_i32_26
  let v40 : BitVec 32 := Scalar.extui v39
  let v41 : BitVec 32 := Scalar.subi v38 v40
  let v42 : BitVec 1 := Scalar.cmpi .ne v36 v41
  let v43 : BitVec 32 := Scalar.remsi arg1 c4_i32
  let c0_i32_27 : BitVec 32 := 0#32
  let v44 : BitVec 1 := Scalar.cmpi .ne v43 c0_i32_27
  let v45 : BitVec 1 := Scalar.andi v42 v44
  let v31 : BitVec 32 := Scalar.divsi arg1 c4_i32
  let c1_i32 : BitVec 32 := 1#32
  let v46 : BitVec 32 := Scalar.subi v31 c1_i32
  let v47 : BitVec 32 := Scalar.select v45 v46 v31
  let c4_i32_48 : BitVec 32 := 4#32
  let v80 : BitVec 32 := Scalar.muli v47 c4_i32_48
  let c3_i32_156 : BitVec 32 := 3#32
  let v285 : BitVec 32 := Scalar.addi v80 c3_i32_156
  let c512_i32_157 : BitVec 32 := 512#32
  let v286 : BitVec 32 := Scalar.muli v285 c512_i32_157
  v286
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelAttnIdeal.lean ====
variable {F : FTy → Type} [FloatOps F] [Named F]
def κ : String → Option EReal := fun
  | "masked" => some ⊥
  | _ => none
-- ==== ReferenceAttnIdeal.lean ====
abbrev S8192x4096 : Shape := ⟨2, ![8192, 4096]⟩
abbrev S2048x8192 : Shape := ⟨2, ![2048, 8192]⟩
abbrev S8192x16 : Shape := ⟨2, ![8192, 16]⟩
abbrev S1x16384x4096 : Shape := ⟨3, ![1, 16384, 4096]⟩
abbrev S8192x2048 : Shape := ⟨2, ![8192, 2048]⟩
abbrev S8192x16x128 : Shape := ⟨3, ![8192, 16, 128]⟩
abbrev S16x8192x128 : Shape := ⟨3, ![16, 8192, 128]⟩
abbrev S16x8192 : Shape := ⟨2, ![16, 8192]⟩
abbrev S8192 : Shape := ⟨1, ![8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S16384x4096 : Shape := ⟨2, ![16384, 4096]⟩

abbrev nBuf : Space → Nat
  | .hbm => 63
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x8192, .bf16⟩
  | .hbm, ⟨2, _⟩ => ⟨S8192x16, .f32⟩
  | .hbm, ⟨3, _⟩ => ⟨S1x16384x4096, .f32⟩
  | .hbm, ⟨4, _⟩ => ⟨S1x16384x4096, .f32⟩
  | .hbm, ⟨5, _⟩ => ⟨S8192x2048, .bf16⟩
  | .hbm, ⟨6, _⟩ => ⟨S8192x2048, .f32⟩
  | .hbm, ⟨7, _⟩ => ⟨S8192x16x128, .f32⟩
  | .hbm, ⟨8, _⟩ => ⟨S8192x2048, .bf16⟩
  | .hbm, ⟨9, _⟩ => ⟨S8192x2048, .f32⟩
  | .hbm, ⟨10, _⟩ => ⟨S8192x16x128, .f32⟩
  | .hbm, ⟨11, _⟩ => ⟨S2048x8192, .f32⟩
  | .hbm, ⟨12, _⟩ => ⟨S8192x2048, .f32⟩
  | .hbm, ⟨13, _⟩ => ⟨S8192x16x128, .f32⟩
  | .hbm, ⟨14, _⟩ => ⟨S16x8192x128, .f32⟩
  | .hbm, ⟨15, _⟩ => ⟨S16x8192x128, .f32⟩
  | .hbm, ⟨16, _⟩ => ⟨S16x8192x128, .f32⟩
  | .hbm, ⟨17, _⟩ => ⟨S16x8192, .f32⟩
  | .hbm, ⟨18, _⟩ => ⟨S8192, .i32⟩
  | .hbm, ⟨19, _⟩ => ⟨S16x8192x8192, .f32⟩
  | .hbm, ⟨20, _⟩ => ⟨S16x8192x1, .f32⟩
  | .hbm, ⟨21, _⟩ => ⟨S16x8192x8192, .f32⟩
  | .hbm, ⟨22, _⟩ => ⟨S16x8192x8192, .f32⟩
  | .hbm, ⟨23, _⟩ => ⟨S16x1x8192, .f32⟩
  | .hbm, ⟨24, _⟩ => ⟨S16x8192x8192, .f32⟩
  | .hbm, ⟨25, _⟩ => ⟨S16x8192x8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S16x8192x8192, .f32⟩
  | .hbm, ⟨30, _⟩ => ⟨S16x8192x8192, .f32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S16x8192x8192, .i1⟩
  | .hbm, ⟨39, _⟩ => ⟨S16x8192x8192, .f32⟩
  | .hbm, ⟨40, _⟩ => ⟨S16x8192x8192, .f32⟩
  | .hbm, ⟨41, _⟩ => ⟨S_, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .f32⟩
  | .hbm, ⟨46, _⟩ => ⟨S16x8192x1, .f32⟩
  | .hbm, ⟨47, _⟩ => ⟨S16x8192x8192, .f32⟩
  | .hbm, ⟨48, _⟩ => ⟨S16x8192x8192, .f32⟩
  | .hbm, ⟨49, _⟩ => ⟨S16x8192x8192, .f32⟩
  | .hbm, ⟨50, _⟩ => ⟨S_, .f32⟩
  | .hbm, ⟨51, _⟩ => ⟨S16x8192, .f32⟩
  | .hbm, ⟨52, _⟩ => ⟨S16x8192x1, .f32⟩
  | .hbm, ⟨53, _⟩ => ⟨S16x8192x8192, .f32⟩
  | .hbm, ⟨54, _⟩ => ⟨S16x8192x8192, .f32⟩
  | .hbm, ⟨55, _⟩ => ⟨S16x8192x128, .f32⟩
  | .hbm, ⟨56, _⟩ => ⟨S8192x16x128, .f32⟩
  | .hbm, ⟨57, _⟩ => ⟨S8192x2048, .f32⟩
  | .hbm, ⟨58, _⟩ => ⟨S8192x2048, .bf16⟩
  | .hbm, ⟨59, _⟩ => ⟨S16384x4096, .f32⟩
  | .hbm, ⟨60, _⟩ => ⟨S16384x4096, .bf16⟩
  | .hbm, ⟨61, _⟩ => ⟨S16384x4096, .f32⟩
  | .hbm, ⟨62, _⟩ => ⟨S16384x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== KernelDown.lean ====
abbrev S8192x16384 : Shape := ⟨2, ![8192, 16384]⟩
abbrev S16384x4096 : Shape := ⟨2, ![16384, 4096]⟩
abbrev S8192x4096 : Shape := ⟨2, ![8192, 4096]⟩
abbrev S1x4096 : Shape := ⟨2, ![1, 4096]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩
abbrev S1x8192x4096 : Shape := ⟨3, ![1, 8192, 4096]⟩

abbrev nBuf : Space → Nat
  | .hbm => 6
  | .vmem => 11
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S1x4096, .f32⟩
  | .hbm, ⟨4, _⟩ => ⟨S8192x4096, .f32⟩
  | .hbm, ⟨5, _⟩ => ⟨S1x8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceDownIdeal.lean ====
abbrev S8192x16384 : Shape := ⟨2, ![8192, 16384]⟩
abbrev S16384x4096 : Shape := ⟨2, ![16384, 4096]⟩
abbrev S8192x4096 : Shape := ⟨2, ![8192, 4096]⟩
abbrev S1x4096 : Shape := ⟨2, ![1, 4096]⟩
abbrev S1x8192x4096 : Shape := ⟨3, ![1, 8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x4096, .bf16⟩
  | .hbm, ⟨2, _⟩ => ⟨S8192x4096, .f32⟩
  | .hbm, ⟨3, _⟩ => ⟨S1x4096, .f32⟩
  | .hbm, ⟨4, _⟩ => ⟨S8192x16384, .f32⟩
  | .hbm, ⟨5, _⟩ => ⟨S16384x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S1x8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.QKValue.lean ====
/-
  The query and key projection: the array the call leaves is the reference's queries and keys, side by side, each head
  divided by its root mean square and scaled by its gains. The weight arrives transposed; the queries' scale is folded
  into their gains by the kernel and applied afterwards by the reference.
-/
module

public import proofs.«01_k».proof.Defs
public import proofs.«01_k».proof.Proof.Gen.KernelQKIdeal.Value
public import proofs.«01_k».proof.Proof.Gen.ReferenceQKIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelQKIdeal.Heads

open Cert.KernelQKIdeal Cert.KernelQKIdeal.Gen Idealize.ShloMosaic Idealize.ShloMosaic.TcCoe Idealize.SL.Sem
open Idealize.ShloMosaic.Pipeline (Dat)

variable (m : (ℓ : Loc nD τ sig) → Buf (Elt Ideal) ℓ)

/-- One entry of a head divided by its root mean square, times its gain: `x` is the head's row, `l` the entry. -/
def headNorm (x : Fin 128 → EReal) (l : Fin 128) (g : EReal) : EReal :=
  x l * Ideal.rsqrt (Ideal.div (∑ k, x k * x k) (Ideal.ofBits .f32 0x43000000#32) + Ideal.ofBits .f32 0x358637BD#32) * g

/-- A factor after the gain is a factor of the gain. -/
theorem headNorm_assoc (x : Fin 128 → EReal) (l : Fin 128) (g s : EReal) : headNorm x l g * s = headNorm x l (g * s) :=
  mul_assoc _ _ _

/-- `headNorm` reads its row entry by entry. -/
theorem headNorm_congr {x x' : Fin 128 → EReal} {l l' : Fin 128} {g g' : EReal} (hx : ∀ k, x k = x' k) (hl : l = l') (hg : g = g') :
    headNorm x l g = headNorm x' l' g' := by
  rw [funext hx, hl, hg]

/-- The queries' part of the projection, head by head. -/
def queryHeads (H : FVec Ideal Cert.ReferenceQKIdeal.S8192x4096 .bf16) (W : FVec Ideal Cert.ReferenceQKIdeal.S1x4096x14352 .f32) : FVec Ideal Cert.ReferenceQKIdeal.S8192x16x128 .f32 :=
  shapeCast _ (extractStridedSlice Cert.ReferenceQKIdeal.S8192x2048 ![0, 0] (Host.dotGeneral Cert.ReferenceQKIdeal.dot_S8192x4096_S4096x14352_S8192x14352_1_0_0_1_n_n none
    (extf .f32 H Cert.ReferenceQKIdeal.Gen.bitsLt_bf16_f32) (shapeCast _ W Cert.ReferenceQKIdeal.Gen.shapeCasts_S1x4096x14352_S4096x14352)) Cert.ReferenceQKIdeal.Gen.slices_S8192x14352_S8192x2048_0_0)
    Cert.ReferenceQKIdeal.Gen.shapeCasts_S8192x2048_S8192x16x128

/-- The keys' part of the projection, head by head. -/
def keyHeads (H : FVec Ideal Cert.ReferenceQKIdeal.S8192x4096 .bf16) (W : FVec Ideal Cert.ReferenceQKIdeal.S1x4096x14352 .f32) : FVec Ideal Cert.ReferenceQKIdeal.S8192x16x128 .f32 :=
  shapeCast _ (extractStridedSlice Cert.ReferenceQKIdeal.S8192x2048 ![0, 2048] (Host.dotGeneral Cert.ReferenceQKIdeal.dot_S8192x4096_S4096x14352_S8192x14352_1_0_0_1_n_n none
    (extf .f32 H Cert.ReferenceQKIdeal.Gen.bitsLt_bf16_f32) (shapeCast _ W Cert.ReferenceQKIdeal.Gen.shapeCasts_S1x4096x14352_S4096x14352)) Cert.ReferenceQKIdeal.Gen.slices_S8192x14352_S8192x2048_0_2048)
    Cert.ReferenceQKIdeal.Gen.shapeCasts_S8192x2048_S8192x16x128

/-- Heads divided by their root mean square and scaled by their gains, as the reference writes it. -/
def normed (x : FVec Ideal Cert.ReferenceQKIdeal.S8192x16x128 .f32) (g : FVec Ideal Cert.ReferenceQKIdeal.S1x16x128 .f32) : FVec Ideal Cert.ReferenceQKIdeal.S8192x16x128 .f32 :=
  mulf (mulf x (broadcastInDim Cert.ReferenceQKIdeal.S8192x16x128 ![0, 1, 2] Cert.ReferenceQKIdeal.Gen.bcast_S8192x16x1_S8192x16x128_0_1_2
    (Host.rsqrt (addf (Host.divf (broadcastInDim Cert.ReferenceQKIdeal.S8192x16x1 ![0, 1] Cert.ReferenceQKIdeal.Gen.bcast_S8192x16_S8192x16x1_0_1
      (Host.reduceAdd (mulf x x) (constant Cert.ReferenceQKIdeal.S_ .f32 0x00000000#32) Cert.ReferenceQKIdeal.Gen.reducesTo_S8192x16x128_S8192x16_d2 Cert.ReferenceQKIdeal.Gen.h_S_))
      (broadcastInDim Cert.ReferenceQKIdeal.S8192x16x1 ![] Cert.ReferenceQKIdeal.Gen.bcast_S_S8192x16x1 (constant Cert.ReferenceQKIdeal.S_ .f32 0x43000000#32)))
      (broadcastInDim Cert.ReferenceQKIdeal.S8192x16x1 ![] Cert.ReferenceQKIdeal.Gen.bcast_S_S8192x16x1 (constant Cert.ReferenceQKIdeal.S_ .f32 0x358637BD#32))))))
    (broadcastInDim Cert.ReferenceQKIdeal.S8192x16x128 ![0, 1, 2] Cert.ReferenceQKIdeal.Gen.bcast_S1x16x128_S8192x16x128_0_1_2
      (broadcastInDim Cert.ReferenceQKIdeal.S1x16x128 ![1, 2] Cert.ReferenceQKIdeal.Gen.bcast_S16x128_S1x16x128_1_2 (shapeCast _ g Cert.ReferenceQKIdeal.Gen.shapeCasts_S1x16x128_S16x128)))

/-- The scaled queries and the keys, side by side. -/
def heads (H : FVec Ideal Cert.ReferenceQKIdeal.S8192x4096 .bf16) (W : FVec Ideal Cert.ReferenceQKIdeal.S1x4096x14352 .f32) (gq gk : FVec Ideal Cert.ReferenceQKIdeal.S1x16x128 .f32) :
    FVec Ideal Cert.ReferenceQKIdeal.S8192x4096 .bf16 :=
  truncf .bf16 (concatenate Cert.ReferenceQKIdeal.S8192x4096 1
    [⟨Cert.ReferenceQKIdeal.S8192x2048, shapeCast _ (mulf (normed (queryHeads H W) gq)
        (broadcastInDim Cert.ReferenceQKIdeal.S8192x16x128 ![] Cert.ReferenceQKIdeal.Gen.bcast_S_S8192x16x128 (constant Cert.ReferenceQKIdeal.S_ .f32 0x3E0293EE#32)))
        Cert.ReferenceQKIdeal.Gen.shapeCasts_S8192x16x128_S8192x2048⟩,
     ⟨Cert.ReferenceQKIdeal.S8192x2048, shapeCast _ (normed (keyHeads H W) gk) Cert.ReferenceQKIdeal.Gen.shapeCasts_S8192x16x128_S8192x2048⟩]
    Cert.ReferenceQKIdeal.Gen.concatenates_S8192x2048_S8192x2048_S8192x4096_d1) Cert.ReferenceQKIdeal.Gen.bitsLt_bf16_f32

/-- A normalised head of the reference is `headNorm` of the head's row. -/
theorem normed_at (x : FVec Ideal Cert.ReferenceQKIdeal.S8192x16x128 .f32) (g : FVec Ideal Cert.ReferenceQKIdeal.S1x16x128 .f32) (r : Fin 8192) (h : Fin 16) (l : Fin 128) :
    normed x g (ix3 r h l) = headNorm (fun k => x (ix3 r h k)) l (g (ix3 0 h l)) := by
  pointwise [normed, headNorm]

/-- The column of the projection that holds entry `l` of the head of column `j`. -/
def headCol (j : Fin 4096) (l : Fin 128) : Fin 14352 := ⟨j.val / 128 * 128 + l.val, by have := j.isLt; have := l.isLt; omega⟩

/-- The gain of column `j`: the queries' gains times their scale, then the keys' gains. -/
def gainAt (gq gk : FVec Ideal Cert.ReferenceQKIdeal.S1x16x128 .f32) (j : Fin 4096) : EReal :=
  if h : j.val < 2048 then
    gq (ix3 0 (⟨j.val / 128, by omega⟩ : Fin 16) (⟨j.val % 128, by omega⟩ : Fin 128)) * Ideal.ofBits .f32 0x3E0293EE#32
  else gk (ix3 0 (⟨(j.val - 2048) / 128, by have := j.isLt; omega⟩ : Fin 16) (⟨(j.val - 2048) % 128, by omega⟩ : Fin 128))

/-- The reference's result at row `r` and column `j`, whichever half the column is in. -/
theorem heads_at (H : FVec Ideal Cert.ReferenceQKIdeal.S8192x4096 .bf16) (W : FVec Ideal Cert.ReferenceQKIdeal.S1x4096x14352 .f32) (gq gk : FVec Ideal Cert.ReferenceQKIdeal.S1x16x128 .f32)
    (r : Fin 8192) (j : Fin 4096) :
    heads H W gq gk (ix2 r j) = headNorm (fun l => ∑ k : Fin 4096, H (ix2 r k) * W (ix3 0 k (headCol j l)))
      ⟨j.val % 128, by omega⟩ (gainAt gq gk j) := by
  pointwise [heads]
  by_cases h : j.val < 2048
  · rw [dif_pos h, gainAt, dif_pos h]
    refine (Ideal.mul_congr (normed_at ..) rfl).trans ?_
    refine (headNorm_assoc _ _ _ _).trans (headNorm_congr (fun l => ?_) rfl rfl)
    pointwise [queryHeads]
    refine Finset.sum_congr rfl fun k _ => Ideal.mul_congr rfl (congrArg W ((ix3_inj ..).2 ⟨rfl, rfl, Fin.ext ?_⟩))
    simp [headCol]
  · rw [dif_neg h, gainAt, dif_neg h]
    refine (normed_at ..).trans ?_
    refine headNorm_congr (fun l => ?_) (Fin.ext ?_) rfl
    · pointwise [keyHeads]
      refine Finset.sum_congr rfl fun k _ => Ideal.mul_congr rfl (congrArg W ((ix3_inj ..).2 ⟨rfl, rfl, Fin.ext ?_⟩))
      simp only [headCol]
      omega
    · show (j.val - 2048) % 128 = j.val % 128
      omega

/-- Where each window of grid point `t` sits: row block `t / 8`, column block `t % 8`. -/
theorem places : ∀ t : Fin cfg0.N, win0_0.index t = ![t.val / 8, 0] ∧ win0_1.index t = ![0, t.val % 8 * 512, 0]
    ∧ win0_2.index t = ![0, t.val % 8] ∧ win0_3.index t = ![t.val / 8, t.val % 8] ∧ t.val / 8 < 8 :=
  (by decide +kernel : ∀ t : Fin grid0.N, _)

/-- An index of the weight's window lies at the window's offset plus the index. -/
theorem place1 (t : Fin cfg0.N) (z : S1x512x4096.Idx) (a : Fin 3) :
    (((View.whole main_v0).slice (win0_1.rect t)).emb z a : ℕ) = win0_1.index t a + (z a).val :=
  Pipeline.Window.rect_emb_val_off win0_1 t z a

/-- The weight's window at an index is the weight at its row, in the column the window's offset gives. -/
theorem weight_at (c : Dev nD) (t : Fin cfg0.N) (i : Fin 512) (k : Fin 4096) :
    (show EReal from iblk m c 1 t (ix3 0 i k)) = m ((c : Thread nD τ).loc main_arg1)
      (ix3 0 k (⟨t.val % 8 * 512 + i.val, by have := i.isLt; omega⟩ : Fin 14352)) := by
  show V m c main_v0 (((View.whole main_v0).slice (win0_1.rect t)).emb (ix3 0 i k)) = _
  entry_read
  pointwise
  refine congrArg _ ((ix3_inj ..).2 ⟨rfl, Fin.ext ?_, Fin.ext ?_⟩)
  · exact (place1 t _ 2).trans (by rw [(places t).2.1]; exact Nat.zero_add _)
  · exact (place1 t _ 1).trans (by rw [(places t).2.1]; rfl)

/-- The gains' window at an index is the gain of its column. -/
theorem gain_at (c : Dev nD) (t : Fin cfg0.N) (i : Fin 512) :
    (show EReal from iblk m c 2 t (ix2 0 i)) = gainAt (m ((c : Thread nD τ).loc main_arg2)) (m ((c : Thread nD τ).loc main_arg3))
      ⟨t.val % 8 * 512 + i.val, by have := i.isLt; omega⟩ := by
  show V m c main_v7 (((View.whole main_v7).slice (win0_2.rect t)).emb (ix2 0 i)) = _
  entry_read
  pointwise
  refine congrArg (gainAt (m ((c : Thread nD τ).loc main_arg2)) (m ((c : Thread nD τ).loc main_arg3))) (Fin.ext ?_)
  blk_simp [places t]

/-- The first head's payload. -/
theorem pay_head0 (v0 : FVec Ideal S1024x4096 .bf16) (v1 : FVec Ideal S1x512x4096 .f32) (v5 : FVec Ideal S1x512 .f32) (r : Fin 1024) (l : Fin 128) :
    k0_pay5 (F := Ideal) v0 v1 v5 (ix2 r l) = headNorm (fun k => ∑ d : Fin 4096, v0 (ix2 r d) * v1 (ix3 0 (⟨128 * 0 + k.val, by omega⟩ : Fin 512) d)) l
      (v5 (ix2 0 (⟨128 * 0 + l.val, by omega⟩ : Fin 512))) := by
  pointwise [k0_pay5, k0_pay3, k0_pay4, headNorm]

/-- The second head's payload. -/
theorem pay_head1 (v0 : FVec Ideal S1024x4096 .bf16) (v1 : FVec Ideal S1x512x4096 .f32) (v5 : FVec Ideal S1x512 .f32) (r : Fin 1024) (l : Fin 128) :
    k0_pay6 (F := Ideal) v0 v1 v5 (ix2 r l) = headNorm (fun k => ∑ d : Fin 4096, v0 (ix2 r d) * v1 (ix3 0 (⟨128 * 1 + k.val, by omega⟩ : Fin 512) d)) l
      (v5 (ix2 0 (⟨128 * 1 + l.val, by omega⟩ : Fin 512))) := by
  pointwise [k0_pay6, k0_pay3, k0_pay4, headNorm]

/-- The third head's payload. -/
theorem pay_head2 (v0 : FVec Ideal S1024x4096 .bf16) (v1 : FVec Ideal S1x512x4096 .f32) (v5 : FVec Ideal S1x512 .f32) (r : Fin 1024) (l : Fin 128) :
    k0_pay1 (F := Ideal) (k0_pay3 (F := Ideal) v0 v1) (k0_pay4 (F := Ideal) v5) (ix2 r l) = headNorm (fun k => ∑ d : Fin 4096, v0 (ix2 r d) * v1 (ix3 0 (⟨128 * 2 + k.val, by omega⟩ : Fin 512) d)) l
      (v5 (ix2 0 (⟨128 * 2 + l.val, by omega⟩ : Fin 512))) := by
  pointwise [k0_pay1, k0_pay3, k0_pay4, headNorm]

/-- The fourth head's payload. -/
theorem pay_head3 (v0 : FVec Ideal S1024x4096 .bf16) (v1 : FVec Ideal S1x512x4096 .f32) (v5 : FVec Ideal S1x512 .f32) (r : Fin 1024) (l : Fin 128) :
    k0_pay2 (F := Ideal) (k0_pay3 (F := Ideal) v0 v1) (k0_pay4 (F := Ideal) v5) (ix2 r l) = headNorm (fun k => ∑ d : Fin 4096, v0 (ix2 r d) * v1 (ix3 0 (⟨128 * 3 + k.val, by omega⟩ : Fin 512) d)) l
      (v5 (ix2 0 (⟨128 * 3 + l.val, by omega⟩ : Fin 512))) := by
  pointwise [k0_pay2, k0_pay3, k0_pay4, headNorm]

/-- A head of the block's product, normalised, is the reference's entry at the head's place: `q` is the head's number in
    the block. -/
theorem head_at (c : Dev nD) (t : Fin cfg0.N) (q : Fin 4) (r : Fin 1024) (l : Fin 128) (j : S8192x4096.Idx)
    (h0 : (j 0).val = t.val / 8 * 1024 + r.val) (h1 : (j 1).val = t.val % 8 * 512 + (128 * q.val + l.val)) :
    headNorm (fun k => ∑ d : Fin 4096, (show EReal from iblk m c 0 t (ix2 r d))
        * (show EReal from iblk m c 1 t (ix3 0 (⟨128 * q.val + k.val, by omega⟩ : Fin 512) d))) l
      (show EReal from iblk m c 2 t (ix2 0 (⟨128 * q.val + l.val, by omega⟩ : Fin 512)))
    = heads (m ((c : Thread nD τ).loc main_arg0)) (m ((c : Thread nD τ).loc main_arg1)) (m ((c : Thread nD τ).loc main_arg2))
          (m ((c : Thread nD τ).loc main_arg3)) j := by
  have hj : j = ix2 (j 0) (j 1) := eq_ix2 j
  rw [hj, gain_at m c t]
  refine Eq.trans ?_ (heads_at _ _ _ _ (j 0) (j 1)).symm
  have ht : t.val / 8 < 8 := (places t).2.2.2.2
  have hl : l = (⟨(j 1).val % 128, by omega⟩ : Fin 128) := Fin.ext (by show l.val = (j 1).val % 128; omega)
  have hc : (⟨t.val % 8 * 512 + (128 * q.val + l.val), by omega⟩ : Fin 4096) = j 1 := Fin.ext h1.symm
  refine (congrArg (headNorm _ l) (congrArg (gainAt _ _) hc)).trans ?_
  refine headNorm_congr (fun k => Finset.sum_congr rfl fun d _ => Ideal.mul_congr ?_ ((weight_at m c t _ d).trans ?_)) hl rfl
  · blk_ext [iblk, V, places t]
  · refine congrArg _ ((ix3_inj ..).2 ⟨rfl, rfl, Fin.ext ?_⟩)
    show t.val % 8 * 512 + (128 * q.val + k.val) = (j 1).val / 128 * 128 + k.val
    omega

/-- The zero offset of a two-axis load. -/
theorem zero2 : (![0, 0] : Fin 2 → ℕ) = fun _ => 0 := by funext a; fin_cases a <;> rfl

/-- The zero offset of a three-axis load. -/
theorem zero3 : (![0, 0, 0] : Fin 3 → ℕ) = fun _ => 0 := by funext a; fin_cases a <;> rfl

/-- The activation's block is loaded whole. -/
theorem ld0 (X : Vec Ideal S1024x4096 .bf16) : View.ld X r0_0 = X := View.ld_unit_zero zero2 _ X

/-- The weight's block is loaded whole. -/
theorem ld1 (X : Vec Ideal S1x512x4096 .f32) : View.ld X r0_1 = X := View.ld_unit_zero zero3 _ X

/-- The gains' block is loaded whole. -/
theorem ld2 (X : Vec Ideal S1x512 .f32) : View.ld X r0_2 = X := View.ld_unit_zero zero2 _ X

/-- What a grid point leaves at an index of its block is the reference's entry at that index's place. -/
theorem at_point (c : Dev nD) (t : Fin cfg0.N) (y) :
    out0_3 (iblk m c 0 t) (iblk m c 1 t) (iblk m c 2 t) y
      = heads (m ((c : Thread nD τ).loc main_arg0)) (m ((c : Thread nD τ).loc main_arg1)) (m ((c : Thread nD τ).loc main_arg2))
          (m ((c : Thread nD τ).loc main_arg3)) (((cfg0.win 3).blk t).view.emb y) := by
  unfold_out out0_3
  canon_tiles x h
  all_goals rw [ld0, ld1, ld2]
  case piece0 =>
    rw [show x = ix2 (x 0) (x 1) from eq_ix2 x]
    exact (pay_head3 _ _ _ (x 0) (x 1)).trans (head_at m c t 3 (x 0) (x 1) _ (by blk_simp [places t] <;> omega) (by blk_simp [places t] <;> omega))
  case piece1 =>
    rw [show x = ix2 (x 0) (x 1) from eq_ix2 x]
    exact (pay_head2 _ _ _ (x 0) (x 1)).trans (head_at m c t 2 (x 0) (x 1) _ (by blk_simp [places t] <;> omega) (by blk_simp [places t] <;> omega))
  case piece2 =>
    rw [show x = ix2 (x 0) (x 1) from eq_ix2 x]
    exact (pay_head1 _ _ _ (x 0) (x 1)).trans (head_at m c t 1 (x 0) (x 1) _ (by blk_simp [places t] <;> omega) (by blk_simp [places t] <;> omega))
  case piece3 =>
    rw [show x = ix2 (x 0) (x 1) from eq_ix2 x]
    exact (pay_head0 _ _ _ (x 0) (x 1)).trans (head_at m c t 0 (x 0) (x 1) _ (by blk_simp [places t] <;> omega) (by blk_simp [places t] <;> omega))

/-- The result array after the run. -/
theorem final (c : Dev nD) : (dats m 0 c).arrAt 3 cfg0.N
    = heads (m ((c : Thread nD τ).loc main_arg0)) (m ((c : Thread nD τ).loc main_arg1)) (m ((c : Thread nD τ).loc main_arg2))
          (m ((c : Thread nD τ).loc main_arg3)) := by
  refine (dats m 0 c).arrAt_eq_of_covers 3 _ (by decide +kernel) fun t _ y => ?_
  blk_simp
  rw [after0_3]
  exact at_point m c t y

end Cert.KernelQKIdeal.Heads

namespace Cert

open Idealize.ShloMosaic Idealize.ShloMosaic.TcCoe Idealize.SL.Sem

/-- The query and key projection leaves its reference's result, over the extended reals. -/
theorem qk_algebraic : Cert.algebraic_KernelQKIdeal_ReferenceQKIdeal
    (hKernelQKIdeal := Cert.KernelQKIdeal.Gen.facts) (hReferenceQKIdeal := Cert.ReferenceQKIdeal.Gen.facts) := by
  pair_intro
  · run_from Cert.KernelQKIdeal.Gen.run_main m g
  · run_from Cert.ReferenceQKIdeal.Value.run m' g'
    rw [(hagree c).2.2.2]
    exact (Cert.KernelQKIdeal.Heads.final m c).symm

/-- The reference of the query and key projection runs to the end and leaves its arguments. -/
theorem qk_reference_frame : Cert.quiescent_ReferenceQKIdeal (hReferenceQKIdeal := Cert.ReferenceQKIdeal.Gen.facts) := by
  intro m g _
  exact (θ_run Cert.ReferenceQKIdeal.defs _ _).mono
    (fun r h => ⟨fun c => (h c).2, Idealize.ShloMosaic.sem_eq_zero_of_no_sems (by decide) r.2⟩)
    (Cert.ReferenceQKIdeal.Value.run m g)

end Cert
-- ==== Proof.VValue.lean ====
/-
  The value projection: the array the call leaves is the reference's transposed slice of the projection. The weight
  arrives transposed, and each of its windows is a run of rows starting past the query and key columns.
-/
module

public import proofs.«01_k».proof.Defs
public import proofs.«01_k».proof.Proof.Gen.KernelVIdeal.Value
public import proofs.«01_k».proof.Proof.Gen.ReferenceVIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelVIdeal.Values

open Cert.KernelVIdeal Cert.KernelVIdeal.Gen Idealize.ShloMosaic Idealize.ShloMosaic.TcCoe Idealize.SL.Sem
open Idealize.ShloMosaic.Pipeline (Dat)

variable (m : (ℓ : Loc nD τ sig) → Buf (Elt Ideal) ℓ)

/-- The value columns of the projection, transposed. -/
def values (H : FVec Ideal Cert.ReferenceVIdeal.S8192x4096 .bf16) (W : FVec Ideal Cert.ReferenceVIdeal.S1x4096x14352 .f32) :
    FVec Ideal Cert.ReferenceVIdeal.S2048x8192 .bf16 :=
  truncf .bf16 (transpose Cert.ReferenceVIdeal.S2048x8192 [1, 0] (extractStridedSlice Cert.ReferenceVIdeal.S8192x2048 ![0, 4096]
    (Host.dotGeneral Cert.ReferenceVIdeal.dot_S8192x4096_S4096x14352_S8192x14352_1_0_0_1_n_n none
      (extf .f32 H Cert.ReferenceVIdeal.Gen.bitsLt_bf16_f32)
      (shapeCast _ W Cert.ReferenceVIdeal.Gen.shapeCasts_S1x4096x14352_S4096x14352))
    Cert.ReferenceVIdeal.Gen.slices_S8192x14352_S8192x2048_0_4096) Cert.ReferenceVIdeal.Gen.transposes_S8192x2048_S2048x8192_1_0)
    Cert.ReferenceVIdeal.Gen.bitsLt_bf16_f32

/-- Where each window of grid point `t` sits: row block `t / 4`, value block `t % 4`. -/
theorem places : ∀ t : Fin cfg0.N, win0_0.index t = ![t.val / 4, 0] ∧ win0_1.index t = ![0, 4096 + t.val % 4 * 512, 0]
    ∧ win0_2.index t = ![t.val % 4, t.val / 4] ∧ t.val / 4 < 8 :=
  (by decide +kernel : ∀ t : Fin grid0.N, _)

/-- An index of the weight's window lies at the window's offset plus the index. -/
theorem place1 (t : Fin cfg0.N) (z : S1x512x4096.Idx) (a : Fin 3) :
    (((View.whole main_v0).slice (win0_1.rect t)).emb z a : ℕ) = win0_1.index t a + (z a).val :=
  Pipeline.Window.rect_emb_val_off win0_1 t z a

/-- The weight's window at an index is the weight at its row, in the column the window's offset gives. -/
theorem weight_at (c : Dev nD) (t : Fin cfg0.N) (i : Fin 512) (k : Fin 4096) :
    (show EReal from iblk m c 1 t (ix3 0 i k)) = m ((c : Thread nD τ).loc main_arg1)
      (ix3 0 k (⟨4096 + (t.val % 4 * 512 + i.val), by have := i.isLt; omega⟩ : Fin 14352)) := by
  show V m c main_v0 (((View.whole main_v0).slice (win0_1.rect t)).emb (ix3 0 i k)) = _
  entry_read
  pointwise
  refine congrArg _ ((ix3_inj ..).2 ⟨rfl, Fin.ext ?_, Fin.ext ?_⟩)
  · exact (place1 t _ 2).trans (by rw [(places t).2.1]; exact Nat.zero_add _)
  · exact (place1 t _ 1).trans (by rw [(places t).2.1]; exact Nat.add_assoc _ _ _)

/-- What a grid point stores at an index of its block is the transposed projection at that index's place. -/
theorem at_point (c : Dev nD) (t : Fin cfg0.N) (y) :
    k0_pay1 (iblk m c 1 t) (iblk m c 0 t) y
      = values (m ((c : Thread nD τ).loc main_arg0)) (m ((c : Thread nD τ).loc main_arg1)) (((cfg0.win 2).blk t).view.emb y) := by
  pointwise [k0_pay1, values]
  refine Finset.sum_congr rfl fun k _ => (mul_comm _ _).trans (Ideal.mul_congr ?_ ((weight_at m c t (y 0) k).trans ?_))
  · blk_ext [iblk, V, places t]
  · blk_ext [places t]

/-- The result array after the run. -/
theorem final (c : Dev nD) : (dats m 0 c).arrAt 2 cfg0.N
    = values (m ((c : Thread nD τ).loc main_arg0)) (m ((c : Thread nD τ).loc main_arg1)) := by
  refine (dats m 0 c).arrAt_eq_of_covers 2 _ (by decide +kernel) fun t _ y => ?_
  blk_simp
  rw [after0_2]; frame_out
  exact at_point m c t y

end Cert.KernelVIdeal.Values

namespace Cert

open Idealize.ShloMosaic Idealize.ShloMosaic.TcCoe Idealize.SL.Sem

/-- The value projection leaves its reference's result, over the extended reals. -/
theorem v_algebraic : Cert.algebraic_KernelVIdeal_ReferenceVIdeal
    (hKernelVIdeal := Cert.KernelVIdeal.Gen.facts) (hReferenceVIdeal := Cert.ReferenceVIdeal.Gen.facts) := by
  pair_intro
  · run_from Cert.KernelVIdeal.Gen.run_main m g
  · run_from Cert.ReferenceVIdeal.Value.run m' g'
    exact (Cert.KernelVIdeal.Values.final m c).symm

/-- The reference of the value projection runs to the end and leaves its arguments. -/
theorem v_reference_frame : Cert.quiescent_ReferenceVIdeal (hReferenceVIdeal := Cert.ReferenceVIdeal.Gen.facts) := by
  intro m g _
  exact (θ_run Cert.ReferenceVIdeal.defs _ _).mono
    (fun r h => ⟨fun c => (h c).2, Idealize.ShloMosaic.sem_eq_zero_of_no_sems (by decide) r.2⟩)
    (Cert.ReferenceVIdeal.Value.run m g)

end Cert
-- ==== Proof.HgrnValue.lean ====
/-
  The recurrent branch's input projection, which also makes the modulation of the later sublayers: the two arrays the
  call leaves are the reference's slice of the projection and its slice of the modulation. The weight arrives
  transposed, and each of its windows is a run of rows starting past the attention's columns.
-/
module

public import proofs.«01_k».proof.Defs
public import proofs.«01_k».proof.Proof.Gen.KernelHgrnIdeal.Value
public import proofs.«01_k».proof.Proof.Gen.ReferenceHgrnIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelHgrnIdeal.Inputs

open Cert.KernelHgrnIdeal Cert.KernelHgrnIdeal.Gen Idealize.ShloMosaic Idealize.ShloMosaic.TcCoe Idealize.SL.Sem
open Idealize.ShloMosaic.Pipeline (Dat)

variable (m : (ℓ : Loc nD τ sig) → Buf (Elt Ideal) ℓ)

/-- The recurrent branch's columns of the projection. -/
def inputs (H : FVec Ideal Cert.ReferenceHgrnIdeal.S8192x4096 .bf16) (W : FVec Ideal Cert.ReferenceHgrnIdeal.S1x4096x14352 .f32) : FVec Ideal Cert.ReferenceHgrnIdeal.S8192x8192 .f32 :=
  extractStridedSlice Cert.ReferenceHgrnIdeal.S8192x8192 ![0, 6160]
    (Host.dotGeneral Cert.ReferenceHgrnIdeal.dot_S8192x4096_S4096x14352_S8192x14352_1_0_0_1_n_n none (extf .f32 H Cert.ReferenceHgrnIdeal.Gen.bitsLt_bf16_f32)
      (shapeCast _ W Cert.ReferenceHgrnIdeal.Gen.shapeCasts_S1x4096x14352_S4096x14352)) Cert.ReferenceHgrnIdeal.Gen.slices_S8192x14352_S8192x8192_0_6160

/-- The later two thirds of the modulation: the gated conditioning times its weight, plus its bias. -/
def modulation (C : FVec Ideal Cert.ReferenceHgrnIdeal.S1x4096 .f32) (A : FVec Ideal Cert.ReferenceHgrnIdeal.S1x4096x24576 .f32) (B : FVec Ideal Cert.ReferenceHgrnIdeal.S1x24576 .f32) :
    FVec Ideal Cert.ReferenceHgrnIdeal.S1x16384 .f32 :=
  extractStridedSlice Cert.ReferenceHgrnIdeal.S1x16384 ![0, 8192] (addf (Host.dotGeneral Cert.ReferenceHgrnIdeal.dot_S1x4096_S4096x24576_S1x24576_1_0_0_1_n_n none
    (mulf C (Host.divf (broadcastInDim Cert.ReferenceHgrnIdeal.S1x4096 ![] Cert.ReferenceHgrnIdeal.Gen.bcast_S_S1x4096 (constant Cert.ReferenceHgrnIdeal.S_ .f32 0x3F800000#32))
      (addf (broadcastInDim Cert.ReferenceHgrnIdeal.S1x4096 ![] Cert.ReferenceHgrnIdeal.Gen.bcast_S_S1x4096 (constant Cert.ReferenceHgrnIdeal.S_ .f32 0x3F800000#32)) (Host.exp (Host.negf C)))))
    (shapeCast _ A Cert.ReferenceHgrnIdeal.Gen.shapeCasts_S1x4096x24576_S4096x24576))
    (broadcastInDim Cert.ReferenceHgrnIdeal.S1x24576 ![1] Cert.ReferenceHgrnIdeal.Gen.bcast_S24576_S1x24576_1 (shapeCast _ B Cert.ReferenceHgrnIdeal.Gen.shapeCasts_S1x24576_S24576)))
    Cert.ReferenceHgrnIdeal.Gen.slices_S1x24576_S1x16384_0_8192

/-- Where each window of grid point `t` sits: row block `t / 16` and column block `t % 16` of the projection, and
    column block `t` of the modulation. -/
theorem places : ∀ t : Fin cfg0.N, win0_0.index t = ![t.val / 16, 0] ∧ win0_1.index t = ![0, 6160 + t.val % 16 * 512, 0]
    ∧ win0_2.index t = ![0, 0] ∧ win0_3.index t = ![0, 0, 64 + t.val] ∧ win0_4.index t = ![0, 64 + t.val]
    ∧ win0_5.index t = ![t.val / 16, t.val % 16] ∧ win0_6.index t = ![0, t.val] ∧ t.val / 16 < 8 :=
  (by decide +kernel : ∀ t : Fin grid0.N, _)

/-- An index of the projection weight's window lies at the window's offset plus the index. -/
theorem place1 (t : Fin cfg0.N) (z : S1x512x4096.Idx) (a : Fin 3) :
    (((View.whole main_v1).slice (win0_1.rect t)).emb z a : ℕ) = win0_1.index t a + (z a).val :=
  Pipeline.Window.rect_emb_val_off win0_1 t z a

/-- The weight's window at an index is the weight at its row, in the column the window's offset gives. -/
theorem weight_at (c : Dev nD) (t : Fin cfg0.N) (i : Fin 512) (k : Fin 4096) :
    (show EReal from iblk m c 1 t (ix3 0 i k)) = m ((c : Thread nD τ).loc main_arg1)
      (ix3 0 k (⟨6160 + (t.val % 16 * 512 + i.val), by have := i.isLt; omega⟩ : Fin 14352)) := by
  show V m c main_v1 (((View.whole main_v1).slice (win0_1.rect t)).emb (ix3 0 i k)) = _
  entry_read
  pointwise
  refine congrArg _ ((ix3_inj ..).2 ⟨rfl, Fin.ext ?_, Fin.ext ?_⟩)
  · exact (place1 t _ 2).trans (by rw [(places t).2.1]; exact Nat.zero_add _)
  · exact (place1 t _ 1).trans (by rw [(places t).2.1]; exact Nat.add_assoc _ _ _)

/-- What a grid point stores in its block of the projection is the reference's slice there. -/
theorem inputs_at (c : Dev nD) (t : Fin cfg0.N) (y) :
    k0_pay1 (iblk m c 0 t) (iblk m c 1 t) y
      = inputs (m ((c : Thread nD τ).loc main_arg0)) (m ((c : Thread nD τ).loc main_arg1)) (((cfg0.win 5).blk t).view.emb y) := by
  pointwise [k0_pay1, inputs]
  refine Finset.sum_congr rfl fun k _ => Ideal.mul_congr ?_ ((weight_at m c t (y 1) k).trans ?_)
  · blk_ext [iblk, V, places t]
  · blk_ext [places t]

/-- A number times its sigmoid, the sigmoid written out as a quotient. -/
theorem gate_congr {a b : EReal} (h : a = b) : a * Ideal.logistic a = b * Ideal.div 1 (1 + Ideal.exp (-b)) := by
  subst h; rfl

/-- What a grid point stores in its block of the modulation is the reference's slice there. -/
theorem modulation_at (c : Dev nD) (t : Fin cfg0.N) (y) :
    k0_pay2 (iblk m c 2 t) (iblk m c 3 t) (iblk m c 4 t) y
      = modulation (m ((c : Thread nD τ).loc main_arg2)) (m ((c : Thread nD τ).loc main_arg3)) (m ((c : Thread nD τ).loc main_arg4))
          (((cfg0.win 6).blk t).view.emb y) := by
  pointwise [k0_pay2, modulation]
  refine congrArg₂ (· + ·) (Finset.sum_congr rfl fun k _ => (mul_comm _ _).trans ?_) ?_
  · refine Ideal.mul_congr (gate_congr ?_) ?_
    · blk_point [iblk, V, places t]
    · blk_ext [iblk, V, places t]
  · blk_point [iblk, V, places t]

/-- The projection's array after the run. -/
theorem final_inputs (c : Dev nD) : (dats m 0 c).arrAt 5 cfg0.N
    = inputs (m ((c : Thread nD τ).loc main_arg0)) (m ((c : Thread nD τ).loc main_arg1)) := by
  refine (dats m 0 c).arrAt_eq_of_covers 5 _ (by decide +kernel) fun t _ y => ?_
  blk_simp
  rw [after0_5]; frame_out
  exact inputs_at m c t y

/-- The modulation's array after the run. -/
theorem final_modulation (c : Dev nD) : (dats m 0 c).arrAt 6 cfg0.N
    = modulation (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact modulation_at m c t y

end Cert.KernelHgrnIdeal.Inputs

namespace Cert

open Idealize.ShloMosaic Idealize.ShloMosaic.TcCoe Idealize.SL.Sem

/-- The recurrent branch's input projection and the late modulation are their reference's results, over the extended
    reals. -/
theorem hgrn_algebraic : Cert.algebraic_KernelHgrnIdeal_ReferenceHgrnIdeal
    (hKernelHgrnIdeal := Cert.KernelHgrnIdeal.Gen.facts) (hReferenceHgrnIdeal := Cert.ReferenceHgrnIdeal.Gen.facts) := by
  pair_intro
  · run_from Cert.KernelHgrnIdeal.Gen.run_main m g
  · run_from Cert.ReferenceHgrnIdeal.Value.run m' g'
    · exact (Cert.KernelHgrnIdeal.Inputs.final_inputs m c).symm
    · exact (Cert.KernelHgrnIdeal.Inputs.final_modulation m c).symm

/-- The reference of the recurrent branch's input projection runs to the end and leaves its arguments. -/
theorem hgrn_reference_frame : Cert.quiescent_ReferenceHgrnIdeal (hReferenceHgrnIdeal := Cert.ReferenceHgrnIdeal.Gen.facts) := by
  intro m g _
  exact (θ_run Cert.ReferenceHgrnIdeal.defs _ _).mono
    (fun r h => ⟨fun c => (h c).2.2, Idealize.ShloMosaic.sem_eq_zero_of_no_sems (by decide) r.2⟩)
    (Cert.ReferenceHgrnIdeal.Value.run m g)

end Cert
-- ==== Proof.OutValue.lean ====
/-
  The output projection: the array the call leaves is the reference's residual sum. The two row windows of the weight
  are the two halves of the contraction.
-/
module

public import proofs.«01_k».proof.Proof.Gen.KernelOutIdeal.Value
public import proofs.«01_k».proof.Proof.Gen.ReferenceOutIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.KernelOutIdeal.Residual

open Cert.KernelOutIdeal Cert.KernelOutIdeal.Gen Idealize.ShloMosaic Idealize.ShloMosaic.TcCoe Idealize.SL.Sem
open Idealize.ShloMosaic.Pipeline (Dat)

variable (m : (ℓ : Loc nD τ sig) → Buf (Elt Ideal) ℓ)

/-- The residual plus the gated product of the two attention outputs, side by side, with the weight. -/
def residual (A B : FVec Ideal Cert.ReferenceOutIdeal.S8192x2048 .bf16) (W : FVec Ideal Cert.ReferenceOutIdeal.S1x4096x4096 .f32)
    (X : FVec Ideal Cert.ReferenceOutIdeal.S8192x4096 .f32) (g : FVec Ideal Cert.ReferenceOutIdeal.S1x4096 .f32) :
    FVec Ideal Cert.ReferenceOutIdeal.S8192x4096 .f32 :=
  addf X (mulf (broadcastInDim Cert.ReferenceOutIdeal.S8192x4096 ![0, 1] Cert.ReferenceOutIdeal.Gen.bcast_S1x4096_S8192x4096_0_1 g)
    (Host.dotGeneral Cert.ReferenceOutIdeal.dot_S8192x4096_S4096x4096_S8192x4096_1_0_0_1_n_n none
      (concatenate Cert.ReferenceOutIdeal.S8192x4096 1
        [⟨Cert.ReferenceOutIdeal.S8192x2048, extf .f32 A Cert.ReferenceOutIdeal.Gen.bitsLt_bf16_f32⟩,
         ⟨Cert.ReferenceOutIdeal.S8192x2048, extf .f32 B Cert.ReferenceOutIdeal.Gen.bitsLt_bf16_f32⟩]
        Cert.ReferenceOutIdeal.Gen.concatenates_S8192x2048_S8192x2048_S8192x4096_d1)
      (shapeCast _ W Cert.ReferenceOutIdeal.Gen.shapeCasts_S1x4096x4096_S4096x4096)))

/-- Where each window of grid point `t` sits: row block `t / 8`, column block `t % 8`. -/
theorem places : ∀ t : Fin cfg0.N, win0_0.index t = ![t.val / 8, 0] ∧ win0_1.index t = ![t.val / 8, 0]
    ∧ win0_2.index t = ![0, 0, t.val % 8 * 512] ∧ win0_3.index t = ![0, 2048, t.val % 8 * 512]
    ∧ win0_4.index t = ![t.val / 8, t.val % 8] ∧ win0_5.index t = ![0, t.val % 8] ∧ win0_6.index t = ![t.val / 8, t.val % 8]
    ∧ t.val / 8 < 8 :=
  (by decide +kernel : ∀ t : Fin grid0.N, _)

/-- An index of the upper half's window of the weight lies at the window's offset plus the index. -/
theorem place2 (t : Fin cfg0.N) (z : S1x2048x512.Idx) (a : Fin 3) :
    (((View.whole main_arg2).slice (win0_2.rect t)).emb z a : ℕ) = win0_2.index t a + (z a).val :=
  Pipeline.Window.rect_emb_val_off win0_2 t z a

/-- An index of the lower half's window of the weight lies at the window's offset plus the index. -/
theorem place3 (t : Fin cfg0.N) (z : S1x2048x512.Idx) (a : Fin 3) :
    (((View.whole main_arg2).slice (win0_3.rect t)).emb z a : ℕ) = win0_3.index t a + (z a).val :=
  Pipeline.Window.rect_emb_val_off win0_3 t z a

/-- What a grid point stores at an index of its block is the residual sum at that index's place in the array. -/
theorem at_point (c : Dev nD) (t : Fin cfg0.N) (y) :
    k0_pay1 (iblk m c 0 t) (iblk m c 2 t) (iblk m c 1 t) (iblk m c 3 t) (iblk m c 4 t) (iblk m c 5 t) y
      = residual (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay1, residual]
  blk_point [iblk, V, places t]
  · exact (place2 t _ 1).trans (by rw [(places t).2.2.1]; exact Nat.zero_add _)
  · exact (place2 t _ 2).trans (by rw [(places t).2.2.1]; rfl)
  · exact (place3 t _ 1).trans (by rw [(places t).2.2.2.1]; rfl)
  · exact (place3 t _ 2).trans (by rw [(places t).2.2.2.1]; rfl)

/-- The result array after the run. -/
theorem final (c : Dev nD) : (dats m 0 c).arrAt 6 cfg0.N
    = residual (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]; frame_out
  exact at_point m c t y

end Cert.KernelOutIdeal.Residual

namespace Cert

open Idealize.ShloMosaic Idealize.ShloMosaic.TcCoe Idealize.SL.Sem

/-- The output projection leaves its reference's result, over the extended reals. -/
theorem out_algebraic : Cert.algebraic_KernelOutIdeal_ReferenceOutIdeal
    (hKernelOutIdeal := Cert.KernelOutIdeal.Gen.facts) (hReferenceOutIdeal := Cert.ReferenceOutIdeal.Gen.facts) := by
  pair_intro
  · run_from Cert.KernelOutIdeal.Gen.run_main m g
  · run_from Cert.ReferenceOutIdeal.Value.run m' g'
    exact (Cert.KernelOutIdeal.Residual.final m c).symm

/-- The reference of the output projection runs to the end and leaves its arguments. -/
theorem out_reference_frame : Cert.quiescent_ReferenceOutIdeal (hReferenceOutIdeal := Cert.ReferenceOutIdeal.Gen.facts) := by
  intro m g _
  exact (θ_run Cert.ReferenceOutIdeal.defs _ _).mono
    (fun r h => ⟨fun c => (h c).2, Idealize.ShloMosaic.sem_eq_zero_of_no_sems (by decide) r.2⟩)
    (Cert.ReferenceOutIdeal.Value.run m g)

end Cert
-- ==== Proof.DownValue.lean ====
/-
  The expert down projection: the array the call leaves, reshaped, is the reference's residual sum. The contraction over
  the experts is accumulated over eight grid points.
-/
module

public import proofs.«01_k».proof.Proof.Gen.KernelDownIdeal.Frame
public import proofs.«01_k».proof.Proof.Gen.ReferenceDownIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.KernelDownIdeal.Experts

open Cert.KernelDownIdeal Cert.KernelDownIdeal.Gen Idealize.ShloMosaic Idealize.ShloMosaic.TcCoe Idealize.SL.Sem
open Idealize.ShloMosaic.Pipeline (Dat)

variable (m : (ℓ : Loc nD τ sig) → Buf (Elt Ideal) ℓ)

/-- The residual plus the gated product of the activations with the down table. -/
def mixed (A : FVec Ideal Cert.ReferenceDownIdeal.S8192x16384 .bf16) (T : FVec Ideal Cert.ReferenceDownIdeal.S16384x4096 .bf16)
    (X : FVec Ideal Cert.ReferenceDownIdeal.S8192x4096 .f32) (g : FVec Ideal Cert.ReferenceDownIdeal.S1x4096 .f32) :
    FVec Ideal Cert.ReferenceDownIdeal.S8192x4096 .f32 :=
  addf X (mulf (broadcastInDim Cert.ReferenceDownIdeal.S8192x4096 ![0, 1] Cert.ReferenceDownIdeal.Gen.bcast_S1x4096_S8192x4096_0_1 g)
    (Host.dotGeneral Cert.ReferenceDownIdeal.dot_S8192x16384_S16384x4096_S8192x4096_1_0_0_1_n_n none
      (extf .f32 A Cert.ReferenceDownIdeal.Gen.bitsLt_bf16_f32) (extf .f32 T Cert.ReferenceDownIdeal.Gen.bitsLt_bf16_f32)))

/-- Where each window of grid point `t` sits: row block `t / 32`, column block `t / 8 % 4`, expert block `t % 8`. -/
theorem places : ∀ t : Fin cfg0.N, win0_0.index t = ![t.val / 32, t.val % 8] ∧ win0_1.index t = ![t.val % 8, t.val / 8 % 4]
    ∧ win0_2.index t = ![t.val / 32, t.val / 8 % 4] ∧ win0_3.index t = ![0, t.val / 8 % 4]
    ∧ win0_4.index t = ![t.val / 32, t.val / 8 % 4] ∧ t.val / 32 < 8 :=
  (by decide +kernel : ∀ t : Fin grid0.N, _)

/-- The accumulator starts at zero. -/
theorem starts (j) : k0_pay1 (F := Ideal) j = 0 := by pointwise [k0_pay1]

/-- A grid point adds its expert block's products to the accumulator. -/
theorem adds (acc : Vec Ideal S1024x1024 .f32) (x0 : Vec Ideal S1024x2048 .bf16) (x1 : Vec Ideal S2048x1024 .bf16) (j) :
    k0_pay2 acc x0 x1 j = acc j + ∑ k : Fin 2048, x0 (ix2 (j 0) k) * x1 (ix2 k (j 1)) := by pointwise [k0_pay2]

/-- The accumulator's buffer holding `x` reads as `x`. -/
theorem held (x : Vec Ideal S1024x1024 .f32) :
    View.read (Elt Ideal) (View.whole cc0_scratch0) ((Memref.isWhole_whole cc0_scratch0).unread x) = x :=
  (Memref.isWhole_whole cc0_scratch0).read_unread x

/-- The last point of a run stores the residual plus the gated accumulator. -/
theorem stores (c : Dev nD) (t : Fin cfg0.N) (h0 : ¬t.val % 8 = 0) (h1 : t.val % 8 = 7) :
    (outsAt0 m c t.val t.isLt).1 = k0_pay3 (iblk m c 2 t) (iblk m c 3 t) (outsAt0 m c t.val t.isLt).2 := by
  rw [outsAt0_C m c t h0 h1]; frame_out

/-- The result array after the run, before its reshape. -/
theorem final (c : Dev nD) : (dats m 0 c).arrAt 4 cfg0.N
    = mixed (m ((c : Thread nD τ).loc main_arg0)) (m ((c : Thread nD τ).loc main_arg1)) (m ((c : Thread nD τ).loc main_arg2))
          (m ((c : Thread nD τ).loc main_arg3)) := by
  refine (dats m 0 c).arrAt_eq_of_covers 4 _ (by decide +kernel) fun t hf y => ?_
  have h7 : t.val % 8 = 7 := (flush0_4 t).mp hf
  blk_simp
  rw [after0_4, stores m c t (by omega) h7]
  pointwise [k0_pay3, mixed]
  refine congrArg₂ (· + ·) ?_ (congrArg₂ (· * ·) ?_ ?_)
  · blk_point [iblk, V0, places t]
  · blk_point [iblk, V0, places t]
  · rw [Pipeline.eq_sum_fin_of_reset_step_apply_of_flush (fun n h => (outsAt0 m c n h).2) 8 (fun _ => 0) _
      (fun t h j => by rw [outsAt0_A m c t h (by omega)]; frame_out; rw [adds, starts])
      (fun t h j => by
        by_cases h7 : t.val % 8 = 7
        · rw [outsAt0_C m c t h h7]; frame_out; rw [adds]; exact congrArg (· + _) (congrFun (held _) j)
        · rw [outsAt0_B m c t h h7]; frame_out; rw [adds]; exact congrArg (· + _) (congrFun (held _) j)) t h7 _]
    refine (zero_add (_ : EReal)).trans ?_
    refine Fin.sum_mul_add_congr fun s k hl => ?_
    blk_point [iblk, V0, places t, places ⟨_, Pipeline.run_point_lt_of_flush t h7 s⟩]

/-- The reshaped result after the run. -/
theorem reshaped (c : Dev nD) : Pipeline.afterTail₀ cfgs (dats m) 0 (V0 m) [hostOps1] c main_v1
    = shapeCast Cert.ReferenceDownIdeal.S1x8192x4096 (mixed (m ((c : Thread nD τ).loc main_arg0)) (m ((c : Thread nD τ).loc main_arg1))
        (m ((c : Thread nD τ).loc main_arg2)) (m ((c : Thread nD τ).loc main_arg3)))
        Cert.ReferenceDownIdeal.Gen.shapeCasts_S8192x4096_S1x8192x4096 := by
  rw [← final m c]
  unfold Pipeline.afterTail₀
  simp only [hostOps1, List.flatten_cons, List.flatten_nil, List.append_nil]
  after_results
  rw [Pipeline.withArrays_arr spec0 (by decide) c (V0 m c) (fun w => (dats m 0 c).arrAt w (cfgs 0).N) 4]
  rfl

end Cert.KernelDownIdeal.Experts

namespace Cert

open Idealize.ShloMosaic Idealize.ShloMosaic.TcCoe Idealize.SL.Sem

/-- The down projection leaves its reference's result, over the extended reals. -/
theorem down_algebraic : Cert.algebraic_KernelDownIdeal_ReferenceDownIdeal
    (hKernelDownIdeal := Cert.KernelDownIdeal.Gen.facts) (hReferenceDownIdeal := Cert.ReferenceDownIdeal.Gen.facts) := by
  pair_intro
  · run_from Cert.KernelDownIdeal.Gen.run_main m g
  · run_from Cert.ReferenceDownIdeal.Value.run m' g'
    exact (Cert.KernelDownIdeal.Experts.reshaped m c).symm

/-- The reference of the down projection runs to the end and leaves its arguments. -/
theorem down_reference_frame : Cert.quiescent_ReferenceDownIdeal (hReferenceDownIdeal := Cert.ReferenceDownIdeal.Gen.facts) := by
  intro m g _
  exact (θ_run Cert.ReferenceDownIdeal.defs _ _).mono
    (fun r h => ⟨fun c => (h c).2, Idealize.ShloMosaic.sem_eq_zero_of_no_sems (by decide) r.2⟩)
    (Cert.ReferenceDownIdeal.Value.run m g)

end Cert

end
-- ==== Proof.AttnTripBits.lean ====
/- One round of the attention's loop: four key blocks, run once from any contents; what it leaves is the model's. -/
module

public import proofs.«01_k».proof.Proof.Gen.KernelAttn.Loops
public import proofs.«01_k».proof.Proof.AttnModelBits
public import Idealize.ShloMosaic.Lib.Exec
public import Idealize.ShloMosaic.Lib.Tactic
public import Idealize.ShloMosaic.Lib.Pipeline.Kit
public import Idealize.ShloMosaic.Lib.Pipeline.ReadBack

@[expose] public section

set_option maxRecDepth 8192
set_option maxHeartbeats 4000000

noncomputable section

namespace Cert.KernelAttn.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttn.Gen

variable {F : FTy → Type} [FloatOps F]

local notation "𝕄G" => MT nD τ sig Unit (Elt F) ℕ (UR sig nD τ) ℕ

/-- What the score buffer, the maximum and the accumulator hold after `n` whole key blocks: the scores of block `n`, and
    the two lane groups' states. -/
structure After (I : In F) (n : ℕ) (arg11 : Memref sig .tc .vmem S512x512 .f32) (arg13 : Memref sig .tc .vmem S1x512 .f32) (arg14 : Memref sig .tc .vmem S144x512 .f32) (f11 : BufTy.Contents (Elt F) arg11.view.ty) (f13 : BufTy.Contents (Elt F) arg13.view.ty) (f14 : BufTy.Contents (Elt F) arg14.view.ty) : Prop where
  sl : arg11.view.readAt (Elt F) sLo.toLoadRect f11 = lo (I.sc n)
  sr : arg11.view.readAt (Elt F) sHi.toLoadRect f11 = hi (I.sc n)
  ml : arg13.view.readAt (Elt F) mLo.toLoadRect f13 = (I.st lo n).1
  mr : arg13.view.readAt (Elt F) mHi.toLoadRect f13 = (I.st hi n).1
  al : arg14.view.readAt (Elt F) aLo.toLoadRect f14 = (I.st lo n).2
  ar : arg14.view.readAt (Elt F) aHi.toLoadRect f14 = (I.st hi n).2

/-- Where a block of the loop lies. -/
theorem off2_eq : ∀ (i : grid0.Coords) (k : Fin (k0_t1_loop i).trips) (r : Fin 4), k0_off2 i k (BitVec.ofNat 32 r.val) = ![512 * ((4 * k.val + r.val + 1) % 16), 0] := by
  decide +kernel

/-- Where a block of the loop lies. -/
theorem off3_eq : ∀ (i : grid0.Coords) (k : Fin (k0_t1_loop i).trips) (r : Fin 4), k0_off3 i k (BitVec.ofNat 32 r.val) = ![0, 512 * ((4 * k.val + r.val) % 16), 0] := by
  decide +kernel

/-- Where a block of the loop lies. -/
theorem off4_eq : ∀ (i : grid0.Coords) (k : Fin (k0_t1_loop i).trips) (r : Fin 4), k0_off4 i k (BitVec.ofNat 32 r.val) = ![0, 512 * ((4 * k.val + r.val) % 16)] := by
  decide +kernel

/-- The number of trips of the loop. -/
theorem trips_eq : ∀ i : grid0.Coords, (k0_t1_loop i).trips = (i 1).val / 4 := by
  decide +kernel

/-- The key, gate and value blocks a round loads are the model's. -/
theorem ldK (i : grid0.Coords) (k : Fin (k0_t1_loop i).trips) (r : Fin 4) (x : Vec F S8192x128 .bf16) (h) :
    View.ld x (Rect.unit (s := S8192x128) (k0_off2 i k (BitVec.ofNat 32 r.val)) S512x128.size h) = kB x (4 * k.val + r.val + 1) :=
  ld_unit_congr x _ _ (off2_eq i k r)

/-- A gate block as the body loads it. -/
theorem ldC (i : grid0.Coords) (k : Fin (k0_t1_loop i).trips) (r : Fin 4) (x : Vec F S1x8192x128 .f32) (h) :
    View.ld x (Rect.unit (s := S1x8192x128) (k0_off3 i k (BitVec.ofNat 32 r.val)) S1x512x128.size h) = cB x (4 * k.val + r.val) :=
  ld_unit_congr x _ _ (off3_eq i k r)

/-- A value block as the body loads it. -/
theorem ldV (i : grid0.Coords) (k : Fin (k0_t1_loop i).trips) (r : Fin 4) (x : Vec F S128x8192 .bf16) (h) :
    View.ld x (Rect.unit (s := S128x8192) (k0_off4 i k (BitVec.ofNat 32 r.val)) S128x512.size h) = vB x (4 * k.val + r.val) :=
  ld_unit_congr x _ _ (off4_eq i k r)

/-- Reading back the last store made, and reading past a store elsewhere. -/
theorem readAt_hit {S : Shape} {e : EltTy} (m : Memref sig .tc .vmem S e) (f : BufTy.Contents (Elt F) m.view.ty) (r : Rect S) (w : r.shape.Idx → Elt F e) (L : List (View.Piece (Elt F) S e)) :
    m.view.readAt (Elt F) r.toLoadRect (m.view.writes (Elt F) f (⟨r, w⟩ :: L)) = w := by
  funext x
  exact View.read_writes_cons_emb m.view f r w L x

/-- A read outside the lanes last written. -/
theorem readAt_skip {S : Shape} {e : EltTy} (m : Memref sig .tc .vmem S e) (f : BufTy.Contents (Elt F) m.view.ty) (r : Rect S) (w : r.shape.Idx → Elt F e) (L : List (View.Piece (Elt F) S e))
    (B : LoadRect S) (h : LoadRect.disj r B = true) :
    m.view.readAt (Elt F) B (m.view.writes (Elt F) f (⟨r, w⟩ :: L)) = m.view.readAt (Elt F) B (m.view.writes (Elt F) f L) := by
  funext x
  exact View.read_writes_cons_miss m.view f ⟨r, w⟩ L _ (LoadRect.idx_not_mem_of_disj h x)

/-- A read of the lanes last written. -/
theorem readAt_fill {S : Shape} {e : EltTy} (m : Memref sig .tc .vmem S e) (f : BufTy.Contents (Elt F) m.view.ty) {off : Fin S.rank → ℕ} (inb : ∀ a, off a + S.size a ≤ S.size a)
    (w : S.Idx → Elt F e) (L : List (View.Piece (Elt F) S e)) (r : Rect S) (h : ∀ a, off a = 0) :
    m.view.readAt (Elt F) r.toLoadRect (m.view.writes (Elt F) f (⟨Rect.unit off S.size inb, w⟩ :: L)) = View.ld w r := by
  refine (View.readAt_writes_of_cover m.view f _ _ fun j => ?_).trans (View.readCov_fill m.view inb w L r h)
  refine ⟨_, List.mem_cons_self, ?_⟩
  exact View.mem_set_unit_zero (funext h) inb _

/-- The step of the accumulator reads its arguments entry by entry. -/
theorem stepA_congr {v v' : FVec F S144x512 .bf16} {s s' : FVec F S512x256 .f32} {m m' : Vec F S1x256 .f32} {a a' : Vec F S144x256 .f32}
    (hv : v = v') (hs : s = s') (hm : m = m') (ha : a = a') : stepA v s m a = stepA v' s' m' a' := by
  rw [hv, hs, hm, ha]

/-- One round takes the state after `4 k` blocks to the state after `4 (k + 1)`. -/
theorem after_step (𝒱 : Variants) (c : Dev nD) (bd : Option 𝒱.V) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (arg1 : BitVec 32) (v27 : FVec F S512x512 .f32) (q : Vec F S512x128 .bf16) (cf : FVec F S1x128 .f32) (vo : FVec F S16x512 .bf16)
    (X_arg3 : BufTy.Contents (Elt F) arg3.view.ty) (X_arg4 : BufTy.Contents (Elt F) arg4.view.ty) (X_arg5 : BufTy.Contents (Elt F) arg5.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (k : Fin (k0_t1_loop i).trips)
    (h : After (In.mk q cf vo (arg3.view.read (Elt F) X_arg3) (arg4.view.read (Elt F) X_arg4) (arg5.view.read (Elt F) X_arg5)) (4 * k.val) arg11 arg13 arg14 f_arg11 f_arg13 f_arg14) :
    After (In.mk q cf vo (arg3.view.read (Elt F) X_arg3) (arg4.view.read (Elt F) X_arg4) (arg5.view.read (Elt F) X_arg5)) (4 * (k.val + 1)) arg11 arg13 arg14
      (arg11.view.writes (Elt F) f_arg11 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X_arg3 X_arg4 X_arg5 k).1 f_arg11 f_arg12 f_arg13 f_arg14))
      (arg13.view.writes (Elt F) f_arg13 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X_arg3 X_arg4 X_arg5 k).2.2.1 f_arg11 f_arg12 f_arg13 f_arg14))
      (arg14.view.writes (Elt F) f_arg14 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X_arg3 X_arg4 X_arg5 k).2.2.2.1 f_arg11 f_arg12 f_arg13 f_arg14)) := by
  obtain ⟨sl, sr, ml, mr, al, ar⟩ := h
  have k0 := fun x h => ldK (F := F) i k 0 x h
  have k1 := fun x h => ldK (F := F) i k 1 x h
  have k2 := fun x h => ldK (F := F) i k 2 x h
  have k3 := fun x h => ldK (F := F) i k 3 x h
  have c0 := fun x h => ldC (F := F) i k 0 x h
  have c1 := fun x h => ldC (F := F) i k 1 x h
  have c2 := fun x h => ldC (F := F) i k 2 x h
  have c3 := fun x h => ldC (F := F) i k 3 x h
  have v0 := fun x h => ldV (F := F) i k 0 x h
  have v1 := fun x h => ldV (F := F) i k 1 x h
  have v2 := fun x h => ldV (F := F) i k 2 x h
  have v3 := fun x h => ldV (F := F) i k 3 x h
  rw [show 4 * (k.val + 1) = 4 * k.val + 1 + 1 + 1 + 1 from by omega]
  let I : In F := (In.mk q cf vo (arg3.view.read (Elt F) X_arg3) (arg4.view.read (Elt F) X_arg4) (arg5.view.read (Elt F) X_arg5))
  have s1 : _ = I.sc (4 * k.val + 1) := congrArg (scores q) (k0 (arg3.view.read (Elt F) X_arg3) (by rw [off2_eq]; exact inbK _))
  have s2 : _ = I.sc (4 * k.val + 1 + 1) := congrArg (scores q) (k1 (arg3.view.read (Elt F) X_arg3) (by rw [off2_eq]; exact inbK _))
  have s3 : _ = I.sc (4 * k.val + 1 + 1 + 1) := congrArg (scores q) (k2 (arg3.view.read (Elt F) X_arg3) (by rw [off2_eq]; exact inbK _))
  have s4 : _ = I.sc (4 * k.val + 1 + 1 + 1 + 1) := congrArg (scores q) (k3 (arg3.view.read (Elt F) X_arg3) (by rw [off2_eq]; exact inbK _))
  have b0 : _ = bias cf (cB (arg5.view.read (Elt F) X_arg5) (4 * k.val)) := congrArg (bias cf) (c0 (arg5.view.read (Elt F) X_arg5) (by rw [off3_eq]; exact inbC _))
  have b1 : _ = bias cf (cB (arg5.view.read (Elt F) X_arg5) (4 * k.val + 1)) := congrArg (bias cf) (c1 (arg5.view.read (Elt F) X_arg5) (by rw [off3_eq]; exact inbC _))
  have b2 : _ = bias cf (cB (arg5.view.read (Elt F) X_arg5) (4 * k.val + 1 + 1)) := congrArg (bias cf) (c2 (arg5.view.read (Elt F) X_arg5) (by rw [off3_eq]; exact inbC _))
  have b3 : _ = bias cf (cB (arg5.view.read (Elt F) X_arg5) (4 * k.val + 1 + 1 + 1)) := congrArg (bias cf) (c3 (arg5.view.read (Elt F) X_arg5) (by rw [off3_eq]; exact inbC _))
  have t0 : _ = I.vt (4 * k.val) := congrArg (vOnes vo) (v0 (arg4.view.read (Elt F) X_arg4) (by rw [off4_eq]; exact inbV _))
  have t1 : _ = I.vt (4 * k.val + 1) := congrArg (vOnes vo) (v1 (arg4.view.read (Elt F) X_arg4) (by rw [off4_eq]; exact inbV _))
  have t2 : _ = I.vt (4 * k.val + 1 + 1) := congrArg (vOnes vo) (v2 (arg4.view.read (Elt F) X_arg4) (by rw [off4_eq]; exact inbV _))
  have t3 : _ = I.vt (4 * k.val + 1 + 1 + 1) := congrArg (vOnes vo) (v3 (arg4.view.read (Elt F) X_arg4) (by rw [off4_eq]; exact inbV _))
  have g0lo : _ = I.gs lo (4 * k.val) := congrArg₂ addf sl b0
  have m0lo : _ = (I.st lo (4 * k.val + 1)).1 := congrArg₂ stepM g0lo ml
  have a0lo : _ = (I.st lo (4 * k.val + 1)).2 := stepA_congr t0 g0lo ml al
  have g0hi : _ = I.gs hi (4 * k.val) := congrArg₂ addf sr b0
  have m0hi : _ = (I.st hi (4 * k.val + 1)).1 := congrArg₂ stepM g0hi mr
  have a0hi : _ = (I.st hi (4 * k.val + 1)).2 := stepA_congr t0 g0hi mr ar
  have l1lo : (trip_k0_t1.sl.v171 (F := F) i arg3 arg12 q X_arg3 k) = lo (I.sc (4 * k.val + 1)) := (View.readCov_fill _ _ _ _ _ (by decide)).trans (congrArg lo s1)
  have lm1lo : (trip_k0_t1.sl.v173 (F := F) i arg5 arg11 arg13 cf X_arg5 k f_arg11 f_arg13) = (I.st lo (4 * k.val + 1)).1 := (View.readCov_skip _ _ _ _ _ (by decide)).trans ((View.readCov_cons_toLoadRect _ _ _ _).trans m0lo)
  have la1lo : (trip_k0_t1.sl.v182 (F := F) i arg4 arg5 arg11 arg13 arg14 cf vo X_arg4 X_arg5 k f_arg11 f_arg13 f_arg14) = (I.st lo (4 * k.val + 1)).2 := (View.readCov_skip _ _ _ _ _ (by decide)).trans ((View.readCov_cons_toLoadRect _ _ _ _).trans a0lo)
  have g1lo : _ = I.gs lo (4 * k.val + 1) := congrArg₂ addf l1lo b1
  have m1lo : _ = (I.st lo (4 * k.val + 1 + 1)).1 := congrArg₂ stepM g1lo lm1lo
  have a1lo : _ = (I.st lo (4 * k.val + 1 + 1)).2 := stepA_congr t1 g1lo lm1lo la1lo
  have l1hi : (trip_k0_t1.sl.v194 (F := F) i arg3 arg12 q X_arg3 k) = hi (I.sc (4 * k.val + 1)) := (View.readCov_fill _ _ _ _ _ (by decide)).trans (congrArg hi s1)
  have lm1hi : (trip_k0_t1.sl.v196 (F := F) i arg3 arg5 arg11 arg12 arg13 q cf X_arg3 X_arg5 k f_arg11 f_arg13) = (I.st hi (4 * k.val + 1)).1 := (View.readCov_skip _ _ _ _ _ (by decide)).trans ((View.readCov_cons_toLoadRect _ _ _ _).trans m0hi)
  have la1hi : (trip_k0_t1.sl.v205 (F := F) i arg3 arg4 arg5 arg11 arg12 arg13 arg14 q cf vo X_arg3 X_arg4 X_arg5 k f_arg11 f_arg13 f_arg14) = (I.st hi (4 * k.val + 1)).2 := (View.readCov_skip _ _ _ _ _ (by decide)).trans ((View.readCov_cons_toLoadRect _ _ _ _).trans a0hi)
  have g1hi : _ = I.gs hi (4 * k.val + 1) := congrArg₂ addf l1hi b1
  have m1hi : _ = (I.st hi (4 * k.val + 1 + 1)).1 := congrArg₂ stepM g1hi lm1hi
  have a1hi : _ = (I.st hi (4 * k.val + 1 + 1)).2 := stepA_congr t1 g1hi lm1hi la1hi
  have l2lo : (trip_k0_t1.sl.v239 (F := F) i arg3 arg11 q X_arg3 k) = lo (I.sc (4 * k.val + 1 + 1)) := (View.readCov_fill _ _ _ _ _ (by decide)).trans (congrArg lo s2)
  have lm2lo : (trip_k0_t1.sl.v241 (F := F) i arg3 arg5 arg11 arg12 arg13 q cf X_arg3 X_arg5 k f_arg11 f_arg13) = (I.st lo (4 * k.val + 1 + 1)).1 := (View.readCov_skip _ _ _ _ _ (by decide)).trans ((View.readCov_cons_toLoadRect _ _ _ _).trans m1lo)
  have la2lo : (trip_k0_t1.sl.v250 (F := F) i arg3 arg4 arg5 arg11 arg12 arg13 arg14 q cf vo X_arg3 X_arg4 X_arg5 k f_arg11 f_arg13 f_arg14) = (I.st lo (4 * k.val + 1 + 1)).2 := (View.readCov_skip _ _ _ _ _ (by decide)).trans ((View.readCov_cons_toLoadRect _ _ _ _).trans a1lo)
  have g2lo : _ = I.gs lo (4 * k.val + 1 + 1) := congrArg₂ addf l2lo b2
  have m2lo : _ = (I.st lo (4 * k.val + 1 + 1 + 1)).1 := congrArg₂ stepM g2lo lm2lo
  have a2lo : _ = (I.st lo (4 * k.val + 1 + 1 + 1)).2 := stepA_congr t2 g2lo lm2lo la2lo
  have l2hi : (trip_k0_t1.sl.v262 (F := F) i arg3 arg11 q X_arg3 k) = hi (I.sc (4 * k.val + 1 + 1)) := (View.readCov_fill _ _ _ _ _ (by decide)).trans (congrArg hi s2)
  have lm2hi : (trip_k0_t1.sl.v264 (F := F) i arg3 arg5 arg11 arg12 arg13 q cf X_arg3 X_arg5 k f_arg11 f_arg13) = (I.st hi (4 * k.val + 1 + 1)).1 := (View.readCov_skip _ _ _ _ _ (by decide)).trans ((View.readCov_cons_toLoadRect _ _ _ _).trans m1hi)
  have la2hi : (trip_k0_t1.sl.v273 (F := F) i arg3 arg4 arg5 arg11 arg12 arg13 arg14 q cf vo X_arg3 X_arg4 X_arg5 k f_arg11 f_arg13 f_arg14) = (I.st hi (4 * k.val + 1 + 1)).2 := (View.readCov_skip _ _ _ _ _ (by decide)).trans ((View.readCov_cons_toLoadRect _ _ _ _).trans a1hi)
  have g2hi : _ = I.gs hi (4 * k.val + 1 + 1) := congrArg₂ addf l2hi b2
  have m2hi : _ = (I.st hi (4 * k.val + 1 + 1 + 1)).1 := congrArg₂ stepM g2hi lm2hi
  have a2hi : _ = (I.st hi (4 * k.val + 1 + 1 + 1)).2 := stepA_congr t2 g2hi lm2hi la2hi
  have l3lo : (trip_k0_t1.sl.v307 (F := F) i arg3 arg12 q X_arg3 k) = lo (I.sc (4 * k.val + 1 + 1 + 1)) := (View.readCov_fill _ _ _ _ _ (by decide)).trans (congrArg lo s3)
  have lm3lo : (trip_k0_t1.sl.v309 (F := F) i arg3 arg5 arg11 arg12 arg13 q cf X_arg3 X_arg5 k f_arg11 f_arg13) = (I.st lo (4 * k.val + 1 + 1 + 1)).1 := (View.readCov_skip _ _ _ _ _ (by decide)).trans ((View.readCov_cons_toLoadRect _ _ _ _).trans m2lo)
  have la3lo : (trip_k0_t1.sl.v318 (F := F) i arg3 arg4 arg5 arg11 arg12 arg13 arg14 q cf vo X_arg3 X_arg4 X_arg5 k f_arg11 f_arg13 f_arg14) = (I.st lo (4 * k.val + 1 + 1 + 1)).2 := (View.readCov_skip _ _ _ _ _ (by decide)).trans ((View.readCov_cons_toLoadRect _ _ _ _).trans a2lo)
  have g3lo : _ = I.gs lo (4 * k.val + 1 + 1 + 1) := congrArg₂ addf l3lo b3
  have m3lo : _ = (I.st lo (4 * k.val + 1 + 1 + 1 + 1)).1 := congrArg₂ stepM g3lo lm3lo
  have a3lo : _ = (I.st lo (4 * k.val + 1 + 1 + 1 + 1)).2 := stepA_congr t3 g3lo lm3lo la3lo
  have l3hi : (trip_k0_t1.sl.v330 (F := F) i arg3 arg12 q X_arg3 k) = hi (I.sc (4 * k.val + 1 + 1 + 1)) := (View.readCov_fill _ _ _ _ _ (by decide)).trans (congrArg hi s3)
  have lm3hi : (trip_k0_t1.sl.v332 (F := F) i arg3 arg5 arg11 arg12 arg13 q cf X_arg3 X_arg5 k f_arg11 f_arg13) = (I.st hi (4 * k.val + 1 + 1 + 1)).1 := (View.readCov_skip _ _ _ _ _ (by decide)).trans ((View.readCov_cons_toLoadRect _ _ _ _).trans m2hi)
  have la3hi : (trip_k0_t1.sl.v341 (F := F) i arg3 arg4 arg5 arg11 arg12 arg13 arg14 q cf vo X_arg3 X_arg4 X_arg5 k f_arg11 f_arg13 f_arg14) = (I.st hi (4 * k.val + 1 + 1 + 1)).2 := (View.readCov_skip _ _ _ _ _ (by decide)).trans ((View.readCov_cons_toLoadRect _ _ _ _).trans a2hi)
  have g3hi : _ = I.gs hi (4 * k.val + 1 + 1 + 1) := congrArg₂ addf l3hi b3
  have m3hi : _ = (I.st hi (4 * k.val + 1 + 1 + 1 + 1)).1 := congrArg₂ stepM g3hi lm3hi
  have a3hi : _ = (I.st hi (4 * k.val + 1 + 1 + 1 + 1)).2 := stepA_congr t3 g3hi lm3hi la3hi
  refine ⟨?_, ?_, ?_, ?_, ?_, ?_⟩ <;> unfold trip_k0_t1 <;> dsimp only
  · exact (readAt_fill _ _ _ _ _ _ (by decide)).trans (congrArg lo s4)
  · exact (readAt_fill _ _ _ _ _ _ (by decide)).trans (congrArg hi s4)
  · exact (readAt_skip _ _ _ _ _ _ (by decide)).trans ((readAt_hit _ _ _ _ _).trans m3lo)
  · exact (readAt_hit _ _ _ _ _).trans m3hi
  · exact (readAt_skip _ _ _ _ _ _ (by decide)).trans ((readAt_hit _ _ _ _ _).trans a3lo)
  · exact (readAt_hit _ _ _ _ _).trans a3hi

end Cert.KernelAttn.Attn

end
-- ==== Proof.AttnBody1Bits.lean ====
/- The attention's body, run once per case of its last blocks. -/
module

public import proofs.«01_k».proof.Proof.Gen.KernelAttn.Frame
public import proofs.«01_k».proof.Proof.AttnLoopBits

@[expose] public section

set_option maxRecDepth 16384

noncomputable section

namespace Cert.KernelAttn.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttn.Gen

variable {F : FTy → Type} [FloatOps F]

local notation "𝕄" => MT nD τ sig Unit (Elt F) ℕ (UR sig nD τ) ℕ

set_option maxHeartbeats 2000000 in
/-- The body when the query block's index is 1 past a multiple of four: it leaves its inputs, the output block of the
    model, and the two tables rounded. -/
theorem run_1 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (x0 : Vec F S512x128 .bf16) (x1 : Vec F S8192x128 .bf16) (x2 : Vec F S128x8192 .bf16) (x3 : Vec F S1x8192x128 .f32) (x4 : Vec F S1x64x4096 .f32) (x5 : Vec F S1x64x4096 .f32)
    (hr : (i 1).val % 4 = 1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 i x0 x1 x2 x3) ∗ owns (c : Thread nD τ) arg9 fullShare (k0_pay202 x4) ∗ owns (c : Thread nD τ) arg10 fullShare (k0_pay203 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13 arg14 harg14) K := by
  simp only [cc0_fox_attention_eq_skeleton]; unfold cc0_fox_attention_skel
  have htr := trips2_eq i
  have hc1 : ¬ k0_cond1 i = 1#1 := by revert hr; revert i; decide +kernel
  have hc2 : k0_cond2 i = 1#1 := by revert hr; revert i; decide +kernel
  have hc3 : ¬ k0_cond3 i = 1#1 := by revert hr; revert i; decide +kernel
  have hc4 : ¬ k0_cond4 i = 1#1 := by revert hr; revert i; decide +kernel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7
  sl_exec (disch := first | sl_exact hc1 | sl_exact hc2 | sl_exact hc3 | sl_exact hc4)
  obtain ⟨N, hN⟩ : ∃ N, N = 4 * ((i 1).val / 4) := ⟨_, rfl⟩
  have hi1 : (i 1).val = N + 1 := by omega
  let I : In F := In.mk (run_1.sl.r (F := F) c arg2 f2) (run_1.sl.r_1 (F := F) c i arg5 f5) (k0_pay207 (F := F)) (arg3.view.read (Elt F) f3) (arg4.view.read (Elt F) f4) (arg5.view.read (Elt F) f5)
  have z0 : k0_pay209 (run_1.sl.r_2 (F := F) c arg2 arg3 f2 f3) = I.sc 0 := congrArg (scores (run_1.sl.r (F := F) c arg2 f2)) (ld_unit_congr (arg3.view.read (Elt F) f3) inb_S8192x128_S512x128_0_0 (inbK 0) (by decide))
  have h0 : After I 0 arg11 arg13 arg14 (arg11.view.writes (Elt F) arg11.view.junk (run_1.sl.H11_1 (F := F) c arg2 arg3 f2 f3)) (arg13.view.writes (Elt F) arg13.view.junk (run_1.sl.H13_1 (F := F) )) (arg14.view.writes (Elt F) arg14.view.junk (run_1.sl.H14_1 (F := F) )) := ⟨(readAt_fill _ _ _ _ _ _ (by decide)).trans (congrArg lo z0), (readAt_fill _ _ _ _ _ _ (by decide)).trans (congrArg hi z0), (readAt_fill _ _ _ _ _ _ (by decide)).trans rfl, (readAt_fill _ _ _ _ _ _ (by decide)).trans rfl, (readAt_fill _ _ _ _ _ _ (by decide)).trans rfl, (readAt_fill _ _ _ _ _ _ (by decide)).trans rfl⟩
  have hA := after_pb (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (run_1.sl.r (F := F) c arg2 f2) (run_1.sl.r_1 (F := F) c i arg5 f5) (k0_pay207 (F := F)) (run_1.sl.r_2 (F := F) c arg2 arg3 f2 f3) f3 f4 f5 (arg11.view.writes (Elt F) arg11.view.junk (run_1.sl.H11_1 (F := F) c arg2 arg3 f2 f3)) f12 (arg13.view.writes (Elt F) arg13.view.junk (run_1.sl.H13_1 (F := F) )) (arg14.view.writes (Elt F) arg14.view.junk (run_1.sl.H14_1 (F := F) )) h0 (k0_t1_loop i).trips le_rfl
  rw [show 4 * (k0_t1_loop i).trips = N from by rw [trips_eq]; exact hN.symm] at hA
  obtain ⟨sl, sr, ml, mr, al, ar⟩ := hA
  have oc0 : k0_off11 i (BitVec.ofNat 32 0) = ![0, 512 * ((N) % 16), 0] := by rw [hN]; exact off11_eq i hr 0
  have c0 : ∀ h, View.ld (arg5.view.read (Elt F) f5) (Rect.unit (k0_off11 i (BitVec.ofNat 32 0)) S1x512x128.size h) = cB (arg5.view.read (Elt F) f5) (N) := fun h => ld_unit_congr _ h _ oc0
  have ov0 : k0_off12 i (BitVec.ofNat 32 0) = ![0, 512 * ((N) % 16)] := by rw [hN]; exact off12_eq i hr 0
  have v0 : ∀ h, View.ld (arg4.view.read (Elt F) f4) (Rect.unit (k0_off12 i (BitVec.ofNat 32 0)) S128x512.size h) = vB (arg4.view.read (Elt F) f4) (N) := fun h => ld_unit_congr _ h _ ov0
  have oc1 : k0_off11 i (BitVec.ofNat 32 1) = ![0, 512 * ((N + 1) % 16), 0] := by rw [hN]; exact off11_eq i hr 1
  have c1 : ∀ h, View.ld (arg5.view.read (Elt F) f5) (Rect.unit (k0_off11 i (BitVec.ofNat 32 1)) S1x512x128.size h) = cB (arg5.view.read (Elt F) f5) (N + 1) := fun h => ld_unit_congr _ h _ oc1
  have ov1 : k0_off12 i (BitVec.ofNat 32 1) = ![0, 512 * ((N + 1) % 16)] := by rw [hN]; exact off12_eq i hr 1
  have v1 : ∀ h, View.ld (arg4.view.read (Elt F) f4) (Rect.unit (k0_off12 i (BitVec.ofNat 32 1)) S128x512.size h) = vB (arg4.view.read (Elt F) f4) (N + 1) := fun h => ld_unit_congr _ h _ ov1
  have ok0 : k0_off10 i = ![512 * ((N + 1) % 16), 0] := by rw [hN]; exact off10_eq i hr
  have k0 : ∀ h, View.ld (arg3.view.read (Elt F) f3) (Rect.unit (k0_off10 i) S512x128.size h) = kB (arg3.view.read (Elt F) f3) (N + 1) := fun h => ld_unit_congr _ h _ ok0
  have s1 : _ = I.sc (N + 1) := congrArg (scores (run_1.sl.r (F := F) c arg2 f2)) (k0 (by rw [ok0]; exact inbK _))
  have b0 : _ = Attn.bias (run_1.sl.r_1 (F := F) c i arg5 f5) (cB (arg5.view.read (Elt F) f5) (N)) := congrArg (Attn.bias (run_1.sl.r_1 (F := F) c i arg5 f5)) (c0 (by rw [oc0]; exact inbC _))
  have t0 : _ = I.vt (N) := congrArg (vOnes (k0_pay207 (F := F))) (v0 (by rw [ov0]; exact inbV _))
  have ls0lo : (run_1.sl.v103 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = lo (I.sc (N)) := (readCov_loops _ _ _ _ _ t2_1).trans sl
  have lm0lo : (run_1.sl.v105 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).1 := (readCov_loops _ _ _ _ _ t2_3).trans ml
  have la0lo : (run_1.sl.v114 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).2 := (readCov_loops _ _ _ _ _ t2_4).trans al
  have g0lo : _ = I.gs lo (N) := congrArg₂ addf ls0lo b0
  have m0lo : _ = (I.st lo (N + 1)).1 := congrArg₂ stepM g0lo lm0lo
  have a0lo : _ = (I.st lo (N + 1)).2 := stepA_congr t0 g0lo lm0lo la0lo
  have ls0hi : (run_1.sl.v126 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = hi (I.sc (N)) := (readCov_loops _ _ _ _ _ t2_1).trans sr
  have lm0hi : (run_1.sl.v128 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N)).1 := (View.readCov_skip _ _ _ _ _ (by decide)).trans ((readCov_loops _ _ _ _ _ t2_3).trans mr)
  have la0hi : (run_1.sl.v137 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N)).2 := (View.readCov_skip _ _ _ _ _ (by decide)).trans ((readCov_loops _ _ _ _ _ t2_4).trans ar)
  have g0hi : _ = I.gs hi (N) := congrArg₂ addf ls0hi b0
  have m0hi : _ = (I.st hi (N + 1)).1 := congrArg₂ stepM g0hi lm0hi
  have a0hi : _ = (I.st hi (N + 1)).2 := stepA_congr t0 g0hi lm0hi la0hi
  have ls1lo : (run_1.sl.v161 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = lo (I.sc (N + 1)) := (View.readCov_fill _ _ _ _ _ (by decide)).trans (congrArg lo s1)
  have lm1lo : (run_1.sl.v170 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st lo (N + 1)).1 := (View.readCov_skip _ _ _ _ _ (by decide)).trans ((View.readCov_cons_toLoadRect _ _ _ _).trans m0lo)
  have la1lo : (run_1.sl.v179 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st lo (N + 1)).2 := (View.readCov_skip _ _ _ _ _ (by decide)).trans ((View.readCov_cons_toLoadRect _ _ _ _).trans a0lo)
  have elo : _ = I.fin lo 0#32 (N + 1) := stepA_congr (congrArg (vOnes (k0_pay207 (F := F))) (v1 (by rw [ov1]; exact inbV _))) (congrArg (mask 0#32) (congrArg₂ addf ls1lo (congrArg (Attn.bias (run_1.sl.r_1 (F := F) c i arg5 f5)) (c1 (by rw [oc1]; exact inbC _))))) lm1lo la1lo
  have ls1hi : (run_1.sl.v191 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = hi (I.sc (N + 1)) := (View.readCov_fill _ _ _ _ _ (by decide)).trans (congrArg hi s1)
  have lm1hi : (run_1.sl.v200 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N + 1)).1 := (View.readCov_skip _ _ _ _ _ (by decide)).trans ((View.readCov_cons_toLoadRect _ _ _ _).trans m0hi)
  have la1hi : (run_1.sl.v209 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N + 1)).2 := (View.readCov_skip _ _ _ _ _ (by decide)).trans ((View.readCov_cons_toLoadRect _ _ _ _).trans a0hi)
  have ehi : _ = I.fin hi 256#32 (N + 1) := stepA_congr (congrArg (vOnes (k0_pay207 (F := F))) (v1 (by rw [ov1]; exact inbV _))) (congrArg (mask 256#32) (congrArg₂ addf ls1hi (congrArg (Attn.bias (run_1.sl.r_1 (F := F) c i arg5 f5)) (c1 (by rw [oc1]; exact inbC _))))) lm1hi la1hi
  have e73 : (run_1.sl.v73 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = View.ld (I.acc (N + 1)) (Rect.unit (s := S144x512) ![0, 0] S128x512.size inb_S144x512_S128x512_0_0) := readCov_halves _ _ _ _ _ _ _ _ _ halves ehi elo
  have e74 : (run_1.sl.v74 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = View.ld (I.acc (N + 1)) (Rect.unit (s := S144x512) ![128, 0] S1x512.size inb_S144x512_S1x512_128_0) := readCov_halves _ _ _ _ _ _ _ _ _ halves ehi elo
  have eq : (run_1.sl.r (F := F) c arg2 f2) = arg2.view.read (Elt F) f2 := readAt_whole _ _ _ (by decide)
  have e8 : k0_pay6 (run_1.sl.v73 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) (run_1.sl.v74 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = out8 i (arg2.view.read (Elt F) f2) (arg3.view.read (Elt F) f3) (arg4.view.read (Elt F) f4) (arg5.view.read (Elt F) f5) := by
    refine (congrArg₂ (fun a b => k0_pay6 a b) e73 e74).trans ?_
    show I.out (N + 1) = In.out _ (i 1).val
    rw [hi1, ← eq]
    rfl
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap
    · iexact H8
    · ipureintro; exact (read_fill _ _ _ _ _ (by decide)).trans e8
  isplitl [H9]
  · iexists _; isplitr
    swap
    · iexact H9
    · ipureintro; exact (read_fill _ _ _ _ _ (by decide)).trans (congrArg k0_pay202 (readAt_whole _ _ _ (by decide)))
  isplitl [H10]
  · iexists _; isplitr
    swap
    · iexact H10
    · ipureintro; exact (read_fill _ _ _ _ _ (by decide)).trans (congrArg k0_pay203 (readAt_whole _ _ _ (by decide)))
  isplitl [H11]
  · iexists _; iexists _; isplitr
    swap
    · iexact H11
    · ipureintro; rfl
  isplitl [H12]
  · iexists _; iexists _; isplitr
    swap
    · iexact H12
    · ipureintro; rfl
  isplitl [H13]
  · iexists _; iexists _; isplitr
    swap
    · iexact H13
    · ipureintro; rfl
  iexists _; iexists _; isplitr
  swap
  · iexact H14
  · ipureintro; rfl

end Cert.KernelAttn.Attn

end
-- ==== Proof.AttnBody2Bits.lean ====
/- The attention's body, run once per case of its last blocks. -/
module

public import proofs.«01_k».proof.Proof.Gen.KernelAttn.Frame
public import proofs.«01_k».proof.Proof.AttnLoopBits

@[expose] public section

set_option maxRecDepth 16384

noncomputable section

namespace Cert.KernelAttn.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttn.Gen

variable {F : FTy → Type} [FloatOps F]

local notation "𝕄" => MT nD τ sig Unit (Elt F) ℕ (UR sig nD τ) ℕ

set_option maxHeartbeats 2000000 in
/-- The body when the query block's index is 2 past a multiple of four: it leaves its inputs, the output block of the
    model, and the two tables rounded. -/
theorem run_2 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (x0 : Vec F S512x128 .bf16) (x1 : Vec F S8192x128 .bf16) (x2 : Vec F S128x8192 .bf16) (x3 : Vec F S1x8192x128 .f32) (x4 : Vec F S1x64x4096 .f32) (x5 : Vec F S1x64x4096 .f32)
    (hr : (i 1).val % 4 = 2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 i x0 x1 x2 x3) ∗ owns (c : Thread nD τ) arg9 fullShare (k0_pay202 x4) ∗ owns (c : Thread nD τ) arg10 fullShare (k0_pay203 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13 arg14 harg14) K := by
  simp only [cc0_fox_attention_eq_skeleton]; unfold cc0_fox_attention_skel
  have htr := trips2_eq i
  have hc1 : ¬ k0_cond1 i = 1#1 := by revert hr; revert i; decide +kernel
  have hc2 : ¬ k0_cond2 i = 1#1 := by revert hr; revert i; decide +kernel
  have hc3 : k0_cond3 i = 1#1 := by revert hr; revert i; decide +kernel
  have hc4 : ¬ k0_cond4 i = 1#1 := by revert hr; revert i; decide +kernel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7
  sl_exec (disch := first | sl_exact hc1 | sl_exact hc2 | sl_exact hc3 | sl_exact hc4)
  obtain ⟨N, hN⟩ : ∃ N, N = 4 * ((i 1).val / 4) := ⟨_, rfl⟩
  have hi1 : (i 1).val = N + 1 + 1 := by omega
  let I : In F := In.mk (run_2.sl.r (F := F) c arg2 f2) (run_2.sl.r_1 (F := F) c i arg5 f5) (k0_pay207 (F := F)) (arg3.view.read (Elt F) f3) (arg4.view.read (Elt F) f4) (arg5.view.read (Elt F) f5)
  have z0 : k0_pay209 (run_2.sl.r_2 (F := F) c arg2 arg3 f2 f3) = I.sc 0 := congrArg (scores (run_2.sl.r (F := F) c arg2 f2)) (ld_unit_congr (arg3.view.read (Elt F) f3) inb_S8192x128_S512x128_0_0 (inbK 0) (by decide))
  have h0 : After I 0 arg11 arg13 arg14 (arg11.view.writes (Elt F) arg11.view.junk (run_2.sl.H11_1 (F := F) c arg2 arg3 f2 f3)) (arg13.view.writes (Elt F) arg13.view.junk (run_2.sl.H13_1 (F := F) )) (arg14.view.writes (Elt F) arg14.view.junk (run_2.sl.H14_1 (F := F) )) := ⟨(readAt_fill _ _ _ _ _ _ (by decide)).trans (congrArg lo z0), (readAt_fill _ _ _ _ _ _ (by decide)).trans (congrArg hi z0), (readAt_fill _ _ _ _ _ _ (by decide)).trans rfl, (readAt_fill _ _ _ _ _ _ (by decide)).trans rfl, (readAt_fill _ _ _ _ _ _ (by decide)).trans rfl, (readAt_fill _ _ _ _ _ _ (by decide)).trans rfl⟩
  have hA := after_pb (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (run_2.sl.r (F := F) c arg2 f2) (run_2.sl.r_1 (F := F) c i arg5 f5) (k0_pay207 (F := F)) (run_2.sl.r_2 (F := F) c arg2 arg3 f2 f3) f3 f4 f5 (arg11.view.writes (Elt F) arg11.view.junk (run_2.sl.H11_1 (F := F) c arg2 arg3 f2 f3)) f12 (arg13.view.writes (Elt F) arg13.view.junk (run_2.sl.H13_1 (F := F) )) (arg14.view.writes (Elt F) arg14.view.junk (run_2.sl.H14_1 (F := F) )) h0 (k0_t1_loop i).trips le_rfl
  rw [show 4 * (k0_t1_loop i).trips = N from by rw [trips_eq]; exact hN.symm] at hA
  obtain ⟨sl, sr, ml, mr, al, ar⟩ := hA
  have oc0 : k0_off14 i (BitVec.ofNat 32 0) = ![0, 512 * ((N) % 16), 0] := by rw [hN]; exact off14_eq i hr 0
  have c0 : ∀ h, View.ld (arg5.view.read (Elt F) f5) (Rect.unit (k0_off14 i (BitVec.ofNat 32 0)) S1x512x128.size h) = cB (arg5.view.read (Elt F) f5) (N) := fun h => ld_unit_congr _ h _ oc0
  have ov0 : k0_off15 i (BitVec.ofNat 32 0) = ![0, 512 * ((N) % 16)] := by rw [hN]; exact off15_eq i hr 0
  have v0 : ∀ h, View.ld (arg4.view.read (Elt F) f4) (Rect.unit (k0_off15 i (BitVec.ofNat 32 0)) S128x512.size h) = vB (arg4.view.read (Elt F) f4) (N) := fun h => ld_unit_congr _ h _ ov0
  have oc1 : k0_off14 i (BitVec.ofNat 32 1) = ![0, 512 * ((N + 1) % 16), 0] := by rw [hN]; exact off14_eq i hr 1
  have c1 : ∀ h, View.ld (arg5.view.read (Elt F) f5) (Rect.unit (k0_off14 i (BitVec.ofNat 32 1)) S1x512x128.size h) = cB (arg5.view.read (Elt F) f5) (N + 1) := fun h => ld_unit_congr _ h _ oc1
  have ov1 : k0_off15 i (BitVec.ofNat 32 1) = ![0, 512 * ((N + 1) % 16)] := by rw [hN]; exact off15_eq i hr 1
  have v1 : ∀ h, View.ld (arg4.view.read (Elt F) f4) (Rect.unit (k0_off15 i (BitVec.ofNat 32 1)) S128x512.size h) = vB (arg4.view.read (Elt F) f4) (N + 1) := fun h => ld_unit_congr _ h _ ov1
  have oc2 : k0_off14 i (BitVec.ofNat 32 2) = ![0, 512 * ((N + 1 + 1) % 16), 0] := by rw [hN]; exact off14_eq i hr 2
  have c2 : ∀ h, View.ld (arg5.view.read (Elt F) f5) (Rect.unit (k0_off14 i (BitVec.ofNat 32 2)) S1x512x128.size h) = cB (arg5.view.read (Elt F) f5) (N + 1 + 1) := fun h => ld_unit_congr _ h _ oc2
  have ov2 : k0_off15 i (BitVec.ofNat 32 2) = ![0, 512 * ((N + 1 + 1) % 16)] := by rw [hN]; exact off15_eq i hr 2
  have v2 : ∀ h, View.ld (arg4.view.read (Elt F) f4) (Rect.unit (k0_off15 i (BitVec.ofNat 32 2)) S128x512.size h) = vB (arg4.view.read (Elt F) f4) (N + 1 + 1) := fun h => ld_unit_congr _ h _ ov2
  have ok0 : k0_off13 i (BitVec.ofNat 32 0) = ![512 * ((N + 1) % 16), 0] := by rw [hN]; exact off13_eq i hr 0
  have k0 : ∀ h, View.ld (arg3.view.read (Elt F) f3) (Rect.unit (k0_off13 i (BitVec.ofNat 32 0)) S512x128.size h) = kB (arg3.view.read (Elt F) f3) (N + 1) := fun h => ld_unit_congr _ h _ ok0
  have ok1 : k0_off13 i (BitVec.ofNat 32 1) = ![512 * ((N + 1 + 1) % 16), 0] := by rw [hN]; exact off13_eq i hr 1
  have k1 : ∀ h, View.ld (arg3.view.read (Elt F) f3) (Rect.unit (k0_off13 i (BitVec.ofNat 32 1)) S512x128.size h) = kB (arg3.view.read (Elt F) f3) (N + 1 + 1) := fun h => ld_unit_congr _ h _ ok1
  have s1 : _ = I.sc (N + 1) := congrArg (scores (run_2.sl.r (F := F) c arg2 f2)) (k0 (by rw [ok0]; exact inbK _))
  have s2 : _ = I.sc (N + 1 + 1) := congrArg (scores (run_2.sl.r (F := F) c arg2 f2)) (k1 (by rw [ok1]; exact inbK _))
  have b0 : _ = Attn.bias (run_2.sl.r_1 (F := F) c i arg5 f5) (cB (arg5.view.read (Elt F) f5) (N)) := congrArg (Attn.bias (run_2.sl.r_1 (F := F) c i arg5 f5)) (c0 (by rw [oc0]; exact inbC _))
  have t0 : _ = I.vt (N) := congrArg (vOnes (k0_pay207 (F := F))) (v0 (by rw [ov0]; exact inbV _))
  have b1 : _ = Attn.bias (run_2.sl.r_1 (F := F) c i arg5 f5) (cB (arg5.view.read (Elt F) f5) (N + 1)) := congrArg (Attn.bias (run_2.sl.r_1 (F := F) c i arg5 f5)) (c1 (by rw [oc1]; exact inbC _))
  have t1 : _ = I.vt (N + 1) := congrArg (vOnes (k0_pay207 (F := F))) (v1 (by rw [ov1]; exact inbV _))
  have ls0lo : (run_2.sl.v103 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = lo (I.sc (N)) := (readCov_loops _ _ _ _ _ t2_1).trans sl
  have lm0lo : (run_2.sl.v105 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).1 := (readCov_loops _ _ _ _ _ t2_3).trans ml
  have la0lo : (run_2.sl.v114 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).2 := (readCov_loops _ _ _ _ _ t2_4).trans al
  have g0lo : _ = I.gs lo (N) := congrArg₂ addf ls0lo b0
  have m0lo : _ = (I.st lo (N + 1)).1 := congrArg₂ stepM g0lo lm0lo
  have a0lo : _ = (I.st lo (N + 1)).2 := stepA_congr t0 g0lo lm0lo la0lo
  have ls0hi : (run_2.sl.v126 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = hi (I.sc (N)) := (readCov_loops _ _ _ _ _ t2_1).trans sr
  have lm0hi : (run_2.sl.v128 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N)).1 := (View.readCov_skip _ _ _ _ _ (by decide)).trans ((readCov_loops _ _ _ _ _ t2_3).trans mr)
  have la0hi : (run_2.sl.v137 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N)).2 := (View.readCov_skip _ _ _ _ _ (by decide)).trans ((readCov_loops _ _ _ _ _ t2_4).trans ar)
  have g0hi : _ = I.gs hi (N) := congrArg₂ addf ls0hi b0
  have m0hi : _ = (I.st hi (N + 1)).1 := congrArg₂ stepM g0hi lm0hi
  have a0hi : _ = (I.st hi (N + 1)).2 := stepA_congr t0 g0hi lm0hi la0hi
  have ls1lo : (run_2.sl.v171 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = lo (I.sc (N + 1)) := (View.readCov_fill _ _ _ _ _ (by decide)).trans (congrArg lo s1)
  have lm1lo : (run_2.sl.v173 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1)).1 := (View.readCov_skip _ _ _ _ _ (by decide)).trans ((View.readCov_cons_toLoadRect _ _ _ _).trans m0lo)
  have la1lo : (run_2.sl.v182 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1)).2 := (View.readCov_skip _ _ _ _ _ (by decide)).trans ((View.readCov_cons_toLoadRect _ _ _ _).trans a0lo)
  have g1lo : _ = I.gs lo (N + 1) := congrArg₂ addf ls1lo b1
  have m1lo : _ = (I.st lo (N + 1 + 1)).1 := congrArg₂ stepM g1lo lm1lo
  have a1lo : _ = (I.st lo (N + 1 + 1)).2 := stepA_congr t1 g1lo lm1lo la1lo
  have ls1hi : (run_2.sl.v194 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = hi (I.sc (N + 1)) := (View.readCov_fill _ _ _ _ _ (by decide)).trans (congrArg hi s1)
  have lm1hi : (run_2.sl.v196 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1)).1 := (View.readCov_skip _ _ _ _ _ (by decide)).trans ((View.readCov_cons_toLoadRect _ _ _ _).trans m0hi)
  have la1hi : (run_2.sl.v205 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1)).2 := (View.readCov_skip _ _ _ _ _ (by decide)).trans ((View.readCov_cons_toLoadRect _ _ _ _).trans a0hi)
  have g1hi : _ = I.gs hi (N + 1) := congrArg₂ addf ls1hi b1
  have m1hi : _ = (I.st hi (N + 1 + 1)).1 := congrArg₂ stepM g1hi lm1hi
  have a1hi : _ = (I.st hi (N + 1 + 1)).2 := stepA_congr t1 g1hi lm1hi la1hi
  have ls2lo : (run_2.sl.v229 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = lo (I.sc (N + 1 + 1)) := (View.readCov_fill _ _ _ _ _ (by decide)).trans (congrArg lo s2)
  have lm2lo : (run_2.sl.v238 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1 + 1)).1 := (View.readCov_skip _ _ _ _ _ (by decide)).trans ((View.readCov_cons_toLoadRect _ _ _ _).trans m1lo)
  have la2lo : (run_2.sl.v247 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1 + 1)).2 := (View.readCov_skip _ _ _ _ _ (by decide)).trans ((View.readCov_cons_toLoadRect _ _ _ _).trans a1lo)
  have elo : _ = I.fin lo 0#32 (N + 1 + 1) := stepA_congr (congrArg (vOnes (k0_pay207 (F := F))) (v2 (by rw [ov2]; exact inbV _))) (congrArg (mask 0#32) (congrArg₂ addf ls2lo (congrArg (Attn.bias (run_2.sl.r_1 (F := F) c i arg5 f5)) (c2 (by rw [oc2]; exact inbC _))))) lm2lo la2lo
  have ls2hi : (run_2.sl.v259 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = hi (I.sc (N + 1 + 1)) := (View.readCov_fill _ _ _ _ _ (by decide)).trans (congrArg hi s2)
  have lm2hi : (run_2.sl.v268 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1 + 1)).1 := (View.readCov_skip _ _ _ _ _ (by decide)).trans ((View.readCov_cons_toLoadRect _ _ _ _).trans m1hi)
  have la2hi : (run_2.sl.v277 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1 + 1)).2 := (View.readCov_skip _ _ _ _ _ (by decide)).trans ((View.readCov_cons_toLoadRect _ _ _ _).trans a1hi)
  have ehi : _ = I.fin hi 256#32 (N + 1 + 1) := stepA_congr (congrArg (vOnes (k0_pay207 (F := F))) (v2 (by rw [ov2]; exact inbV _))) (congrArg (mask 256#32) (congrArg₂ addf ls2hi (congrArg (Attn.bias (run_2.sl.r_1 (F := F) c i arg5 f5)) (c2 (by rw [oc2]; exact inbC _))))) lm2hi la2hi
  have e73 : (run_2.sl.v73 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = View.ld (I.acc (N + 1 + 1)) (Rect.unit (s := S144x512) ![0, 0] S128x512.size inb_S144x512_S128x512_0_0) := readCov_halves _ _ _ _ _ _ _ _ _ halves ehi elo
  have e74 : (run_2.sl.v74 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = View.ld (I.acc (N + 1 + 1)) (Rect.unit (s := S144x512) ![128, 0] S1x512.size inb_S144x512_S1x512_128_0) := readCov_halves _ _ _ _ _ _ _ _ _ halves ehi elo
  have eq : (run_2.sl.r (F := F) c arg2 f2) = arg2.view.read (Elt F) f2 := readAt_whole _ _ _ (by decide)
  have e8 : k0_pay6 (run_2.sl.v73 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) (run_2.sl.v74 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = out8 i (arg2.view.read (Elt F) f2) (arg3.view.read (Elt F) f3) (arg4.view.read (Elt F) f4) (arg5.view.read (Elt F) f5) := by
    refine (congrArg₂ (fun a b => k0_pay6 a b) e73 e74).trans ?_
    show I.out (N + 1 + 1) = In.out _ (i 1).val
    rw [hi1, ← eq]
    rfl
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap
    · iexact H8
    · ipureintro; exact (read_fill _ _ _ _ _ (by decide)).trans e8
  isplitl [H9]
  · iexists _; isplitr
    swap
    · iexact H9
    · ipureintro; exact (read_fill _ _ _ _ _ (by decide)).trans (congrArg k0_pay202 (readAt_whole _ _ _ (by decide)))
  isplitl [H10]
  · iexists _; isplitr
    swap
    · iexact H10
    · ipureintro; exact (read_fill _ _ _ _ _ (by decide)).trans (congrArg k0_pay203 (readAt_whole _ _ _ (by decide)))
  isplitl [H11]
  · iexists _; iexists _; isplitr
    swap
    · iexact H11
    · ipureintro; rfl
  isplitl [H12]
  · iexists _; iexists _; isplitr
    swap
    · iexact H12
    · ipureintro; rfl
  isplitl [H13]
  · iexists _; iexists _; isplitr
    swap
    · iexact H13
    · ipureintro; rfl
  iexists _; iexists _; isplitr
  swap
  · iexact H14
  · ipureintro; rfl

end Cert.KernelAttn.Attn

end
-- ==== Proof.AttnBody3Bits.lean ====
/- The attention's body, run once per case of its last blocks. -/
module

public import proofs.«01_k».proof.Proof.Gen.KernelAttn.Frame
public import proofs.«01_k».proof.Proof.AttnLoopBits

@[expose] public section

set_option maxRecDepth 16384

noncomputable section

namespace Cert.KernelAttn.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttn.Gen

variable {F : FTy → Type} [FloatOps F]

local notation "𝕄" => MT nD τ sig Unit (Elt F) ℕ (UR sig nD τ) ℕ

set_option maxHeartbeats 2000000 in
/-- The body when the query block's index is 3 past a multiple of four: it leaves its inputs, the output block of the
    model, and the two tables rounded. -/
theorem run_3 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (x0 : Vec F S512x128 .bf16) (x1 : Vec F S8192x128 .bf16) (x2 : Vec F S128x8192 .bf16) (x3 : Vec F S1x8192x128 .f32) (x4 : Vec F S1x64x4096 .f32) (x5 : Vec F S1x64x4096 .f32)
    (hr : (i 1).val % 4 = 3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 i x0 x1 x2 x3) ∗ owns (c : Thread nD τ) arg9 fullShare (k0_pay202 x4) ∗ owns (c : Thread nD τ) arg10 fullShare (k0_pay203 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13 arg14 harg14) K := by
  simp only [cc0_fox_attention_eq_skeleton]; unfold cc0_fox_attention_skel
  have htr := trips2_eq i
  have hc1 : ¬ k0_cond1 i = 1#1 := by revert hr; revert i; decide +kernel
  have hc2 : ¬ k0_cond2 i = 1#1 := by revert hr; revert i; decide +kernel
  have hc3 : ¬ k0_cond3 i = 1#1 := by revert hr; revert i; decide +kernel
  have hc4 : k0_cond4 i = 1#1 := by revert hr; revert i; decide +kernel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7
  sl_exec (disch := first | sl_exact hc1 | sl_exact hc2 | sl_exact hc3 | sl_exact hc4)
  obtain ⟨N, hN⟩ : ∃ N, N = 4 * ((i 1).val / 4) := ⟨_, rfl⟩
  have hi1 : (i 1).val = N + 1 + 1 + 1 := by omega
  let I : In F := In.mk (run_3.sl.r (F := F) c arg2 f2) (run_3.sl.r_1 (F := F) c i arg5 f5) (k0_pay207 (F := F)) (arg3.view.read (Elt F) f3) (arg4.view.read (Elt F) f4) (arg5.view.read (Elt F) f5)
  have z0 : k0_pay209 (run_3.sl.r_2 (F := F) c arg2 arg3 f2 f3) = I.sc 0 := congrArg (scores (run_3.sl.r (F := F) c arg2 f2)) (ld_unit_congr (arg3.view.read (Elt F) f3) inb_S8192x128_S512x128_0_0 (inbK 0) (by decide))
  have h0 : After I 0 arg11 arg13 arg14 (arg11.view.writes (Elt F) arg11.view.junk (run_3.sl.H11_1 (F := F) c arg2 arg3 f2 f3)) (arg13.view.writes (Elt F) arg13.view.junk (run_3.sl.H13_1 (F := F) )) (arg14.view.writes (Elt F) arg14.view.junk (run_3.sl.H14_1 (F := F) )) := ⟨(readAt_fill _ _ _ _ _ _ (by decide)).trans (congrArg lo z0), (readAt_fill _ _ _ _ _ _ (by decide)).trans (congrArg hi z0), (readAt_fill _ _ _ _ _ _ (by decide)).trans rfl, (readAt_fill _ _ _ _ _ _ (by decide)).trans rfl, (readAt_fill _ _ _ _ _ _ (by decide)).trans rfl, (readAt_fill _ _ _ _ _ _ (by decide)).trans rfl⟩
  have hA := after_pb (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (run_3.sl.r (F := F) c arg2 f2) (run_3.sl.r_1 (F := F) c i arg5 f5) (k0_pay207 (F := F)) (run_3.sl.r_2 (F := F) c arg2 arg3 f2 f3) f3 f4 f5 (arg11.view.writes (Elt F) arg11.view.junk (run_3.sl.H11_1 (F := F) c arg2 arg3 f2 f3)) f12 (arg13.view.writes (Elt F) arg13.view.junk (run_3.sl.H13_1 (F := F) )) (arg14.view.writes (Elt F) arg14.view.junk (run_3.sl.H14_1 (F := F) )) h0 (k0_t1_loop i).trips le_rfl
  rw [show 4 * (k0_t1_loop i).trips = N from by rw [trips_eq]; exact hN.symm] at hA
  obtain ⟨sl, sr, ml, mr, al, ar⟩ := hA
  have oc0 : k0_off17 i (BitVec.ofNat 32 0) = ![0, 512 * ((N) % 16), 0] := by rw [hN]; exact off17_eq i hr 0
  have c0 : ∀ h, View.ld (arg5.view.read (Elt F) f5) (Rect.unit (k0_off17 i (BitVec.ofNat 32 0)) S1x512x128.size h) = cB (arg5.view.read (Elt F) f5) (N) := fun h => ld_unit_congr _ h _ oc0
  have ov0 : k0_off18 i (BitVec.ofNat 32 0) = ![0, 512 * ((N) % 16)] := by rw [hN]; exact off18_eq i hr 0
  have v0 : ∀ h, View.ld (arg4.view.read (Elt F) f4) (Rect.unit (k0_off18 i (BitVec.ofNat 32 0)) S128x512.size h) = vB (arg4.view.read (Elt F) f4) (N) := fun h => ld_unit_congr _ h _ ov0
  have oc1 : k0_off17 i (BitVec.ofNat 32 1) = ![0, 512 * ((N + 1) % 16), 0] := by rw [hN]; exact off17_eq i hr 1
  have c1 : ∀ h, View.ld (arg5.view.read (Elt F) f5) (Rect.unit (k0_off17 i (BitVec.ofNat 32 1)) S1x512x128.size h) = cB (arg5.view.read (Elt F) f5) (N + 1) := fun h => ld_unit_congr _ h _ oc1
  have ov1 : k0_off18 i (BitVec.ofNat 32 1) = ![0, 512 * ((N + 1) % 16)] := by rw [hN]; exact off18_eq i hr 1
  have v1 : ∀ h, View.ld (arg4.view.read (Elt F) f4) (Rect.unit (k0_off18 i (BitVec.ofNat 32 1)) S128x512.size h) = vB (arg4.view.read (Elt F) f4) (N + 1) := fun h => ld_unit_congr _ h _ ov1
  have oc2 : k0_off17 i (BitVec.ofNat 32 2) = ![0, 512 * ((N + 1 + 1) % 16), 0] := by rw [hN]; exact off17_eq i hr 2
  have c2 : ∀ h, View.ld (arg5.view.read (Elt F) f5) (Rect.unit (k0_off17 i (BitVec.ofNat 32 2)) S1x512x128.size h) = cB (arg5.view.read (Elt F) f5) (N + 1 + 1) := fun h => ld_unit_congr _ h _ oc2
  have ov2 : k0_off18 i (BitVec.ofNat 32 2) = ![0, 512 * ((N + 1 + 1) % 16)] := by rw [hN]; exact off18_eq i hr 2
  have v2 : ∀ h, View.ld (arg4.view.read (Elt F) f4) (Rect.unit (k0_off18 i (BitVec.ofNat 32 2)) S128x512.size h) = vB (arg4.view.read (Elt F) f4) (N + 1 + 1) := fun h => ld_unit_congr _ h _ ov2
  have oc3 : k0_off17 i (BitVec.ofNat 32 3) = ![0, 512 * ((N + 1 + 1 + 1) % 16), 0] := by rw [hN]; exact off17_eq i hr 3
  have c3 : ∀ h, View.ld (arg5.view.read (Elt F) f5) (Rect.unit (k0_off17 i (BitVec.ofNat 32 3)) S1x512x128.size h) = cB (arg5.view.read (Elt F) f5) (N + 1 + 1 + 1) := fun h => ld_unit_congr _ h _ oc3
  have ov3 : k0_off18 i (BitVec.ofNat 32 3) = ![0, 512 * ((N + 1 + 1 + 1) % 16)] := by rw [hN]; exact off18_eq i hr 3
  have v3 : ∀ h, View.ld (arg4.view.read (Elt F) f4) (Rect.unit (k0_off18 i (BitVec.ofNat 32 3)) S128x512.size h) = vB (arg4.view.read (Elt F) f4) (N + 1 + 1 + 1) := fun h => ld_unit_congr _ h _ ov3
  have ok0 : k0_off16 i (BitVec.ofNat 32 0) = ![512 * ((N + 1) % 16), 0] := by rw [hN]; exact off16_eq i hr 0
  have k0 : ∀ h, View.ld (arg3.view.read (Elt F) f3) (Rect.unit (k0_off16 i (BitVec.ofNat 32 0)) S512x128.size h) = kB (arg3.view.read (Elt F) f3) (N + 1) := fun h => ld_unit_congr _ h _ ok0
  have ok1 : k0_off16 i (BitVec.ofNat 32 1) = ![512 * ((N + 1 + 1) % 16), 0] := by rw [hN]; exact off16_eq i hr 1
  have k1 : ∀ h, View.ld (arg3.view.read (Elt F) f3) (Rect.unit (k0_off16 i (BitVec.ofNat 32 1)) S512x128.size h) = kB (arg3.view.read (Elt F) f3) (N + 1 + 1) := fun h => ld_unit_congr _ h _ ok1
  have ok2 : k0_off16 i (BitVec.ofNat 32 2) = ![512 * ((N + 1 + 1 + 1) % 16), 0] := by rw [hN]; exact off16_eq i hr 2
  have k2 : ∀ h, View.ld (arg3.view.read (Elt F) f3) (Rect.unit (k0_off16 i (BitVec.ofNat 32 2)) S512x128.size h) = kB (arg3.view.read (Elt F) f3) (N + 1 + 1 + 1) := fun h => ld_unit_congr _ h _ ok2
  have s1 : _ = I.sc (N + 1) := congrArg (scores (run_3.sl.r (F := F) c arg2 f2)) (k0 (by rw [ok0]; exact inbK _))
  have s2 : _ = I.sc (N + 1 + 1) := congrArg (scores (run_3.sl.r (F := F) c arg2 f2)) (k1 (by rw [ok1]; exact inbK _))
  have s3 : _ = I.sc (N + 1 + 1 + 1) := congrArg (scores (run_3.sl.r (F := F) c arg2 f2)) (k2 (by rw [ok2]; exact inbK _))
  have b0 : _ = Attn.bias (run_3.sl.r_1 (F := F) c i arg5 f5) (cB (arg5.view.read (Elt F) f5) (N)) := congrArg (Attn.bias (run_3.sl.r_1 (F := F) c i arg5 f5)) (c0 (by rw [oc0]; exact inbC _))
  have t0 : _ = I.vt (N) := congrArg (vOnes (k0_pay207 (F := F))) (v0 (by rw [ov0]; exact inbV _))
  have b1 : _ = Attn.bias (run_3.sl.r_1 (F := F) c i arg5 f5) (cB (arg5.view.read (Elt F) f5) (N + 1)) := congrArg (Attn.bias (run_3.sl.r_1 (F := F) c i arg5 f5)) (c1 (by rw [oc1]; exact inbC _))
  have t1 : _ = I.vt (N + 1) := congrArg (vOnes (k0_pay207 (F := F))) (v1 (by rw [ov1]; exact inbV _))
  have b2 : _ = Attn.bias (run_3.sl.r_1 (F := F) c i arg5 f5) (cB (arg5.view.read (Elt F) f5) (N + 1 + 1)) := congrArg (Attn.bias (run_3.sl.r_1 (F := F) c i arg5 f5)) (c2 (by rw [oc2]; exact inbC _))
  have t2 : _ = I.vt (N + 1 + 1) := congrArg (vOnes (k0_pay207 (F := F))) (v2 (by rw [ov2]; exact inbV _))
  have ls0lo : (run_3.sl.v103 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = lo (I.sc (N)) := (readCov_loops _ _ _ _ _ t2_1).trans sl
  have lm0lo : (run_3.sl.v105 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).1 := (readCov_loops _ _ _ _ _ t2_3).trans ml
  have la0lo : (run_3.sl.v114 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).2 := (readCov_loops _ _ _ _ _ t2_4).trans al
  have g0lo : _ = I.gs lo (N) := congrArg₂ addf ls0lo b0
  have m0lo : _ = (I.st lo (N + 1)).1 := congrArg₂ stepM g0lo lm0lo
  have a0lo : _ = (I.st lo (N + 1)).2 := stepA_congr t0 g0lo lm0lo la0lo
  have ls0hi : (run_3.sl.v126 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = hi (I.sc (N)) := (readCov_loops _ _ _ _ _ t2_1).trans sr
  have lm0hi : (run_3.sl.v128 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N)).1 := (View.readCov_skip _ _ _ _ _ (by decide)).trans ((readCov_loops _ _ _ _ _ t2_3).trans mr)
  have la0hi : (run_3.sl.v137 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N)).2 := (View.readCov_skip _ _ _ _ _ (by decide)).trans ((readCov_loops _ _ _ _ _ t2_4).trans ar)
  have g0hi : _ = I.gs hi (N) := congrArg₂ addf ls0hi b0
  have m0hi : _ = (I.st hi (N + 1)).1 := congrArg₂ stepM g0hi lm0hi
  have a0hi : _ = (I.st hi (N + 1)).2 := stepA_congr t0 g0hi lm0hi la0hi
  have ls1lo : (run_3.sl.v171 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = lo (I.sc (N + 1)) := (View.readCov_fill _ _ _ _ _ (by decide)).trans (congrArg lo s1)
  have lm1lo : (run_3.sl.v173 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1)).1 := (View.readCov_skip _ _ _ _ _ (by decide)).trans ((View.readCov_cons_toLoadRect _ _ _ _).trans m0lo)
  have la1lo : (run_3.sl.v182 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1)).2 := (View.readCov_skip _ _ _ _ _ (by decide)).trans ((View.readCov_cons_toLoadRect _ _ _ _).trans a0lo)
  have g1lo : _ = I.gs lo (N + 1) := congrArg₂ addf ls1lo b1
  have m1lo : _ = (I.st lo (N + 1 + 1)).1 := congrArg₂ stepM g1lo lm1lo
  have a1lo : _ = (I.st lo (N + 1 + 1)).2 := stepA_congr t1 g1lo lm1lo la1lo
  have ls1hi : (run_3.sl.v194 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = hi (I.sc (N + 1)) := (View.readCov_fill _ _ _ _ _ (by decide)).trans (congrArg hi s1)
  have lm1hi : (run_3.sl.v196 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1)).1 := (View.readCov_skip _ _ _ _ _ (by decide)).trans ((View.readCov_cons_toLoadRect _ _ _ _).trans m0hi)
  have la1hi : (run_3.sl.v205 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1)).2 := (View.readCov_skip _ _ _ _ _ (by decide)).trans ((View.readCov_cons_toLoadRect _ _ _ _).trans a0hi)
  have g1hi : _ = I.gs hi (N + 1) := congrArg₂ addf ls1hi b1
  have m1hi : _ = (I.st hi (N + 1 + 1)).1 := congrArg₂ stepM g1hi lm1hi
  have a1hi : _ = (I.st hi (N + 1 + 1)).2 := stepA_congr t1 g1hi lm1hi la1hi
  have ls2lo : (run_3.sl.v239 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = lo (I.sc (N + 1 + 1)) := (View.readCov_fill _ _ _ _ _ (by decide)).trans (congrArg lo s2)
  have lm2lo : (run_3.sl.v241 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1)).1 := (View.readCov_skip _ _ _ _ _ (by decide)).trans ((View.readCov_cons_toLoadRect _ _ _ _).trans m1lo)
  have la2lo : (run_3.sl.v250 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1)).2 := (View.readCov_skip _ _ _ _ _ (by decide)).trans ((View.readCov_cons_toLoadRect _ _ _ _).trans a1lo)
  have g2lo : _ = I.gs lo (N + 1 + 1) := congrArg₂ addf ls2lo b2
  have m2lo : _ = (I.st lo (N + 1 + 1 + 1)).1 := congrArg₂ stepM g2lo lm2lo
  have a2lo : _ = (I.st lo (N + 1 + 1 + 1)).2 := stepA_congr t2 g2lo lm2lo la2lo
  have ls2hi : (run_3.sl.v262 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = hi (I.sc (N + 1 + 1)) := (View.readCov_fill _ _ _ _ _ (by decide)).trans (congrArg hi s2)
  have lm2hi : (run_3.sl.v264 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1)).1 := (View.readCov_skip _ _ _ _ _ (by decide)).trans ((View.readCov_cons_toLoadRect _ _ _ _).trans m1hi)
  have la2hi : (run_3.sl.v273 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1)).2 := (View.readCov_skip _ _ _ _ _ (by decide)).trans ((View.readCov_cons_toLoadRect _ _ _ _).trans a1hi)
  have g2hi : _ = I.gs hi (N + 1 + 1) := congrArg₂ addf ls2hi b2
  have m2hi : _ = (I.st hi (N + 1 + 1 + 1)).1 := congrArg₂ stepM g2hi lm2hi
  have a2hi : _ = (I.st hi (N + 1 + 1 + 1)).2 := stepA_congr t2 g2hi lm2hi la2hi
  have ls3lo : (run_3.sl.v297 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = lo (I.sc (N + 1 + 1 + 1)) := (View.readCov_fill _ _ _ _ _ (by decide)).trans (congrArg lo s3)
  have lm3lo : (run_3.sl.v306 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1 + 1)).1 := (View.readCov_skip _ _ _ _ _ (by decide)).trans ((View.readCov_cons_toLoadRect _ _ _ _).trans m2lo)
  have la3lo : (run_3.sl.v315 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1 + 1)).2 := (View.readCov_skip _ _ _ _ _ (by decide)).trans ((View.readCov_cons_toLoadRect _ _ _ _).trans a2lo)
  have elo : _ = I.fin lo 0#32 (N + 1 + 1 + 1) := stepA_congr (congrArg (vOnes (k0_pay207 (F := F))) (v3 (by rw [ov3]; exact inbV _))) (congrArg (mask 0#32) (congrArg₂ addf ls3lo (congrArg (Attn.bias (run_3.sl.r_1 (F := F) c i arg5 f5)) (c3 (by rw [oc3]; exact inbC _))))) lm3lo la3lo
  have ls3hi : (run_3.sl.v327 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = hi (I.sc (N + 1 + 1 + 1)) := (View.readCov_fill _ _ _ _ _ (by decide)).trans (congrArg hi s3)
  have lm3hi : (run_3.sl.v336 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1 + 1)).1 := (View.readCov_skip _ _ _ _ _ (by decide)).trans ((View.readCov_cons_toLoadRect _ _ _ _).trans m2hi)
  have la3hi : (run_3.sl.v345 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1 + 1)).2 := (View.readCov_skip _ _ _ _ _ (by decide)).trans ((View.readCov_cons_toLoadRect _ _ _ _).trans a2hi)
  have ehi : _ = I.fin hi 256#32 (N + 1 + 1 + 1) := stepA_congr (congrArg (vOnes (k0_pay207 (F := F))) (v3 (by rw [ov3]; exact inbV _))) (congrArg (mask 256#32) (congrArg₂ addf ls3hi (congrArg (Attn.bias (run_3.sl.r_1 (F := F) c i arg5 f5)) (c3 (by rw [oc3]; exact inbC _))))) lm3hi la3hi
  have e73 : (run_3.sl.v73 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = View.ld (I.acc (N + 1 + 1 + 1)) (Rect.unit (s := S144x512) ![0, 0] S128x512.size inb_S144x512_S128x512_0_0) := readCov_halves _ _ _ _ _ _ _ _ _ halves ehi elo
  have e74 : (run_3.sl.v74 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = View.ld (I.acc (N + 1 + 1 + 1)) (Rect.unit (s := S144x512) ![128, 0] S1x512.size inb_S144x512_S1x512_128_0) := readCov_halves _ _ _ _ _ _ _ _ _ halves ehi elo
  have eq : (run_3.sl.r (F := F) c arg2 f2) = arg2.view.read (Elt F) f2 := readAt_whole _ _ _ (by decide)
  have e8 : k0_pay6 (run_3.sl.v73 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.v74 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = out8 i (arg2.view.read (Elt F) f2) (arg3.view.read (Elt F) f3) (arg4.view.read (Elt F) f4) (arg5.view.read (Elt F) f5) := by
    refine (congrArg₂ (fun a b => k0_pay6 a b) e73 e74).trans ?_
    show I.out (N + 1 + 1 + 1) = In.out _ (i 1).val
    rw [hi1, ← eq]
    rfl
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap
    · iexact H8
    · ipureintro; exact (read_fill _ _ _ _ _ (by decide)).trans e8
  isplitl [H9]
  · iexists _; isplitr
    swap
    · iexact H9
    · ipureintro; exact (read_fill _ _ _ _ _ (by decide)).trans (congrArg k0_pay202 (readAt_whole _ _ _ (by decide)))
  isplitl [H10]
  · iexists _; isplitr
    swap
    · iexact H10
    · ipureintro; exact (read_fill _ _ _ _ _ (by decide)).trans (congrArg k0_pay203 (readAt_whole _ _ _ (by decide)))
  isplitl [H11]
  · iexists _; iexists _; isplitr
    swap
    · iexact H11
    · ipureintro; rfl
  isplitl [H12]
  · iexists _; iexists _; isplitr
    swap
    · iexact H12
    · ipureintro; rfl
  isplitl [H13]
  · iexists _; iexists _; isplitr
    swap
    · iexact H13
    · ipureintro; rfl
  iexists _; iexists _; isplitr
  swap
  · iexact H14
  · ipureintro; rfl

end Cert.KernelAttn.Attn

end
-- ==== Proof.AttnModel.lean ====
/- The attention's mathematics as the kernel keeps it: one query block against the key blocks in turn, each of the two lane
   groups holding a running maximum and an accumulator. -/
module

public import proofs.«01_k».proof.Proof.Gen.KernelAttnIdeal.Skeleton
public import Idealize.ShloMosaic.Lib.Tactic
public import Idealize.ShloMosaic.Lib.Pipeline.Kit
public import Idealize.ShloMosaic.Lib.Pipeline.ReadBack

@[expose] public section

set_option maxRecDepth 8192

noncomputable section

namespace Cert.KernelAttnIdeal.Attn

open Idealize.ShloMosaic Idealize.ShloMosaic.TcCoe Idealize.ShloMosaic.Tactic
open Cert.KernelAttnIdeal.Gen

variable {F : FTy → Type} [FloatOps F] [Named F]

/-- The two lane groups of the running maximum, of the accumulator and of a score buffer. -/
abbrev mLo : Rect S1x512 := Rect.unit (s := S1x512) ![0, 0] S1x256.size inb_S1x512_S1x256_0_0
/-- The upper lanes of the maxima. -/
abbrev mHi : Rect S1x512 := Rect.unit (s := S1x512) ![0, 256] S1x256.size inb_S1x512_S1x256_0_256
/-- The lower lanes of the accumulator. -/
abbrev aLo : Rect S144x512 := Rect.unit (s := S144x512) ![0, 0] S144x256.size inb_S144x512_S144x256_0_0
/-- The upper lanes of the accumulator. -/
abbrev aHi : Rect S144x512 := Rect.unit (s := S144x512) ![0, 256] S144x256.size inb_S144x512_S144x256_0_256
/-- All the lanes of a score buffer. -/
abbrev sAll : Rect S512x512 := Rect.unit (s := S512x512) ![0, 0] S512x512.size inb_S512x512_S512x512_0_0
/-- The lower lanes of a score buffer. -/
abbrev sLo : Rect S512x512 := Rect.unit (s := S512x512) ![0, 0] S512x256.size inb_S512x512_S512x256_0_0
/-- The upper lanes of a score buffer. -/
abbrev sHi : Rect S512x512 := Rect.unit (s := S512x512) ![0, 256] S512x256.size inb_S512x512_S512x256_0_256

/-- A key block lies inside the keys. -/
theorem inbK (j : ℕ) : ∀ a, (![512 * (j % 16), 0] : Fin 2 → ℕ) a + S512x128.size a ≤ S8192x128.size a := by
  intro a; fin_cases a
  · show 512 * (j % 16) + 512 ≤ 8192; omega
  · show 0 + 128 ≤ 128; omega

/-- A value block lies inside the values. -/
theorem inbV (j : ℕ) : ∀ a, (![0, 512 * (j % 16)] : Fin 2 → ℕ) a + S128x512.size a ≤ S128x8192.size a := by
  intro a; fin_cases a
  · show 0 + 128 ≤ 128; omega
  · show 512 * (j % 16) + 512 ≤ 8192; omega

/-- A gate block lies inside the gates. -/
theorem inbC (j : ℕ) : ∀ a, (![0, 512 * (j % 16), 0] : Fin 3 → ℕ) a + S1x512x128.size a ≤ S1x8192x128.size a := by
  intro a; fin_cases a
  · show 0 + 1 ≤ 1; omega
  · show 512 * (j % 16) + 512 ≤ 8192; omega
  · show 0 + 128 ≤ 128; omega

/-- Key block `j`, value block `j` and gate block `j`. -/
def kB (x3 : Vec F S8192x128 .bf16) (j : ℕ) : Vec F S512x128 .bf16 :=
  View.ld x3 (Rect.unit (s := S8192x128) ![512 * (j % 16), 0] S512x128.size (inbK j))
/-- A value block. -/
def vB (x4 : Vec F S128x8192 .bf16) (j : ℕ) : Vec F S128x512 .bf16 :=
  View.ld x4 (Rect.unit (s := S128x8192) ![0, 512 * (j % 16)] S128x512.size (inbV j))
/-- A gate block. -/
def cB (x5 : Vec F S1x8192x128 .f32) (j : ℕ) : Vec F S1x512x128 .f32 :=
  View.ld x5 (Rect.unit (s := S1x8192x128) ![0, 512 * (j % 16), 0] S1x512x128.size (inbC j))

/-- A load at a place that is the same place is the same load. -/
theorem ld_unit_congr {S : Shape} {e : EltTy} (X : S.Idx → Elt F e) {off off' : Fin S.rank → ℕ} {size : Fin S.rank → ℕ}
    (h : ∀ a, off a + size a ≤ S.size a) (h' : ∀ a, off' a + size a ≤ S.size a) (ho : off = off') :
    View.ld X (Rect.unit off size h) = View.ld X (Rect.unit off' size h') := by
  subst ho; rfl

/-- The scores of one key block: its rows against the query rows. -/
def scores (q kb : Vec F S512x128 .bf16) : FVec F S512x512 .f32 :=
  shapeCast S512x512 (matmul dot_S512x128_S512x128_S512x512_1_1_0_0_n_n none kb q (constant S512x512 .f32 0x00000000#32)) shapeCasts_S512x512_S512x512

/-- The gate's part of a score, a column per key row, over one lane group. -/
def bias (cf : FVec F S1x128 .f32) (cb : Vec F S1x512x128 .f32) : FVec F S512x256 .f32 :=
  concatenate S512x256 1
    [⟨S512x128, subf (broadcastTo S512x128 cf broadcasts_S1x128_S512x128) (shapeCast S512x128 cb shapeCasts_S1x512x128_S512x128)⟩,
     ⟨S512x128, subf (broadcastTo S512x128 cf broadcasts_S1x128_S512x128) (shapeCast S512x128 cb shapeCasts_S1x512x128_S512x128)⟩]
    concatenates_S512x128_S512x128_S512x256_d1

/-- A value block with the rows of ones below it. -/
def vOnes (vo : FVec F S16x512 .bf16) (vb : Vec F S128x512 .bf16) : FVec F S144x512 .bf16 :=
  concatenate S144x512 0 [⟨S128x512, vb⟩, ⟨S16x512, vo⟩] concatenates_S128x512_S16x512_S144x512_d0

/-- The maximum after a block of scores `s`. -/
def nm (s : FVec F S512x256 .f32) (m : Vec F S1x256 .f32) : FVec F S1x256 .f32 :=
  maximumf m (shapeCast S1x256 (multiReduction .maximumf [0] S256 s 0xFF800000#32 reduces_S512x256_S256 (.inl rfl) rfl) shapeCasts_S256_S1x256)

/-- The maximum as it is stored. -/
def stepM (s : FVec F S512x256 .f32) (m : Vec F S1x256 .f32) : Vec F S1x256 .f32 :=
  shapeCast S1x256 (nm s m) shapeCasts_S1x256_S1x256

/-- The accumulator after a block of scores `s` and values `vt`. -/
def stepA (vt : FVec F S144x512 .bf16) (s : FVec F S512x256 .f32) (m : Vec F S1x256 .f32) (a : Vec F S144x256 .f32) : Vec F S144x256 .f32 :=
  shapeCast S144x256
    (addf (mulf (broadcastTo S144x256 (exp2 (subf m (nm s m))) broadcasts_S1x256_S144x256) a)
      (matmul dot_S144x512_S512x256_S144x256_1_0_0_1_n_n none vt
        (truncf .bf16 (exp2 (subf s (broadcastTo S512x256 (nm s m) broadcasts_S1x256_S512x256))) bitsLt_bf16_f32)
        (constant S144x256 .f32 0x00000000#32)))
    shapeCasts_S144x256_S144x256

/-- The value a score of a later key is replaced by. -/
def lowest : F .f32 := Named.named κ "masked" 0xF149F2CA#32

/-- The scores of the diagonal block, those of keys later than the query replaced; `o` is the lane group's first lane. -/
def mask (o : BitVec 32) (s : FVec F S512x256 .f32) : FVec F S512x256 .f32 :=
  select (cmpi .sle (iota .tc S512x256 32 [0] iota_S512x256_d0_w32)
      (addi (iota .tc S512x256 32 [1] iota_S512x256_d1_w32) (broadcast S512x256 o)))
    s (broadcast S512x256 (lowest (F := F)))

/-- What a query block reads: the query rows, the gate of its first row, the ones, and the head's keys, values, gates. -/
structure In (F : FTy → Type) [FloatOps F] [Named F] where
  q : Vec F S512x128 .bf16
  cf : FVec F S1x128 .f32
  vo : FVec F S16x512 .bf16
  x3 : Vec F S8192x128 .bf16
  x4 : Vec F S128x8192 .bf16
  x5 : Vec F S1x8192x128 .f32

/-- The scores of key block `j`. -/
def In.sc (I : In F) (j : ℕ) : FVec F S512x512 .f32 := scores I.q (kB I.x3 j)

/-- The gated scores of key block `j` in a lane group. -/
def In.gs (I : In F) (R : Vec F S512x512 .f32 → Vec F S512x256 .f32) (j : ℕ) : FVec F S512x256 .f32 :=
  addf (R (I.sc j)) (bias I.cf (cB I.x5 j))

/-- The values of key block `j` over the ones. -/
def In.vt (I : In F) (j : ℕ) : FVec F S144x512 .bf16 := vOnes I.vo (vB I.x4 j)

/-- The lower and the upper lane group of a block of scores. -/
def lo (s : Vec F S512x512 .f32) : Vec F S512x256 .f32 := View.ld s sLo
/-- The upper lanes. -/
def hi (s : Vec F S512x512 .f32) : Vec F S512x256 .f32 := View.ld s sHi

/-- A lane group's maximum and accumulator before any block. -/
def m0 : Vec F S1x256 .f32 := broadcast S1x256 (lowest (F := F))
/-- The accumulator's start. -/
def a0 : Vec F S144x256 .f32 := broadcast S144x256 (Scalar.ofBits .f32 0x00000000#32 : F .f32)

/-- A lane group's maximum and accumulator after `n` whole key blocks. -/
def In.st (I : In F) (R : Vec F S512x512 .f32 → Vec F S512x256 .f32) : ℕ → Vec F S1x256 .f32 × Vec F S144x256 .f32
  | 0 => (m0, a0)
  | n + 1 => (stepM (I.gs R n) (I.st R n).1, stepA (I.vt n) (I.gs R n) (I.st R n).1 (I.st R n).2)

/-- A lane group's accumulator after `n` whole key blocks and the diagonal one. -/
def In.fin (I : In F) (R : Vec F S512x512 .f32 → Vec F S512x256 .f32) (o : BitVec 32) (n : ℕ) : Vec F S144x256 .f32 :=
  stepA (I.vt n) (mask o (I.gs R n)) (I.st R n).1 (I.st R n).2

/-- The whole accumulator of a query block after `n` whole key blocks and the diagonal one. -/
def In.acc (I : In F) (n : ℕ) : Vec F S144x512 .f32 := View.canon [⟨aHi, I.fin hi 256#32 n⟩, ⟨aLo, I.fin lo 0#32 n⟩]

/-- What a query block writes: its accumulator's rows over its row of sums, transposed. -/
def In.out (I : In F) (n : ℕ) : Vec F S512x128 .bf16 :=
  truncf .bf16 (transpose S512x128 [1, 0]
    (divf (View.ld (I.acc n) (Rect.unit (s := S144x512) ![0, 0] S128x512.size inb_S144x512_S128x512_0_0))
      (broadcastTo S128x512 (View.ld (I.acc n) (Rect.unit (s := S144x512) ![128, 0] S1x512.size inb_S144x512_S1x512_128_0)) broadcasts_S1x512_S128x512))
    transposes_S128x512_p1_0_S512x128) bitsLt_bf16_f32

/-- The gate of a query block's first row. -/
def cFirst (i : grid0.Coords) (x5 : Vec F S1x8192x128 .f32) : FVec F S1x128 .f32 :=
  k0_pay204 (View.ld x5 (Rect.unit (s := S1x8192x128) (k0_off1 i) S1x8x128.size (k0_off1_inb i)))

/-- A query block's output, from what it loads. -/
def out8 (i : grid0.Coords) (x2 : Vec F S512x128 .bf16) (x3 : Vec F S8192x128 .bf16) (x4 : Vec F S128x8192 .bf16) (x5 : Vec F S1x8192x128 .f32) : Vec F S512x128 .bf16 :=
  (In.mk (F := F) x2 (cFirst i x5) (k0_pay207 (F := F)) x3 x4 x5).out (i 1).val

end Cert.KernelAttnIdeal.Attn

end
-- ==== Proof.AttnTrip.lean ====
/- One round of the attention's loop: four key blocks, run once from any contents; what it leaves is the model's. -/
module

public import proofs.«01_k».proof.Proof.Gen.KernelAttnIdeal.Loops
public import proofs.«01_k».proof.Proof.AttnModel
public import Idealize.ShloMosaic.Lib.Exec
public import Idealize.ShloMosaic.Lib.Tactic
public import Idealize.ShloMosaic.Lib.Pipeline.Kit
public import Idealize.ShloMosaic.Lib.Pipeline.ReadBack

@[expose] public section

set_option maxRecDepth 8192
set_option maxHeartbeats 4000000

noncomputable section

namespace Cert.KernelAttnIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal.Gen

variable {F : FTy → Type} [FloatOps F] [Named F]

local notation "𝕄G" => MT nD τ sig Unit (Elt F) ℕ (UR sig nD τ) ℕ

/-- What the score buffer, the maximum and the accumulator hold after `n` whole key blocks: the scores of block `n`, and
    the two lane groups' states. -/
structure After (I : In F) (n : ℕ) (arg11 : Memref sig .tc .vmem S512x512 .f32) (arg13 : Memref sig .tc .vmem S1x512 .f32) (arg14 : Memref sig .tc .vmem S144x512 .f32) (f11 : BufTy.Contents (Elt F) arg11.view.ty) (f13 : BufTy.Contents (Elt F) arg13.view.ty) (f14 : BufTy.Contents (Elt F) arg14.view.ty) : Prop where
  sl : arg11.view.readAt (Elt F) sLo.toLoadRect f11 = lo (I.sc n)
  sr : arg11.view.readAt (Elt F) sHi.toLoadRect f11 = hi (I.sc n)
  ml : arg13.view.readAt (Elt F) mLo.toLoadRect f13 = (I.st lo n).1
  mr : arg13.view.readAt (Elt F) mHi.toLoadRect f13 = (I.st hi n).1
  al : arg14.view.readAt (Elt F) aLo.toLoadRect f14 = (I.st lo n).2
  ar : arg14.view.readAt (Elt F) aHi.toLoadRect f14 = (I.st hi n).2

/-- Where a block of the loop lies. -/
theorem off2_eq : ∀ (i : grid0.Coords) (k : Fin (k0_t1_loop i).trips) (r : Fin 4), k0_off2 i k (BitVec.ofNat 32 r.val) = ![512 * ((4 * k.val + r.val + 1) % 16), 0] := by
  decide +kernel

/-- Where a block of the loop lies. -/
theorem off3_eq : ∀ (i : grid0.Coords) (k : Fin (k0_t1_loop i).trips) (r : Fin 4), k0_off3 i k (BitVec.ofNat 32 r.val) = ![0, 512 * ((4 * k.val + r.val) % 16), 0] := by
  decide +kernel

/-- Where a block of the loop lies. -/
theorem off4_eq : ∀ (i : grid0.Coords) (k : Fin (k0_t1_loop i).trips) (r : Fin 4), k0_off4 i k (BitVec.ofNat 32 r.val) = ![0, 512 * ((4 * k.val + r.val) % 16)] := by
  decide +kernel

/-- The number of trips of the loop. -/
theorem trips_eq : ∀ i : grid0.Coords, (k0_t1_loop i).trips = (i 1).val / 4 := by
  decide +kernel

/-- The key, gate and value blocks a round loads are the model's. -/
theorem ldK (i : grid0.Coords) (k : Fin (k0_t1_loop i).trips) (r : Fin 4) (x : Vec F S8192x128 .bf16) (h) :
    View.ld x (Rect.unit (s := S8192x128) (k0_off2 i k (BitVec.ofNat 32 r.val)) S512x128.size h) = kB x (4 * k.val + r.val + 1) :=
  ld_unit_congr x _ _ (off2_eq i k r)

/-- A gate block as the body loads it. -/
theorem ldC (i : grid0.Coords) (k : Fin (k0_t1_loop i).trips) (r : Fin 4) (x : Vec F S1x8192x128 .f32) (h) :
    View.ld x (Rect.unit (s := S1x8192x128) (k0_off3 i k (BitVec.ofNat 32 r.val)) S1x512x128.size h) = cB x (4 * k.val + r.val) :=
  ld_unit_congr x _ _ (off3_eq i k r)

/-- A value block as the body loads it. -/
theorem ldV (i : grid0.Coords) (k : Fin (k0_t1_loop i).trips) (r : Fin 4) (x : Vec F S128x8192 .bf16) (h) :
    View.ld x (Rect.unit (s := S128x8192) (k0_off4 i k (BitVec.ofNat 32 r.val)) S128x512.size h) = vB x (4 * k.val + r.val) :=
  ld_unit_congr x _ _ (off4_eq i k r)

/-- Reading back the last store made, and reading past a store elsewhere. -/
theorem readAt_hit {S : Shape} {e : EltTy} (m : Memref sig .tc .vmem S e) (f : BufTy.Contents (Elt F) m.view.ty) (r : Rect S) (w : r.shape.Idx → Elt F e) (L : List (View.Piece (Elt F) S e)) :
    m.view.readAt (Elt F) r.toLoadRect (m.view.writes (Elt F) f (⟨r, w⟩ :: L)) = w := by
  funext x
  exact View.read_writes_cons_emb m.view f r w L x

/-- A read outside the lanes last written. -/
theorem readAt_skip {S : Shape} {e : EltTy} (m : Memref sig .tc .vmem S e) (f : BufTy.Contents (Elt F) m.view.ty) (r : Rect S) (w : r.shape.Idx → Elt F e) (L : List (View.Piece (Elt F) S e))
    (B : LoadRect S) (h : LoadRect.disj r B = true) :
    m.view.readAt (Elt F) B (m.view.writes (Elt F) f (⟨r, w⟩ :: L)) = m.view.readAt (Elt F) B (m.view.writes (Elt F) f L) := by
  funext x
  exact View.read_writes_cons_miss m.view f ⟨r, w⟩ L _ (LoadRect.idx_not_mem_of_disj h x)

/-- A read of the lanes last written. -/
theorem readAt_fill {S : Shape} {e : EltTy} (m : Memref sig .tc .vmem S e) (f : BufTy.Contents (Elt F) m.view.ty) {off : Fin S.rank → ℕ} (inb : ∀ a, off a + S.size a ≤ S.size a)
    (w : S.Idx → Elt F e) (L : List (View.Piece (Elt F) S e)) (r : Rect S) (h : ∀ a, off a = 0) :
    m.view.readAt (Elt F) r.toLoadRect (m.view.writes (Elt F) f (⟨Rect.unit off S.size inb, w⟩ :: L)) = View.ld w r := by
  refine (View.readAt_writes_of_cover m.view f _ _ fun j => ?_).trans (View.readCov_fill m.view inb w L r h)
  refine ⟨_, List.mem_cons_self, ?_⟩
  exact View.mem_set_unit_zero (funext h) inb _

/-- The step of the accumulator reads its arguments entry by entry. -/
theorem stepA_congr {v v' : FVec F S144x512 .bf16} {s s' : FVec F S512x256 .f32} {m m' : Vec F S1x256 .f32} {a a' : Vec F S144x256 .f32}
    (hv : v = v') (hs : s = s') (hm : m = m') (ha : a = a') : stepA v s m a = stepA v' s' m' a' := by
  rw [hv, hs, hm, ha]

/-- One round takes the state after `4 k` blocks to the state after `4 (k + 1)`. -/
theorem after_step (𝒱 : Variants) (c : Dev nD) (bd : Option 𝒱.V) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (arg1 : BitVec 32) (v27 : FVec F S512x512 .f32) (q : Vec F S512x128 .bf16) (cf : FVec F S1x128 .f32) (vo : FVec F S16x512 .bf16)
    (X_arg3 : BufTy.Contents (Elt F) arg3.view.ty) (X_arg4 : BufTy.Contents (Elt F) arg4.view.ty) (X_arg5 : BufTy.Contents (Elt F) arg5.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) (k : Fin (k0_t1_loop i).trips)
    (h : After (In.mk q cf vo (arg3.view.read (Elt F) X_arg3) (arg4.view.read (Elt F) X_arg4) (arg5.view.read (Elt F) X_arg5)) (4 * k.val) arg11 arg13 arg14 f_arg11 f_arg13 f_arg14) :
    After (In.mk q cf vo (arg3.view.read (Elt F) X_arg3) (arg4.view.read (Elt F) X_arg4) (arg5.view.read (Elt F) X_arg5)) (4 * (k.val + 1)) arg11 arg13 arg14
      (arg11.view.writes (Elt F) f_arg11 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X_arg3 X_arg4 X_arg5 k).1 f_arg11 f_arg12 f_arg13 f_arg14))
      (arg13.view.writes (Elt F) f_arg13 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X_arg3 X_arg4 X_arg5 k).2.2.1 f_arg11 f_arg12 f_arg13 f_arg14))
      (arg14.view.writes (Elt F) f_arg14 ((trip_k0_t1 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X_arg3 X_arg4 X_arg5 k).2.2.2.1 f_arg11 f_arg12 f_arg13 f_arg14)) := by
  obtain ⟨sl, sr, ml, mr, al, ar⟩ := h
  have k0 := fun x h => ldK (F := F) i k 0 x h
  have k1 := fun x h => ldK (F := F) i k 1 x h
  have k2 := fun x h => ldK (F := F) i k 2 x h
  have k3 := fun x h => ldK (F := F) i k 3 x h
  have c0 := fun x h => ldC (F := F) i k 0 x h
  have c1 := fun x h => ldC (F := F) i k 1 x h
  have c2 := fun x h => ldC (F := F) i k 2 x h
  have c3 := fun x h => ldC (F := F) i k 3 x h
  have v0 := fun x h => ldV (F := F) i k 0 x h
  have v1 := fun x h => ldV (F := F) i k 1 x h
  have v2 := fun x h => ldV (F := F) i k 2 x h
  have v3 := fun x h => ldV (F := F) i k 3 x h
  rw [show 4 * (k.val + 1) = 4 * k.val + 1 + 1 + 1 + 1 from by omega]
  let I : In F := (In.mk q cf vo (arg3.view.read (Elt F) X_arg3) (arg4.view.read (Elt F) X_arg4) (arg5.view.read (Elt F) X_arg5))
  have s1 : (trip_k0_t1.sl.v90 (F := F) i arg3 q X_arg3 k) = I.sc (4 * k.val + 1) := congrArg (scores q) (k0 _ _)
  have s2 : (trip_k0_t1.sl.v158 (F := F) i arg3 q X_arg3 k) = I.sc (4 * k.val + 1 + 1) := congrArg (scores q) (k1 _ _)
  have s3 : (trip_k0_t1.sl.v226 (F := F) i arg3 q X_arg3 k) = I.sc (4 * k.val + 1 + 1 + 1) := congrArg (scores q) (k2 _ _)
  have s4 : (trip_k0_t1.sl.v294 (F := F) i arg3 q X_arg3 k) = I.sc (4 * k.val + 1 + 1 + 1 + 1) := congrArg (scores q) (k3 _ _)
  have b0 : (trip_k0_t1.sl.v99 (F := F) i arg5 cf X_arg5 k) = bias cf (cB (arg5.view.read (Elt F) X_arg5) (4 * k.val)) := congrArg (bias cf) (c0 _ _)
  have b1 : (trip_k0_t1.sl.v167 (F := F) i arg5 cf X_arg5 k) = bias cf (cB (arg5.view.read (Elt F) X_arg5) (4 * k.val + 1)) := congrArg (bias cf) (c1 _ _)
  have b2 : (trip_k0_t1.sl.v235 (F := F) i arg5 cf X_arg5 k) = bias cf (cB (arg5.view.read (Elt F) X_arg5) (4 * k.val + 1 + 1)) := congrArg (bias cf) (c2 _ _)
  have b3 : (trip_k0_t1.sl.v303 (F := F) i arg5 cf X_arg5 k) = bias cf (cB (arg5.view.read (Elt F) X_arg5) (4 * k.val + 1 + 1 + 1)) := congrArg (bias cf) (c3 _ _)
  have t0 : (trip_k0_t1.sl.v102 (F := F) i arg4 vo X_arg4 k) = I.vt (4 * k.val) := congrArg (vOnes vo) (v0 _ _)
  have t1 : (trip_k0_t1.sl.v170 (F := F) i arg4 vo X_arg4 k) = I.vt (4 * k.val + 1) := congrArg (vOnes vo) (v1 _ _)
  have t2 : (trip_k0_t1.sl.v238 (F := F) i arg4 vo X_arg4 k) = I.vt (4 * k.val + 1 + 1) := congrArg (vOnes vo) (v2 _ _)
  have t3 : (trip_k0_t1.sl.v306 (F := F) i arg4 vo X_arg4 k) = I.vt (4 * k.val + 1 + 1 + 1) := congrArg (vOnes vo) (v3 _ _)
  have g0lo : (trip_k0_t1.sl.v104 (F := F) i arg5 arg11 cf X_arg5 k f_arg11) = I.gs lo (4 * k.val) := congrArg₂ addf sl b0
  have m0lo : (trip_k0_t1.sl.v125 (F := F) i arg5 arg11 arg13 cf X_arg5 k f_arg11 f_arg13) = (I.st lo (4 * k.val + 1)).1 := congrArg₂ stepM g0lo ml
  have a0lo : (trip_k0_t1.sl.v122 (F := F) i arg4 arg5 arg11 arg13 arg14 cf vo X_arg4 X_arg5 k f_arg11 f_arg13 f_arg14) = (I.st lo (4 * k.val + 1)).2 := stepA_congr t0 g0lo ml al
  have g0hi : (trip_k0_t1.sl.v127 (F := F) i arg5 arg11 cf X_arg5 k f_arg11) = I.gs hi (4 * k.val) := congrArg₂ addf sr b0
  have m0hi : (trip_k0_t1.sl.v148 (F := F) i arg5 arg11 arg13 cf X_arg5 k f_arg11 f_arg13) = (I.st hi (4 * k.val + 1)).1 := congrArg₂ stepM g0hi mr
  have a0hi : (trip_k0_t1.sl.v145 (F := F) i arg4 arg5 arg11 arg13 arg14 cf vo X_arg4 X_arg5 k f_arg11 f_arg13 f_arg14) = (I.st hi (4 * k.val + 1)).2 := stepA_congr t0 g0hi mr ar
  have l1lo : (trip_k0_t1.sl.v171 (F := F) i arg3 arg12 q X_arg3 k) = lo (I.sc (4 * k.val + 1)) := (View.readCov_fill _ _ _ _ _ (by decide)).trans (congrArg lo s1)
  have lm1lo : (trip_k0_t1.sl.v173 (F := F) i arg5 arg11 arg13 cf X_arg5 k f_arg11 f_arg13) = (I.st lo (4 * k.val + 1)).1 := (View.readCov_skip _ _ _ _ _ (by decide)).trans ((View.readCov_cons_toLoadRect _ _ _ _).trans m0lo)
  have la1lo : (trip_k0_t1.sl.v182 (F := F) i arg4 arg5 arg11 arg13 arg14 cf vo X_arg4 X_arg5 k f_arg11 f_arg13 f_arg14) = (I.st lo (4 * k.val + 1)).2 := (View.readCov_skip _ _ _ _ _ (by decide)).trans ((View.readCov_cons_toLoadRect _ _ _ _).trans a0lo)
  have g1lo : (trip_k0_t1.sl.v172 (F := F) i arg3 arg5 arg12 q cf X_arg3 X_arg5 k) = I.gs lo (4 * k.val + 1) := congrArg₂ addf l1lo b1
  have m1lo : (trip_k0_t1.sl.v193 (F := F) i arg3 arg5 arg11 arg12 arg13 q cf X_arg3 X_arg5 k f_arg11 f_arg13) = (I.st lo (4 * k.val + 1 + 1)).1 := congrArg₂ stepM g1lo lm1lo
  have a1lo : (trip_k0_t1.sl.v190 (F := F) i arg3 arg4 arg5 arg11 arg12 arg13 arg14 q cf vo X_arg3 X_arg4 X_arg5 k f_arg11 f_arg13 f_arg14) = (I.st lo (4 * k.val + 1 + 1)).2 := stepA_congr t1 g1lo lm1lo la1lo
  have l1hi : (trip_k0_t1.sl.v194 (F := F) i arg3 arg12 q X_arg3 k) = hi (I.sc (4 * k.val + 1)) := (View.readCov_fill _ _ _ _ _ (by decide)).trans (congrArg hi s1)
  have lm1hi : (trip_k0_t1.sl.v196 (F := F) i arg3 arg5 arg11 arg12 arg13 q cf X_arg3 X_arg5 k f_arg11 f_arg13) = (I.st hi (4 * k.val + 1)).1 := (View.readCov_skip _ _ _ _ _ (by decide)).trans ((View.readCov_cons_toLoadRect _ _ _ _).trans m0hi)
  have la1hi : (trip_k0_t1.sl.v205 (F := F) i arg3 arg4 arg5 arg11 arg12 arg13 arg14 q cf vo X_arg3 X_arg4 X_arg5 k f_arg11 f_arg13 f_arg14) = (I.st hi (4 * k.val + 1)).2 := (View.readCov_skip _ _ _ _ _ (by decide)).trans ((View.readCov_cons_toLoadRect _ _ _ _).trans a0hi)
  have g1hi : (trip_k0_t1.sl.v195 (F := F) i arg3 arg5 arg12 q cf X_arg3 X_arg5 k) = I.gs hi (4 * k.val + 1) := congrArg₂ addf l1hi b1
  have m1hi : (trip_k0_t1.sl.v216 (F := F) i arg3 arg5 arg11 arg12 arg13 q cf X_arg3 X_arg5 k f_arg11 f_arg13) = (I.st hi (4 * k.val + 1 + 1)).1 := congrArg₂ stepM g1hi lm1hi
  have a1hi : (trip_k0_t1.sl.v213 (F := F) i arg3 arg4 arg5 arg11 arg12 arg13 arg14 q cf vo X_arg3 X_arg4 X_arg5 k f_arg11 f_arg13 f_arg14) = (I.st hi (4 * k.val + 1 + 1)).2 := stepA_congr t1 g1hi lm1hi la1hi
  have l2lo : (trip_k0_t1.sl.v239 (F := F) i arg3 arg11 q X_arg3 k) = lo (I.sc (4 * k.val + 1 + 1)) := (View.readCov_fill _ _ _ _ _ (by decide)).trans (congrArg lo s2)
  have lm2lo : (trip_k0_t1.sl.v241 (F := F) i arg3 arg5 arg11 arg12 arg13 q cf X_arg3 X_arg5 k f_arg11 f_arg13) = (I.st lo (4 * k.val + 1 + 1)).1 := (View.readCov_skip _ _ _ _ _ (by decide)).trans ((View.readCov_cons_toLoadRect _ _ _ _).trans m1lo)
  have la2lo : (trip_k0_t1.sl.v250 (F := F) i arg3 arg4 arg5 arg11 arg12 arg13 arg14 q cf vo X_arg3 X_arg4 X_arg5 k f_arg11 f_arg13 f_arg14) = (I.st lo (4 * k.val + 1 + 1)).2 := (View.readCov_skip _ _ _ _ _ (by decide)).trans ((View.readCov_cons_toLoadRect _ _ _ _).trans a1lo)
  have g2lo : (trip_k0_t1.sl.v240 (F := F) i arg3 arg5 arg11 q cf X_arg3 X_arg5 k) = I.gs lo (4 * k.val + 1 + 1) := congrArg₂ addf l2lo b2
  have m2lo : (trip_k0_t1.sl.v261 (F := F) i arg3 arg5 arg11 arg12 arg13 q cf X_arg3 X_arg5 k f_arg11 f_arg13) = (I.st lo (4 * k.val + 1 + 1 + 1)).1 := congrArg₂ stepM g2lo lm2lo
  have a2lo : (trip_k0_t1.sl.v258 (F := F) i arg3 arg4 arg5 arg11 arg12 arg13 arg14 q cf vo X_arg3 X_arg4 X_arg5 k f_arg11 f_arg13 f_arg14) = (I.st lo (4 * k.val + 1 + 1 + 1)).2 := stepA_congr t2 g2lo lm2lo la2lo
  have l2hi : (trip_k0_t1.sl.v262 (F := F) i arg3 arg11 q X_arg3 k) = hi (I.sc (4 * k.val + 1 + 1)) := (View.readCov_fill _ _ _ _ _ (by decide)).trans (congrArg hi s2)
  have lm2hi : (trip_k0_t1.sl.v264 (F := F) i arg3 arg5 arg11 arg12 arg13 q cf X_arg3 X_arg5 k f_arg11 f_arg13) = (I.st hi (4 * k.val + 1 + 1)).1 := (View.readCov_skip _ _ _ _ _ (by decide)).trans ((View.readCov_cons_toLoadRect _ _ _ _).trans m1hi)
  have la2hi : (trip_k0_t1.sl.v273 (F := F) i arg3 arg4 arg5 arg11 arg12 arg13 arg14 q cf vo X_arg3 X_arg4 X_arg5 k f_arg11 f_arg13 f_arg14) = (I.st hi (4 * k.val + 1 + 1)).2 := (View.readCov_skip _ _ _ _ _ (by decide)).trans ((View.readCov_cons_toLoadRect _ _ _ _).trans a1hi)
  have g2hi : (trip_k0_t1.sl.v263 (F := F) i arg3 arg5 arg11 q cf X_arg3 X_arg5 k) = I.gs hi (4 * k.val + 1 + 1) := congrArg₂ addf l2hi b2
  have m2hi : (trip_k0_t1.sl.v284 (F := F) i arg3 arg5 arg11 arg12 arg13 q cf X_arg3 X_arg5 k f_arg11 f_arg13) = (I.st hi (4 * k.val + 1 + 1 + 1)).1 := congrArg₂ stepM g2hi lm2hi
  have a2hi : (trip_k0_t1.sl.v281 (F := F) i arg3 arg4 arg5 arg11 arg12 arg13 arg14 q cf vo X_arg3 X_arg4 X_arg5 k f_arg11 f_arg13 f_arg14) = (I.st hi (4 * k.val + 1 + 1 + 1)).2 := stepA_congr t2 g2hi lm2hi la2hi
  have l3lo : (trip_k0_t1.sl.v307 (F := F) i arg3 arg12 q X_arg3 k) = lo (I.sc (4 * k.val + 1 + 1 + 1)) := (View.readCov_fill _ _ _ _ _ (by decide)).trans (congrArg lo s3)
  have lm3lo : (trip_k0_t1.sl.v309 (F := F) i arg3 arg5 arg11 arg12 arg13 q cf X_arg3 X_arg5 k f_arg11 f_arg13) = (I.st lo (4 * k.val + 1 + 1 + 1)).1 := (View.readCov_skip _ _ _ _ _ (by decide)).trans ((View.readCov_cons_toLoadRect _ _ _ _).trans m2lo)
  have la3lo : (trip_k0_t1.sl.v318 (F := F) i arg3 arg4 arg5 arg11 arg12 arg13 arg14 q cf vo X_arg3 X_arg4 X_arg5 k f_arg11 f_arg13 f_arg14) = (I.st lo (4 * k.val + 1 + 1 + 1)).2 := (View.readCov_skip _ _ _ _ _ (by decide)).trans ((View.readCov_cons_toLoadRect _ _ _ _).trans a2lo)
  have g3lo : (trip_k0_t1.sl.v308 (F := F) i arg3 arg5 arg12 q cf X_arg3 X_arg5 k) = I.gs lo (4 * k.val + 1 + 1 + 1) := congrArg₂ addf l3lo b3
  have m3lo : (trip_k0_t1.sl.v329 (F := F) i arg3 arg5 arg11 arg12 arg13 q cf X_arg3 X_arg5 k f_arg11 f_arg13) = (I.st lo (4 * k.val + 1 + 1 + 1 + 1)).1 := congrArg₂ stepM g3lo lm3lo
  have a3lo : (trip_k0_t1.sl.v326 (F := F) i arg3 arg4 arg5 arg11 arg12 arg13 arg14 q cf vo X_arg3 X_arg4 X_arg5 k f_arg11 f_arg13 f_arg14) = (I.st lo (4 * k.val + 1 + 1 + 1 + 1)).2 := stepA_congr t3 g3lo lm3lo la3lo
  have l3hi : (trip_k0_t1.sl.v330 (F := F) i arg3 arg12 q X_arg3 k) = hi (I.sc (4 * k.val + 1 + 1 + 1)) := (View.readCov_fill _ _ _ _ _ (by decide)).trans (congrArg hi s3)
  have lm3hi : (trip_k0_t1.sl.v332 (F := F) i arg3 arg5 arg11 arg12 arg13 q cf X_arg3 X_arg5 k f_arg11 f_arg13) = (I.st hi (4 * k.val + 1 + 1 + 1)).1 := (View.readCov_skip _ _ _ _ _ (by decide)).trans ((View.readCov_cons_toLoadRect _ _ _ _).trans m2hi)
  have la3hi : (trip_k0_t1.sl.v341 (F := F) i arg3 arg4 arg5 arg11 arg12 arg13 arg14 q cf vo X_arg3 X_arg4 X_arg5 k f_arg11 f_arg13 f_arg14) = (I.st hi (4 * k.val + 1 + 1 + 1)).2 := (View.readCov_skip _ _ _ _ _ (by decide)).trans ((View.readCov_cons_toLoadRect _ _ _ _).trans a2hi)
  have g3hi : (trip_k0_t1.sl.v331 (F := F) i arg3 arg5 arg12 q cf X_arg3 X_arg5 k) = I.gs hi (4 * k.val + 1 + 1 + 1) := congrArg₂ addf l3hi b3
  have m3hi : (k0_pay211 (trip_k0_t1.sl.v335 (F := F) i arg3 arg5 arg11 arg12 arg13 q cf X_arg3 X_arg5 k f_arg11 f_arg13)) = (I.st hi (4 * k.val + 1 + 1 + 1 + 1)).1 := congrArg₂ stepM g3hi lm3hi
  have a3hi : (k0_pay210 (trip_k0_t1.sl.v306 (F := F) i arg4 vo X_arg4 k) (trip_k0_t1.sl.v337 (F := F) i arg3 arg5 arg11 arg12 arg13 q cf X_arg3 X_arg5 k f_arg11 f_arg13) (trip_k0_t1.sl.v340 (F := F) i arg3 arg5 arg11 arg12 arg13 q cf X_arg3 X_arg5 k f_arg11 f_arg13) (trip_k0_t1.sl.v341 (F := F) i arg3 arg4 arg5 arg11 arg12 arg13 arg14 q cf vo X_arg3 X_arg4 X_arg5 k f_arg11 f_arg13 f_arg14)) = (I.st hi (4 * k.val + 1 + 1 + 1 + 1)).2 := stepA_congr t3 g3hi lm3hi la3hi
  refine ⟨?_, ?_, ?_, ?_, ?_, ?_⟩ <;> unfold trip_k0_t1 <;> dsimp only
  · exact (readAt_fill _ _ _ _ _ _ (by decide)).trans (congrArg lo s4)
  · exact (readAt_fill _ _ _ _ _ _ (by decide)).trans (congrArg hi s4)
  · exact (readAt_skip _ _ _ _ _ _ (by decide)).trans ((readAt_hit _ _ _ _ _).trans m3lo)
  · exact (readAt_hit _ _ _ _ _).trans m3hi
  · exact (readAt_skip _ _ _ _ _ _ (by decide)).trans ((readAt_hit _ _ _ _ _).trans a3lo)
  · exact (readAt_hit _ _ _ _ _).trans a3hi

end Cert.KernelAttnIdeal.Attn

end
-- ==== Proof.AttnLoop.lean ====
/- The attention's loop carries the model's state, and what the body's last blocks read from it. -/
module

public import proofs.«01_k».proof.Proof.Gen.KernelAttnIdeal.Frame
public import proofs.«01_k».proof.Proof.AttnTrip

@[expose] public section

set_option maxRecDepth 16384

noncomputable section

namespace Cert.KernelAttnIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnIdeal.Gen

variable {F : FTy → Type} [FloatOps F] [Named F]

local notation "𝕄" => MT nD τ sig Unit (Elt F) ℕ (UR sig nD τ) ℕ

/-- The second loop never runs: the first one ends at its bound. -/
theorem trips2_eq : ∀ i : grid0.Coords, (k0_t2_loop i).trips = 0 := by
  decide +kernel

/-- The loop carries the model's state: after `k` rounds the buffers hold it at `4 k` blocks. -/
theorem after_pb (𝒱 : Variants) (c : Dev nD) (bd : Option 𝒱.V) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (arg1 : BitVec 32) (q : Vec F S512x128 .bf16) (cf : FVec F S1x128 .f32) (vo : FVec F S16x512 .bf16) (v27 : FVec F S512x512 .f32)
    (X3 : BufTy.Contents (Elt F) arg3.view.ty) (X4 : BufTy.Contents (Elt F) arg4.view.ty) (X5 : BufTy.Contents (Elt F) arg5.view.ty) (G11 : BufTy.Contents (Elt F) arg11.view.ty) (G12 : BufTy.Contents (Elt F) arg12.view.ty) (G13 : BufTy.Contents (Elt F) arg13.view.ty) (G14 : BufTy.Contents (Elt F) arg14.view.ty)
    (h0 : After (In.mk q cf vo (arg3.view.read (Elt F) X3) (arg4.view.read (Elt F) X4) (arg5.view.read (Elt F) X5)) 0 arg11 arg13 arg14 G11 G13 G14) : ∀ k : ℕ, k ≤ (k0_t1_loop i).trips → After (In.mk q cf vo (arg3.view.read (Elt F) X3) (arg4.view.read (Elt F) X4) (arg5.view.read (Elt F) X5)) (4 * k) arg11 arg13 arg14 (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 k).1) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 k).2.2.1) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 k).2.2.2)
  | 0, _ => h0
  | k + 1, hk => by
    have ih := after_pb 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 h0 k (Nat.le_of_succ_le hk)
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 ⟨k, hk⟩
    have s := after_step (F := F) 𝒱 c bd i arg2 harg2 arg3 harg3 arg4 harg4 arg5 harg5 arg6 harg6 arg7 harg7 arg8 harg8 arg9 harg9 arg10 harg10 arg11 harg11 arg12 harg12 arg13 harg13 arg14 harg14 arg1 v27 q cf vo X3 X4 X5 (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 k).1) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 k).2.1) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 k).2.2.1) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 k).2.2.2) ⟨k, hk⟩ ih
    rw [← View.writes_append, ← View.writes_append, ← View.writes_append] at s
    show After (In.mk q cf vo (arg3.view.read (Elt F) X3) (arg4.view.read (Elt F) X4) (arg5.view.read (Elt F) X5)) (4 * (k + 1)) arg11 arg13 arg14 (arg11.view.writes (Elt F) G11 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 (k + 1)).1) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 (k + 1)).2.2.1) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 (k + 1)).2.2.2)
    rw [show (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 X3 X4 X5 G11 G12 G13 G14 (k + 1)) = _ from e]
    exact s

/-- The loop of the blocks left over makes no trip, so it writes nothing to this buffer. -/
theorem t2_1 {𝒱 : Variants} {c : Dev nD} {bd : Option 𝒱.V} {i : grid0.Coords} {arg2 : Memref sig .tc .vmem S512x128 .bf16} {harg2 : arg2.IsWhole} {arg3 : Memref sig .tc .vmem S8192x128 .bf16} {harg3 : arg3.IsWhole} {arg4 : Memref sig .tc .vmem S128x8192 .bf16} {harg4 : arg4.IsWhole} {arg5 : Memref sig .tc .vmem S1x8192x128 .f32} {harg5 : arg5.IsWhole} {arg6 : Memref sig .tc .vmem S1x64x4096 .f32} {harg6 : arg6.IsWhole} {arg7 : Memref sig .tc .vmem S1x64x4096 .f32} {harg7 : arg7.IsWhole} {arg8 : Memref sig .tc .vmem S512x128 .bf16} {harg8 : arg8.IsWhole} {arg9 : Memref sig .tc .vmem S64x4096 .bf16} {harg9 : arg9.IsWhole} {arg10 : Memref sig .tc .vmem S64x4096 .bf16} {harg10 : arg10.IsWhole} {arg11 : Memref sig .tc .vmem S512x512 .f32} {harg11 : arg11.IsWhole} {arg12 : Memref sig .tc .vmem S512x512 .f32} {harg12 : arg12.IsWhole} {arg13 : Memref sig .tc .vmem S1x512 .f32} {harg13 : arg13.IsWhole} {arg14 : Memref sig .tc .vmem S144x512 .f32} {harg14 : arg14.IsWhole} {arg1 : BitVec 32} {q : Vec F S512x128 .bf16} {cf : FVec F S1x128 .f32} {vo : FVec F S16x512 .bf16} {v27 : FVec F S512x512 .f32} {v52 : BitVec 32}
    {X3 : BufTy.Contents (Elt F) arg3.view.ty} {X4 : BufTy.Contents (Elt F) arg4.view.ty} {X5 : BufTy.Contents (Elt F) arg5.view.ty} {G11 : BufTy.Contents (Elt F) arg11.view.ty} {G12 : BufTy.Contents (Elt F) arg12.view.ty} {G13 : BufTy.Contents (Elt F) arg13.view.ty} {G14 : BufTy.Contents (Elt F) arg14.view.ty} :
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 v52 X3 X4 X5 G11 G12 G13 G14 (Scf.trips (k0_t2_loop i).lb (k0_t2_loop i).ub (k0_t2_loop i).st)).1 = [] := by
  rw [show Scf.trips (k0_t2_loop i).lb (k0_t2_loop i).ub (k0_t2_loop i).st = 0 from trips2_eq i]
  rfl

/-- The loop of the blocks left over makes no trip, so it writes nothing to this buffer. -/
theorem t2_2 {𝒱 : Variants} {c : Dev nD} {bd : Option 𝒱.V} {i : grid0.Coords} {arg2 : Memref sig .tc .vmem S512x128 .bf16} {harg2 : arg2.IsWhole} {arg3 : Memref sig .tc .vmem S8192x128 .bf16} {harg3 : arg3.IsWhole} {arg4 : Memref sig .tc .vmem S128x8192 .bf16} {harg4 : arg4.IsWhole} {arg5 : Memref sig .tc .vmem S1x8192x128 .f32} {harg5 : arg5.IsWhole} {arg6 : Memref sig .tc .vmem S1x64x4096 .f32} {harg6 : arg6.IsWhole} {arg7 : Memref sig .tc .vmem S1x64x4096 .f32} {harg7 : arg7.IsWhole} {arg8 : Memref sig .tc .vmem S512x128 .bf16} {harg8 : arg8.IsWhole} {arg9 : Memref sig .tc .vmem S64x4096 .bf16} {harg9 : arg9.IsWhole} {arg10 : Memref sig .tc .vmem S64x4096 .bf16} {harg10 : arg10.IsWhole} {arg11 : Memref sig .tc .vmem S512x512 .f32} {harg11 : arg11.IsWhole} {arg12 : Memref sig .tc .vmem S512x512 .f32} {harg12 : arg12.IsWhole} {arg13 : Memref sig .tc .vmem S1x512 .f32} {harg13 : arg13.IsWhole} {arg14 : Memref sig .tc .vmem S144x512 .f32} {harg14 : arg14.IsWhole} {arg1 : BitVec 32} {q : Vec F S512x128 .bf16} {cf : FVec F S1x128 .f32} {vo : FVec F S16x512 .bf16} {v27 : FVec F S512x512 .f32} {v52 : BitVec 32}
    {X3 : BufTy.Contents (Elt F) arg3.view.ty} {X4 : BufTy.Contents (Elt F) arg4.view.ty} {X5 : BufTy.Contents (Elt F) arg5.view.ty} {G11 : BufTy.Contents (Elt F) arg11.view.ty} {G12 : BufTy.Contents (Elt F) arg12.view.ty} {G13 : BufTy.Contents (Elt F) arg13.view.ty} {G14 : BufTy.Contents (Elt F) arg14.view.ty} :
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 v52 X3 X4 X5 G11 G12 G13 G14 (Scf.trips (k0_t2_loop i).lb (k0_t2_loop i).ub (k0_t2_loop i).st)).2.1 = [] := by
  rw [show Scf.trips (k0_t2_loop i).lb (k0_t2_loop i).ub (k0_t2_loop i).st = 0 from trips2_eq i]
  rfl

/-- The loop of the blocks left over makes no trip, so it writes nothing to this buffer. -/
theorem t2_3 {𝒱 : Variants} {c : Dev nD} {bd : Option 𝒱.V} {i : grid0.Coords} {arg2 : Memref sig .tc .vmem S512x128 .bf16} {harg2 : arg2.IsWhole} {arg3 : Memref sig .tc .vmem S8192x128 .bf16} {harg3 : arg3.IsWhole} {arg4 : Memref sig .tc .vmem S128x8192 .bf16} {harg4 : arg4.IsWhole} {arg5 : Memref sig .tc .vmem S1x8192x128 .f32} {harg5 : arg5.IsWhole} {arg6 : Memref sig .tc .vmem S1x64x4096 .f32} {harg6 : arg6.IsWhole} {arg7 : Memref sig .tc .vmem S1x64x4096 .f32} {harg7 : arg7.IsWhole} {arg8 : Memref sig .tc .vmem S512x128 .bf16} {harg8 : arg8.IsWhole} {arg9 : Memref sig .tc .vmem S64x4096 .bf16} {harg9 : arg9.IsWhole} {arg10 : Memref sig .tc .vmem S64x4096 .bf16} {harg10 : arg10.IsWhole} {arg11 : Memref sig .tc .vmem S512x512 .f32} {harg11 : arg11.IsWhole} {arg12 : Memref sig .tc .vmem S512x512 .f32} {harg12 : arg12.IsWhole} {arg13 : Memref sig .tc .vmem S1x512 .f32} {harg13 : arg13.IsWhole} {arg14 : Memref sig .tc .vmem S144x512 .f32} {harg14 : arg14.IsWhole} {arg1 : BitVec 32} {q : Vec F S512x128 .bf16} {cf : FVec F S1x128 .f32} {vo : FVec F S16x512 .bf16} {v27 : FVec F S512x512 .f32} {v52 : BitVec 32}
    {X3 : BufTy.Contents (Elt F) arg3.view.ty} {X4 : BufTy.Contents (Elt F) arg4.view.ty} {X5 : BufTy.Contents (Elt F) arg5.view.ty} {G11 : BufTy.Contents (Elt F) arg11.view.ty} {G12 : BufTy.Contents (Elt F) arg12.view.ty} {G13 : BufTy.Contents (Elt F) arg13.view.ty} {G14 : BufTy.Contents (Elt F) arg14.view.ty} :
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 v52 X3 X4 X5 G11 G12 G13 G14 (Scf.trips (k0_t2_loop i).lb (k0_t2_loop i).ub (k0_t2_loop i).st)).2.2.1 = [] := by
  rw [show Scf.trips (k0_t2_loop i).lb (k0_t2_loop i).ub (k0_t2_loop i).st = 0 from trips2_eq i]
  rfl

/-- The loop of the blocks left over makes no trip, so it writes nothing to this buffer. -/
theorem t2_4 {𝒱 : Variants} {c : Dev nD} {bd : Option 𝒱.V} {i : grid0.Coords} {arg2 : Memref sig .tc .vmem S512x128 .bf16} {harg2 : arg2.IsWhole} {arg3 : Memref sig .tc .vmem S8192x128 .bf16} {harg3 : arg3.IsWhole} {arg4 : Memref sig .tc .vmem S128x8192 .bf16} {harg4 : arg4.IsWhole} {arg5 : Memref sig .tc .vmem S1x8192x128 .f32} {harg5 : arg5.IsWhole} {arg6 : Memref sig .tc .vmem S1x64x4096 .f32} {harg6 : arg6.IsWhole} {arg7 : Memref sig .tc .vmem S1x64x4096 .f32} {harg7 : arg7.IsWhole} {arg8 : Memref sig .tc .vmem S512x128 .bf16} {harg8 : arg8.IsWhole} {arg9 : Memref sig .tc .vmem S64x4096 .bf16} {harg9 : arg9.IsWhole} {arg10 : Memref sig .tc .vmem S64x4096 .bf16} {harg10 : arg10.IsWhole} {arg11 : Memref sig .tc .vmem S512x512 .f32} {harg11 : arg11.IsWhole} {arg12 : Memref sig .tc .vmem S512x512 .f32} {harg12 : arg12.IsWhole} {arg13 : Memref sig .tc .vmem S1x512 .f32} {harg13 : arg13.IsWhole} {arg14 : Memref sig .tc .vmem S144x512 .f32} {harg14 : arg14.IsWhole} {arg1 : BitVec 32} {q : Vec F S512x128 .bf16} {cf : FVec F S1x128 .f32} {vo : FVec F S16x512 .bf16} {v27 : FVec F S512x512 .f32} {v52 : BitVec 32}
    {X3 : BufTy.Contents (Elt F) arg3.view.ty} {X4 : BufTy.Contents (Elt F) arg4.view.ty} {X5 : BufTy.Contents (Elt F) arg5.view.ty} {G11 : BufTy.Contents (Elt F) arg11.view.ty} {G12 : BufTy.Contents (Elt F) arg12.view.ty} {G13 : BufTy.Contents (Elt F) arg13.view.ty} {G14 : BufTy.Contents (Elt F) arg14.view.ty} :
    (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg1 q cf vo v27 v52 X3 X4 X5 G11 G12 G13 G14 (Scf.trips (k0_t2_loop i).lb (k0_t2_loop i).ub (k0_t2_loop i).st)).2.2.2 = [] := by
  rw [show Scf.trips (k0_t2_loop i).lb (k0_t2_loop i).ub (k0_t2_loop i).st = 0 from trips2_eq i]
  rfl

/-- Reading past a loop that stored nothing, over one that did. -/
theorem readCov_loops {S : Shape} {e : EltTy} (m : Memref sig .tc .vmem S e) (L2 L1 C : List (View.Piece (Elt F) S e)) (B : LoadRect S) (h : L2 = []) :
    m.view.readCov (L2 ++ (L1 ++ C)) B = m.view.readAt (Elt F) B (m.view.writes (Elt F) (m.view.writes (Elt F) (m.view.junk) C) L1) := by
  subst h
  rw [← View.writes_append]; rfl

/-- Reading the whole of a buffer, and the whole of a buffer filled. -/
theorem readAt_whole {S : Shape} {e : EltTy} (m : Memref sig .tc .vmem S e) (f : BufTy.Contents (Elt F) m.view.ty) {off : Fin S.rank → ℕ} (inb : ∀ a, off a + S.size a ≤ S.size a) (h : ∀ a, off a = 0) :
    m.view.readAt (Elt F) (Rect.unit off S.size inb).toLoadRect f = m.view.read (Elt F) f :=
  View.ld_unit_zero (funext h) inb _

/-- A read of a filled buffer is the filling. -/
theorem read_fill {S : Shape} {e : EltTy} (m : Memref sig .tc .vmem S e) (f : BufTy.Contents (Elt F) m.view.ty) {off : Fin S.rank → ℕ} (inb : ∀ a, off a + S.size a ≤ S.size a)
    (w : S.Idx → Elt F e) (L : List (View.Piece (Elt F) S e)) (h : ∀ a, off a = 0) :
    m.view.read (Elt F) (m.view.writes (Elt F) f (⟨Rect.unit off S.size inb, w⟩ :: L)) = w :=
  (View.read_writes_eq_canon _ _ _ fun y => ⟨_, List.mem_cons_self, View.mem_set_unit_zero (funext h) inb y⟩).trans (View.canon_cons_unit_lit inb w L h)

/-- Every index lies in one of the accumulator's two lane groups. -/
theorem halves (y : S144x512.Idx) : y ∈ aHi.set ∨ y ∈ aLo.set := by
  have h0 : (y 0).val < 144 := (y 0).isLt
  have h1 : (y 1).val < 512 := (y 1).isLt
  simp only [Rect.mem_set_unit]
  by_cases h : (y 1).val < 256
  · right; intro a; fin_cases a
    · show 0 ≤ (y 0).val ∧ (y 0).val < 0 + 144; omega
    · show 0 ≤ (y 1).val ∧ (y 1).val < 0 + 256; omega
  · left; intro a; fin_cases a
    · show 0 ≤ (y 0).val ∧ (y 0).val < 0 + 144; omega
    · show 256 ≤ (y 1).val ∧ (y 1).val < 256 + 256; omega

/-- Reading a buffer whose two halves were stored last. -/
theorem readCov_halves {S : Shape} {e : EltTy} (m : Memref sig .tc .vmem S e) (rH rL : Rect S) (w1 v1 : rH.shape.Idx → Elt F e) (w0 v0 : rL.shape.Idx → Elt F e) (L : List (View.Piece (Elt F) S e)) (r : Rect S)
    (hc : ∀ y, y ∈ rH.set ∨ y ∈ rL.set) (h1 : w1 = v1) (h0 : w0 = v0) :
    m.view.readCov (⟨rH, w1⟩ :: ⟨rL, w0⟩ :: L) r.toLoadRect = View.ld (View.canon [⟨rH, v1⟩, ⟨rL, v0⟩]) r := by
  subst h1 h0
  rw [View.readCov_eq_canon_ld _ _ _ fun y => (hc y).elim (fun h => ⟨_, List.mem_cons_self, h⟩) (fun h => ⟨_, List.mem_cons_of_mem _ List.mem_cons_self, h⟩)]
  refine congrArg (fun a => View.ld a r) (funext fun y => ?_)
  by_cases h : y ∈ rH.set
  · obtain ⟨x, rfl⟩ : ∃ x, rH.emb x = y := rH.exists_idx_of_mem h
    rw [View.canon_cons_emb, View.canon_cons_emb]
  · refine (View.canon_cons_of_not_mem ⟨rH, w1⟩ _ h).trans (Eq.trans ?_ (View.canon_cons_of_not_mem ⟨rH, w1⟩ _ h).symm)
    obtain ⟨x, rfl⟩ : ∃ x, rL.emb x = y := rL.exists_idx_of_mem ((hc y).resolve_left h)
    exact (View.canon_cons_emb _ _ _ _).trans (View.canon_cons_emb _ _ _ _).symm

/-- Where each case of the body's last blocks loads. -/
theorem off8_eq : ∀ i : grid0.Coords, (i 1).val % 4 = 0 → k0_off8 i = ![0, 512 * ((4 * ((i 1).val / 4)) % 16), 0] := by
  decide +kernel

/-- Where a block after the loop lies. -/
theorem off9_eq : ∀ i : grid0.Coords, (i 1).val % 4 = 0 → k0_off9 i = ![0, 512 * ((4 * ((i 1).val / 4)) % 16)] := by
  decide +kernel

/-- Where a block after the loop lies. -/
theorem off10_eq : ∀ i : grid0.Coords, (i 1).val % 4 = 1 → k0_off10 i = ![512 * ((4 * ((i 1).val / 4) + 1) % 16), 0] := by
  decide +kernel

/-- Where a block after the loop lies. -/
theorem off11_eq : ∀ i : grid0.Coords, (i 1).val % 4 = 1 → ∀ b : Fin 2, k0_off11 i (BitVec.ofNat 32 b.val) = ![0, 512 * ((4 * ((i 1).val / 4) + b.val) % 16), 0] := by
  decide +kernel

/-- Where a block after the loop lies. -/
theorem off12_eq : ∀ i : grid0.Coords, (i 1).val % 4 = 1 → ∀ b : Fin 2, k0_off12 i (BitVec.ofNat 32 b.val) = ![0, 512 * ((4 * ((i 1).val / 4) + b.val) % 16)] := by
  decide +kernel

/-- Where a block after the loop lies. -/
theorem off13_eq : ∀ i : grid0.Coords, (i 1).val % 4 = 2 → ∀ b : Fin 2, k0_off13 i (BitVec.ofNat 32 b.val) = ![512 * ((4 * ((i 1).val / 4) + b.val + 1) % 16), 0] := by
  decide +kernel

/-- Where a block after the loop lies. -/
theorem off14_eq : ∀ i : grid0.Coords, (i 1).val % 4 = 2 → ∀ b : Fin 3, k0_off14 i (BitVec.ofNat 32 b.val) = ![0, 512 * ((4 * ((i 1).val / 4) + b.val) % 16), 0] := by
  decide +kernel

/-- Where a block after the loop lies. -/
theorem off15_eq : ∀ i : grid0.Coords, (i 1).val % 4 = 2 → ∀ b : Fin 3, k0_off15 i (BitVec.ofNat 32 b.val) = ![0, 512 * ((4 * ((i 1).val / 4) + b.val) % 16)] := by
  decide +kernel

/-- Where a block after the loop lies. -/
theorem off16_eq : ∀ i : grid0.Coords, (i 1).val % 4 = 3 → ∀ b : Fin 3, k0_off16 i (BitVec.ofNat 32 b.val) = ![512 * ((4 * ((i 1).val / 4) + b.val + 1) % 16), 0] := by
  decide +kernel

/-- Where a block after the loop lies. -/
theorem off17_eq : ∀ i : grid0.Coords, (i 1).val % 4 = 3 → ∀ b : Fin 4, k0_off17 i (BitVec.ofNat 32 b.val) = ![0, 512 * ((4 * ((i 1).val / 4) + b.val) % 16), 0] := by
  decide +kernel

/-- Where a block after the loop lies. -/
theorem off18_eq : ∀ i : grid0.Coords, (i 1).val % 4 = 3 → ∀ b : Fin 4, k0_off18 i (BitVec.ofNat 32 b.val) = ![0, 512 * ((4 * ((i 1).val / 4) + b.val) % 16)] := by
  decide +kernel

end Cert.KernelAttnIdeal.Attn

end
-- ==== Proof.AttnBody0.lean ====
/- The attention's body, run once per case of its last blocks. -/
module

public import proofs.«01_k».proof.Proof.Gen.KernelAttnIdeal.Frame
public import proofs.«01_k».proof.Proof.AttnLoop

@[expose] public section

set_option maxRecDepth 16384

noncomputable section

namespace Cert.KernelAttnIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnIdeal.Gen

variable {F : FTy → Type} [FloatOps F] [Named F]

local notation "𝕄" => MT nD τ sig Unit (Elt F) ℕ (UR sig nD τ) ℕ

set_option maxHeartbeats 2000000 in
/-- The body when the query block's index is 0 past a multiple of four: it leaves its inputs, the output block of the
    model, and the two tables rounded. -/
theorem run_0 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (x0 : Vec F S512x128 .bf16) (x1 : Vec F S8192x128 .bf16) (x2 : Vec F S128x8192 .bf16) (x3 : Vec F S1x8192x128 .f32) (x4 : Vec F S1x64x4096 .f32) (x5 : Vec F S1x64x4096 .f32)
    (hr : (i 1).val % 4 = 0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 i x0 x1 x2 x3) ∗ owns (c : Thread nD τ) arg9 fullShare (k0_pay202 x4) ∗ owns (c : Thread nD τ) arg10 fullShare (k0_pay203 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13 arg14 harg14) K := by
  simp only [cc0_fox_attention_eq_skeleton]; unfold cc0_fox_attention_skel
  have htr := trips2_eq i
  have hc1 : k0_cond1 i = 1#1 := by revert hr; revert i; decide +kernel
  have hc2 : ¬ k0_cond2 i = 1#1 := by revert hr; revert i; decide +kernel
  have hc3 : ¬ k0_cond3 i = 1#1 := by revert hr; revert i; decide +kernel
  have hc4 : ¬ k0_cond4 i = 1#1 := by revert hr; revert i; decide +kernel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7
  sl_exec (disch := first | sl_exact hc1 | sl_exact hc2 | sl_exact hc3 | sl_exact hc4)
  obtain ⟨N, hN⟩ : ∃ N, N = 4 * ((i 1).val / 4) := ⟨_, rfl⟩
  have hi1 : (i 1).val = N := by omega
  let I : In F := In.mk (run_0.sl.r (F := F) c arg2 f2) (run_0.sl.r_1 (F := F) c i arg5 f5) (k0_pay207 (F := F)) (arg3.view.read (Elt F) f3) (arg4.view.read (Elt F) f4) (arg5.view.read (Elt F) f5)
  have z0 : k0_pay209 (run_0.sl.r_2 (F := F) c arg2 arg3 f2 f3) = I.sc 0 := congrArg (scores (run_0.sl.r (F := F) c arg2 f2)) (ld_unit_congr (arg3.view.read (Elt F) f3) inb_S8192x128_S512x128_0_0 (inbK 0) (by decide))
  have h0 : After I 0 arg11 arg13 arg14 (arg11.view.writes (Elt F) arg11.view.junk (run_0.sl.H11_1 (F := F) c arg2 arg3 f2 f3)) (arg13.view.writes (Elt F) arg13.view.junk (run_0.sl.H13_1 (F := F) )) (arg14.view.writes (Elt F) arg14.view.junk (run_0.sl.H14_1 (F := F) )) := ⟨(readAt_fill _ _ _ _ _ _ (by decide)).trans (congrArg lo z0), (readAt_fill _ _ _ _ _ _ (by decide)).trans (congrArg hi z0), (readAt_fill _ _ _ _ _ _ (by decide)).trans rfl, (readAt_fill _ _ _ _ _ _ (by decide)).trans rfl, (readAt_fill _ _ _ _ _ _ (by decide)).trans rfl, (readAt_fill _ _ _ _ _ _ (by decide)).trans rfl⟩
  have hA := after_pb (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (run_0.sl.r (F := F) c arg2 f2) (run_0.sl.r_1 (F := F) c i arg5 f5) (k0_pay207 (F := F)) (run_0.sl.r_2 (F := F) c arg2 arg3 f2 f3) f3 f4 f5 (arg11.view.writes (Elt F) arg11.view.junk (run_0.sl.H11_1 (F := F) c arg2 arg3 f2 f3)) f12 (arg13.view.writes (Elt F) arg13.view.junk (run_0.sl.H13_1 (F := F) )) (arg14.view.writes (Elt F) arg14.view.junk (run_0.sl.H14_1 (F := F) )) h0 (k0_t1_loop i).trips le_rfl
  rw [show 4 * (k0_t1_loop i).trips = N from by rw [trips_eq]; exact hN.symm] at hA
  obtain ⟨sl, sr, ml, mr, al, ar⟩ := hA
  have oc0 : k0_off8 i = ![0, 512 * ((N) % 16), 0] := by rw [hN]; exact off8_eq i hr
  have c0 : ∀ h, View.ld (arg5.view.read (Elt F) f5) (Rect.unit (k0_off8 i) S1x512x128.size h) = cB (arg5.view.read (Elt F) f5) (N) := fun h => ld_unit_congr _ h _ oc0
  have ov0 : k0_off9 i = ![0, 512 * ((N) % 16)] := by rw [hN]; exact off9_eq i hr
  have v0 : ∀ h, View.ld (arg4.view.read (Elt F) f4) (Rect.unit (k0_off9 i) S128x512.size h) = vB (arg4.view.read (Elt F) f4) (N) := fun h => ld_unit_congr _ h _ ov0
  have ls0lo : (run_0.sl.v93 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = lo (I.sc (N)) := (readCov_loops _ _ _ _ _ t2_1).trans sl
  have lm0lo : (run_0.sl.v102 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).1 := (readCov_loops _ _ _ _ _ t2_3).trans ml
  have la0lo : (run_0.sl.v111 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).2 := (readCov_loops _ _ _ _ _ t2_4).trans al
  have elo : (k0_pay105 (run_0.sl.r_1 (F := F) c i arg5 f5) k0_pay207 (View.readAt (Elt F) arg5.view (Rect.unit (s := S1x8192x128) (k0_off8 i) S1x512x128.size (by rw [oc0]; exact inbC _)).toLoadRect f5) (View.readAt (Elt F) arg4.view (Rect.unit (s := S128x8192) (k0_off9 i) S128x512.size (by rw [ov0]; exact inbV _)).toLoadRect f4) (run_0.sl.v93 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) (run_0.sl.v102 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) (run_0.sl.v111 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12)) = I.fin lo 0#32 (N) := stepA_congr (congrArg (vOnes _) (v0 _)) (congrArg (mask _) (congrArg₂ addf ls0lo (congrArg (Attn.bias _) (c0 _)))) lm0lo la0lo
  have ls0hi : (run_0.sl.v123 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = hi (I.sc (N)) := (readCov_loops _ _ _ _ _ t2_1).trans sr
  have lm0hi : (run_0.sl.v132 (F := F) c i arg2 harg2 arg3 harg3 arg4 harg4 arg5 harg5 arg6 harg6 arg7 harg7 arg8 harg8 arg9 harg9 arg10 harg10 arg11 harg11 arg12 harg12 arg13 harg13 arg14 harg14 hc1 f2 f3 f4 f5 f12) = (I.st hi (N)).1 := (View.readCov_skip _ _ _ _ _ (by decide)).trans ((readCov_loops _ _ _ _ _ t2_3).trans mr)
  have la0hi : (run_0.sl.v141 (F := F) c i arg2 harg2 arg3 harg3 arg4 harg4 arg5 harg5 arg6 harg6 arg7 harg7 arg8 harg8 arg9 harg9 arg10 harg10 arg11 harg11 arg12 harg12 arg13 harg13 arg14 harg14 hc1 f2 f3 f4 f5 f12) = (I.st hi (N)).2 := (View.readCov_skip _ _ _ _ _ (by decide)).trans ((readCov_loops _ _ _ _ _ t2_4).trans ar)
  have ehi : (k0_pay217 (run_0.sl.r_3 (F := F) c i arg5 hc1 f5) (run_0.sl.r_4 (F := F) c i arg4 hc1 f4) (run_0.sl.v123 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) (run_0.sl.v132 (F := F) c i arg2 harg2 arg3 harg3 arg4 harg4 arg5 harg5 arg6 harg6 arg7 harg7 arg8 harg8 arg9 harg9 arg10 harg10 arg11 harg11 arg12 harg12 arg13 harg13 arg14 harg14 hc1 f2 f3 f4 f5 f12) (run_0.sl.v141 (F := F) c i arg2 harg2 arg3 harg3 arg4 harg4 arg5 harg5 arg6 harg6 arg7 harg7 arg8 harg8 arg9 harg9 arg10 harg10 arg11 harg11 arg12 harg12 arg13 harg13 arg14 harg14 hc1 f2 f3 f4 f5 f12)) = I.fin hi 256#32 (N) := stepA_congr (congrArg (vOnes _) (v0 _)) (congrArg (mask _) (congrArg₂ addf ls0hi (congrArg (Attn.bias _) (c0 _)))) lm0hi la0hi
  have e73 : (run_0.sl.v73 (F := F) c i arg2 harg2 arg3 harg3 arg4 harg4 arg5 harg5 arg6 harg6 arg7 harg7 arg8 harg8 arg9 harg9 arg10 harg10 arg11 harg11 arg12 harg12 arg13 harg13 arg14 harg14 hc1 f2 f3 f4 f5 f12) = View.ld (I.acc (N)) (Rect.unit (s := S144x512) ![0, 0] S128x512.size inb_S144x512_S128x512_0_0) := readCov_halves _ _ _ _ _ _ _ _ _ halves ehi elo
  have e74 : (run_0.sl.v74 (F := F) c i arg2 harg2 arg3 harg3 arg4 harg4 arg5 harg5 arg6 harg6 arg7 harg7 arg8 harg8 arg9 harg9 arg10 harg10 arg11 harg11 arg12 harg12 arg13 harg13 arg14 harg14 hc1 f2 f3 f4 f5 f12) = View.ld (I.acc (N)) (Rect.unit (s := S144x512) ![128, 0] S1x512.size inb_S144x512_S1x512_128_0) := readCov_halves _ _ _ _ _ _ _ _ _ halves ehi elo
  have eq : (run_0.sl.r (F := F) c arg2 f2) = arg2.view.read (Elt F) f2 := readAt_whole _ _ _ (by decide)
  have e8 : k0_pay6 (run_0.sl.v73 (F := F) c i arg2 harg2 arg3 harg3 arg4 harg4 arg5 harg5 arg6 harg6 arg7 harg7 arg8 harg8 arg9 harg9 arg10 harg10 arg11 harg11 arg12 harg12 arg13 harg13 arg14 harg14 hc1 f2 f3 f4 f5 f12) (run_0.sl.v74 (F := F) c i arg2 harg2 arg3 harg3 arg4 harg4 arg5 harg5 arg6 harg6 arg7 harg7 arg8 harg8 arg9 harg9 arg10 harg10 arg11 harg11 arg12 harg12 arg13 harg13 arg14 harg14 hc1 f2 f3 f4 f5 f12) = out8 i (arg2.view.read (Elt F) f2) (arg3.view.read (Elt F) f3) (arg4.view.read (Elt F) f4) (arg5.view.read (Elt F) f5) := by
    refine (congrArg₂ (fun a b => k0_pay6 a b) e73 e74).trans ?_
    show I.out (N) = In.out _ (i 1).val
    rw [hi1, ← eq]
    rfl
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap
    · iexact H8
    · ipureintro; exact (read_fill _ _ _ _ _ (by decide)).trans e8
  isplitl [H9]
  · iexists _; isplitr
    swap
    · iexact H9
    · ipureintro; exact (read_fill _ _ _ _ _ (by decide)).trans (congrArg k0_pay202 (readAt_whole _ _ _ (by decide)))
  isplitl [H10]
  · iexists _; isplitr
    swap
    · iexact H10
    · ipureintro; exact (read_fill _ _ _ _ _ (by decide)).trans (congrArg k0_pay203 (readAt_whole _ _ _ (by decide)))
  isplitl [H11]
  · iexists _; iexists _; isplitr
    swap
    · iexact H11
    · ipureintro; rfl
  isplitl [H12]
  · iexists _; iexists _; isplitr
    swap
    · iexact H12
    · ipureintro; rfl
  isplitl [H13]
  · iexists _; iexists _; isplitr
    swap
    · iexact H13
    · ipureintro; rfl
  iexists _; iexists _; isplitr
  swap
  · iexact H14
  · ipureintro; rfl

end Cert.KernelAttnIdeal.Attn

end
-- ==== Proof.AttnBody1.lean ====
/- The attention's body, run once per case of its last blocks. -/
module

public import proofs.«01_k».proof.Proof.Gen.KernelAttnIdeal.Frame
public import proofs.«01_k».proof.Proof.AttnLoop

@[expose] public section

set_option maxRecDepth 16384

noncomputable section

namespace Cert.KernelAttnIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnIdeal.Gen

variable {F : FTy → Type} [FloatOps F] [Named F]

local notation "𝕄" => MT nD τ sig Unit (Elt F) ℕ (UR sig nD τ) ℕ

set_option maxHeartbeats 2000000 in
/-- The body when the query block's index is 1 past a multiple of four: it leaves its inputs, the output block of the
    model, and the two tables rounded. -/
theorem run_1 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (x0 : Vec F S512x128 .bf16) (x1 : Vec F S8192x128 .bf16) (x2 : Vec F S128x8192 .bf16) (x3 : Vec F S1x8192x128 .f32) (x4 : Vec F S1x64x4096 .f32) (x5 : Vec F S1x64x4096 .f32)
    (hr : (i 1).val % 4 = 1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 i x0 x1 x2 x3) ∗ owns (c : Thread nD τ) arg9 fullShare (k0_pay202 x4) ∗ owns (c : Thread nD τ) arg10 fullShare (k0_pay203 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13 arg14 harg14) K := by
  simp only [cc0_fox_attention_eq_skeleton]; unfold cc0_fox_attention_skel
  have htr := trips2_eq i
  have hc1 : ¬ k0_cond1 i = 1#1 := by revert hr; revert i; decide +kernel
  have hc2 : k0_cond2 i = 1#1 := by revert hr; revert i; decide +kernel
  have hc3 : ¬ k0_cond3 i = 1#1 := by revert hr; revert i; decide +kernel
  have hc4 : ¬ k0_cond4 i = 1#1 := by revert hr; revert i; decide +kernel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7
  sl_exec (disch := first | sl_exact hc1 | sl_exact hc2 | sl_exact hc3 | sl_exact hc4)
  obtain ⟨N, hN⟩ : ∃ N, N = 4 * ((i 1).val / 4) := ⟨_, rfl⟩
  have hi1 : (i 1).val = N + 1 := by omega
  let I : In F := In.mk (run_1.sl.r (F := F) c arg2 f2) (run_1.sl.r_1 (F := F) c i arg5 f5) (k0_pay207 (F := F)) (arg3.view.read (Elt F) f3) (arg4.view.read (Elt F) f4) (arg5.view.read (Elt F) f5)
  have z0 : k0_pay209 (run_1.sl.r_2 (F := F) c arg2 arg3 f2 f3) = I.sc 0 := congrArg (scores (run_1.sl.r (F := F) c arg2 f2)) (ld_unit_congr (arg3.view.read (Elt F) f3) inb_S8192x128_S512x128_0_0 (inbK 0) (by decide))
  have h0 : After I 0 arg11 arg13 arg14 (arg11.view.writes (Elt F) arg11.view.junk (run_1.sl.H11_1 (F := F) c arg2 arg3 f2 f3)) (arg13.view.writes (Elt F) arg13.view.junk (run_1.sl.H13_1 (F := F) )) (arg14.view.writes (Elt F) arg14.view.junk (run_1.sl.H14_1 (F := F) )) := ⟨(readAt_fill _ _ _ _ _ _ (by decide)).trans (congrArg lo z0), (readAt_fill _ _ _ _ _ _ (by decide)).trans (congrArg hi z0), (readAt_fill _ _ _ _ _ _ (by decide)).trans rfl, (readAt_fill _ _ _ _ _ _ (by decide)).trans rfl, (readAt_fill _ _ _ _ _ _ (by decide)).trans rfl, (readAt_fill _ _ _ _ _ _ (by decide)).trans rfl⟩
  have hA := after_pb (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (run_1.sl.r (F := F) c arg2 f2) (run_1.sl.r_1 (F := F) c i arg5 f5) (k0_pay207 (F := F)) (run_1.sl.r_2 (F := F) c arg2 arg3 f2 f3) f3 f4 f5 (arg11.view.writes (Elt F) arg11.view.junk (run_1.sl.H11_1 (F := F) c arg2 arg3 f2 f3)) f12 (arg13.view.writes (Elt F) arg13.view.junk (run_1.sl.H13_1 (F := F) )) (arg14.view.writes (Elt F) arg14.view.junk (run_1.sl.H14_1 (F := F) )) h0 (k0_t1_loop i).trips le_rfl
  rw [show 4 * (k0_t1_loop i).trips = N from by rw [trips_eq]; exact hN.symm] at hA
  obtain ⟨sl, sr, ml, mr, al, ar⟩ := hA
  have oc0 : k0_off11 i (BitVec.ofNat 32 0) = ![0, 512 * ((N) % 16), 0] := by rw [hN]; exact off11_eq i hr 0
  have c0 : ∀ h, View.ld (arg5.view.read (Elt F) f5) (Rect.unit (k0_off11 i (BitVec.ofNat 32 0)) S1x512x128.size h) = cB (arg5.view.read (Elt F) f5) (N) := fun h => ld_unit_congr _ h _ oc0
  have ov0 : k0_off12 i (BitVec.ofNat 32 0) = ![0, 512 * ((N) % 16)] := by rw [hN]; exact off12_eq i hr 0
  have v0 : ∀ h, View.ld (arg4.view.read (Elt F) f4) (Rect.unit (k0_off12 i (BitVec.ofNat 32 0)) S128x512.size h) = vB (arg4.view.read (Elt F) f4) (N) := fun h => ld_unit_congr _ h _ ov0
  have oc1 : k0_off11 i (BitVec.ofNat 32 1) = ![0, 512 * ((N + 1) % 16), 0] := by rw [hN]; exact off11_eq i hr 1
  have c1 : ∀ h, View.ld (arg5.view.read (Elt F) f5) (Rect.unit (k0_off11 i (BitVec.ofNat 32 1)) S1x512x128.size h) = cB (arg5.view.read (Elt F) f5) (N + 1) := fun h => ld_unit_congr _ h _ oc1
  have ov1 : k0_off12 i (BitVec.ofNat 32 1) = ![0, 512 * ((N + 1) % 16)] := by rw [hN]; exact off12_eq i hr 1
  have v1 : ∀ h, View.ld (arg4.view.read (Elt F) f4) (Rect.unit (k0_off12 i (BitVec.ofNat 32 1)) S128x512.size h) = vB (arg4.view.read (Elt F) f4) (N + 1) := fun h => ld_unit_congr _ h _ ov1
  have ok0 : k0_off10 i = ![512 * ((N + 1) % 16), 0] := by rw [hN]; exact off10_eq i hr
  have k0 : ∀ h, View.ld (arg3.view.read (Elt F) f3) (Rect.unit (k0_off10 i) S512x128.size h) = kB (arg3.view.read (Elt F) f3) (N + 1) := fun h => ld_unit_congr _ h _ ok0
  have s1 : (run_1.sl.v90 (F := F) c i arg2 arg3 hc2 f2 f3) = I.sc (N + 1) := congrArg (scores _) (k0 _)
  have b0 : (run_1.sl.v99 (F := F) c i arg5 hc2 f5) = Attn.bias (run_1.sl.r_1 (F := F) c i arg5 f5) (cB (arg5.view.read (Elt F) f5) (N)) := congrArg (Attn.bias _) (c0 _)
  have t0 : (run_1.sl.v102 (F := F) c i arg4 hc2 f4) = I.vt (N) := congrArg (vOnes _) (v0 _)
  have ls0lo : (run_1.sl.v103 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = lo (I.sc (N)) := (readCov_loops _ _ _ _ _ t2_1).trans sl
  have lm0lo : (run_1.sl.v105 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).1 := (readCov_loops _ _ _ _ _ t2_3).trans ml
  have la0lo : (run_1.sl.v114 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).2 := (readCov_loops _ _ _ _ _ t2_4).trans al
  have g0lo : (run_1.sl.v104 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = I.gs lo (N) := congrArg₂ addf ls0lo b0
  have m0lo : (run_1.sl.v125 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st lo (N + 1)).1 := congrArg₂ stepM g0lo lm0lo
  have a0lo : (run_1.sl.v122 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st lo (N + 1)).2 := stepA_congr t0 g0lo lm0lo la0lo
  have ls0hi : (run_1.sl.v126 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = hi (I.sc (N)) := (readCov_loops _ _ _ _ _ t2_1).trans sr
  have lm0hi : (run_1.sl.v128 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N)).1 := (View.readCov_skip _ _ _ _ _ (by decide)).trans ((readCov_loops _ _ _ _ _ t2_3).trans mr)
  have la0hi : (run_1.sl.v137 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N)).2 := (View.readCov_skip _ _ _ _ _ (by decide)).trans ((readCov_loops _ _ _ _ _ t2_4).trans ar)
  have g0hi : (run_1.sl.v127 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = I.gs hi (N) := congrArg₂ addf ls0hi b0
  have m0hi : (run_1.sl.v148 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N + 1)).1 := congrArg₂ stepM g0hi lm0hi
  have a0hi : (run_1.sl.v145 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N + 1)).2 := stepA_congr t0 g0hi lm0hi la0hi
  have ls1lo : (run_1.sl.v161 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = lo (I.sc (N + 1)) := (View.readCov_fill _ _ _ _ _ (by decide)).trans (congrArg lo s1)
  have lm1lo : (run_1.sl.v170 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st lo (N + 1)).1 := (View.readCov_skip _ _ _ _ _ (by decide)).trans ((View.readCov_cons_toLoadRect _ _ _ _).trans m0lo)
  have la1lo : (run_1.sl.v179 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st lo (N + 1)).2 := (View.readCov_skip _ _ _ _ _ (by decide)).trans ((View.readCov_cons_toLoadRect _ _ _ _).trans a0lo)
  have elo : (k0_pay123 (run_1.sl.r_1 (F := F) c i arg5 f5) k0_pay207 (run_1.sl.r_3 (F := F) c i arg5 hc2 f5) (View.readAt (Elt F) arg4.view (Rect.unit (s := S128x8192) (k0_off12 i 1#32) S128x512.size (by rw [ov1]; exact inbV _)).toLoadRect f4) (run_1.sl.v161 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) (run_1.sl.v170 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) (run_1.sl.v179 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12)) = I.fin lo 0#32 (N + 1) := stepA_congr (congrArg (vOnes _) (v1 _)) (congrArg (mask _) (congrArg₂ addf ls1lo (congrArg (Attn.bias _) (c1 _)))) lm1lo la1lo
  have ls1hi : (run_1.sl.v191 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = hi (I.sc (N + 1)) := (View.readCov_fill _ _ _ _ _ (by decide)).trans (congrArg hi s1)
  have lm1hi : (run_1.sl.v200 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N + 1)).1 := (View.readCov_skip _ _ _ _ _ (by decide)).trans ((View.readCov_cons_toLoadRect _ _ _ _).trans m0hi)
  have la1hi : (run_1.sl.v209 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = (I.st hi (N + 1)).2 := (View.readCov_skip _ _ _ _ _ (by decide)).trans ((View.readCov_cons_toLoadRect _ _ _ _).trans a0hi)
  have ehi : (k0_pay221 (run_1.sl.r_4 (F := F) c i arg4 hc2 f4) (run_1.sl.r_5 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) (run_1.sl.v193 ) (run_1.sl.v194 ) (run_1.sl.v200 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) (run_1.sl.v209 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12)) = I.fin hi 256#32 (N + 1) := stepA_congr (congrArg (vOnes _) (v1 _)) (congrArg (mask _) (congrArg₂ addf ls1hi (congrArg (Attn.bias _) (c1 _)))) lm1hi la1hi
  have e73 : (run_1.sl.v73 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = View.ld (I.acc (N + 1)) (Rect.unit (s := S144x512) ![0, 0] S128x512.size inb_S144x512_S128x512_0_0) := readCov_halves _ _ _ _ _ _ _ _ _ halves ehi elo
  have e74 : (run_1.sl.v74 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = View.ld (I.acc (N + 1)) (Rect.unit (s := S144x512) ![128, 0] S1x512.size inb_S144x512_S1x512_128_0) := readCov_halves _ _ _ _ _ _ _ _ _ halves ehi elo
  have eq : (run_1.sl.r (F := F) c arg2 f2) = arg2.view.read (Elt F) f2 := readAt_whole _ _ _ (by decide)
  have e8 : k0_pay6 (run_1.sl.v73 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) (run_1.sl.v74 (F := F) c i arg2 harg2 arg3 harg3 arg4 harg4 arg5 harg5 arg6 harg6 arg7 harg7 arg8 harg8 arg9 harg9 arg10 harg10 arg11 harg11 arg12 harg12 arg13 harg13 arg14 harg14 hc2 f2 f3 f4 f5 f12) = out8 i (arg2.view.read (Elt F) f2) (arg3.view.read (Elt F) f3) (arg4.view.read (Elt F) f4) (arg5.view.read (Elt F) f5) := by
    refine (congrArg₂ (fun a b => k0_pay6 a b) e73 e74).trans ?_
    show I.out (N + 1) = In.out _ (i 1).val
    rw [hi1, ← eq]
    rfl
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap
    · iexact H8
    · ipureintro; exact (read_fill _ _ _ _ _ (by decide)).trans e8
  isplitl [H9]
  · iexists _; isplitr
    swap
    · iexact H9
    · ipureintro; exact (read_fill _ _ _ _ _ (by decide)).trans (congrArg k0_pay202 (readAt_whole _ _ _ (by decide)))
  isplitl [H10]
  · iexists _; isplitr
    swap
    · iexact H10
    · ipureintro; exact (read_fill _ _ _ _ _ (by decide)).trans (congrArg k0_pay203 (readAt_whole _ _ _ (by decide)))
  isplitl [H11]
  · iexists _; iexists _; isplitr
    swap
    · iexact H11
    · ipureintro; rfl
  isplitl [H12]
  · iexists _; iexists _; isplitr
    swap
    · iexact H12
    · ipureintro; rfl
  isplitl [H13]
  · iexists _; iexists _; isplitr
    swap
    · iexact H13
    · ipureintro; rfl
  iexists _; iexists _; isplitr
  swap
  · iexact H14
  · ipureintro; rfl

end Cert.KernelAttnIdeal.Attn

end
-- ==== Proof.AttnBody2.lean ====
/- The attention's body, run once per case of its last blocks. -/
module

public import proofs.«01_k».proof.Proof.Gen.KernelAttnIdeal.Frame
public import proofs.«01_k».proof.Proof.AttnLoop

@[expose] public section

set_option maxRecDepth 16384

noncomputable section

namespace Cert.KernelAttnIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnIdeal.Gen

variable {F : FTy → Type} [FloatOps F] [Named F]

local notation "𝕄" => MT nD τ sig Unit (Elt F) ℕ (UR sig nD τ) ℕ

set_option maxHeartbeats 2000000 in
/-- The body when the query block's index is 2 past a multiple of four: it leaves its inputs, the output block of the
    model, and the two tables rounded. -/
theorem run_2 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (x0 : Vec F S512x128 .bf16) (x1 : Vec F S8192x128 .bf16) (x2 : Vec F S128x8192 .bf16) (x3 : Vec F S1x8192x128 .f32) (x4 : Vec F S1x64x4096 .f32) (x5 : Vec F S1x64x4096 .f32)
    (hr : (i 1).val % 4 = 2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 i x0 x1 x2 x3) ∗ owns (c : Thread nD τ) arg9 fullShare (k0_pay202 x4) ∗ owns (c : Thread nD τ) arg10 fullShare (k0_pay203 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13 arg14 harg14) K := by
  simp only [cc0_fox_attention_eq_skeleton]; unfold cc0_fox_attention_skel
  have htr := trips2_eq i
  have hc1 : ¬ k0_cond1 i = 1#1 := by revert hr; revert i; decide +kernel
  have hc2 : ¬ k0_cond2 i = 1#1 := by revert hr; revert i; decide +kernel
  have hc3 : k0_cond3 i = 1#1 := by revert hr; revert i; decide +kernel
  have hc4 : ¬ k0_cond4 i = 1#1 := by revert hr; revert i; decide +kernel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7
  sl_exec (disch := first | sl_exact hc1 | sl_exact hc2 | sl_exact hc3 | sl_exact hc4)
  obtain ⟨N, hN⟩ : ∃ N, N = 4 * ((i 1).val / 4) := ⟨_, rfl⟩
  have hi1 : (i 1).val = N + 1 + 1 := by omega
  let I : In F := In.mk (run_2.sl.r (F := F) c arg2 f2) (run_2.sl.r_1 (F := F) c i arg5 f5) (k0_pay207 (F := F)) (arg3.view.read (Elt F) f3) (arg4.view.read (Elt F) f4) (arg5.view.read (Elt F) f5)
  have z0 : k0_pay209 (run_2.sl.r_2 (F := F) c arg2 arg3 f2 f3) = I.sc 0 := congrArg (scores (run_2.sl.r (F := F) c arg2 f2)) (ld_unit_congr (arg3.view.read (Elt F) f3) inb_S8192x128_S512x128_0_0 (inbK 0) (by decide))
  have h0 : After I 0 arg11 arg13 arg14 (arg11.view.writes (Elt F) arg11.view.junk (run_2.sl.H11_1 (F := F) c arg2 arg3 f2 f3)) (arg13.view.writes (Elt F) arg13.view.junk (run_2.sl.H13_1 (F := F) )) (arg14.view.writes (Elt F) arg14.view.junk (run_2.sl.H14_1 (F := F) )) := ⟨(readAt_fill _ _ _ _ _ _ (by decide)).trans (congrArg lo z0), (readAt_fill _ _ _ _ _ _ (by decide)).trans (congrArg hi z0), (readAt_fill _ _ _ _ _ _ (by decide)).trans rfl, (readAt_fill _ _ _ _ _ _ (by decide)).trans rfl, (readAt_fill _ _ _ _ _ _ (by decide)).trans rfl, (readAt_fill _ _ _ _ _ _ (by decide)).trans rfl⟩
  have hA := after_pb (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (run_2.sl.r (F := F) c arg2 f2) (run_2.sl.r_1 (F := F) c i arg5 f5) (k0_pay207 (F := F)) (run_2.sl.r_2 (F := F) c arg2 arg3 f2 f3) f3 f4 f5 (arg11.view.writes (Elt F) arg11.view.junk (run_2.sl.H11_1 (F := F) c arg2 arg3 f2 f3)) f12 (arg13.view.writes (Elt F) arg13.view.junk (run_2.sl.H13_1 (F := F) )) (arg14.view.writes (Elt F) arg14.view.junk (run_2.sl.H14_1 (F := F) )) h0 (k0_t1_loop i).trips le_rfl
  rw [show 4 * (k0_t1_loop i).trips = N from by rw [trips_eq]; exact hN.symm] at hA
  obtain ⟨sl, sr, ml, mr, al, ar⟩ := hA
  have oc0 : k0_off14 i (BitVec.ofNat 32 0) = ![0, 512 * ((N) % 16), 0] := by rw [hN]; exact off14_eq i hr 0
  have c0 : ∀ h, View.ld (arg5.view.read (Elt F) f5) (Rect.unit (k0_off14 i (BitVec.ofNat 32 0)) S1x512x128.size h) = cB (arg5.view.read (Elt F) f5) (N) := fun h => ld_unit_congr _ h _ oc0
  have ov0 : k0_off15 i (BitVec.ofNat 32 0) = ![0, 512 * ((N) % 16)] := by rw [hN]; exact off15_eq i hr 0
  have v0 : ∀ h, View.ld (arg4.view.read (Elt F) f4) (Rect.unit (k0_off15 i (BitVec.ofNat 32 0)) S128x512.size h) = vB (arg4.view.read (Elt F) f4) (N) := fun h => ld_unit_congr _ h _ ov0
  have oc1 : k0_off14 i (BitVec.ofNat 32 1) = ![0, 512 * ((N + 1) % 16), 0] := by rw [hN]; exact off14_eq i hr 1
  have c1 : ∀ h, View.ld (arg5.view.read (Elt F) f5) (Rect.unit (k0_off14 i (BitVec.ofNat 32 1)) S1x512x128.size h) = cB (arg5.view.read (Elt F) f5) (N + 1) := fun h => ld_unit_congr _ h _ oc1
  have ov1 : k0_off15 i (BitVec.ofNat 32 1) = ![0, 512 * ((N + 1) % 16)] := by rw [hN]; exact off15_eq i hr 1
  have v1 : ∀ h, View.ld (arg4.view.read (Elt F) f4) (Rect.unit (k0_off15 i (BitVec.ofNat 32 1)) S128x512.size h) = vB (arg4.view.read (Elt F) f4) (N + 1) := fun h => ld_unit_congr _ h _ ov1
  have oc2 : k0_off14 i (BitVec.ofNat 32 2) = ![0, 512 * ((N + 1 + 1) % 16), 0] := by rw [hN]; exact off14_eq i hr 2
  have c2 : ∀ h, View.ld (arg5.view.read (Elt F) f5) (Rect.unit (k0_off14 i (BitVec.ofNat 32 2)) S1x512x128.size h) = cB (arg5.view.read (Elt F) f5) (N + 1 + 1) := fun h => ld_unit_congr _ h _ oc2
  have ov2 : k0_off15 i (BitVec.ofNat 32 2) = ![0, 512 * ((N + 1 + 1) % 16)] := by rw [hN]; exact off15_eq i hr 2
  have v2 : ∀ h, View.ld (arg4.view.read (Elt F) f4) (Rect.unit (k0_off15 i (BitVec.ofNat 32 2)) S128x512.size h) = vB (arg4.view.read (Elt F) f4) (N + 1 + 1) := fun h => ld_unit_congr _ h _ ov2
  have ok0 : k0_off13 i (BitVec.ofNat 32 0) = ![512 * ((N + 1) % 16), 0] := by rw [hN]; exact off13_eq i hr 0
  have k0 : ∀ h, View.ld (arg3.view.read (Elt F) f3) (Rect.unit (k0_off13 i (BitVec.ofNat 32 0)) S512x128.size h) = kB (arg3.view.read (Elt F) f3) (N + 1) := fun h => ld_unit_congr _ h _ ok0
  have ok1 : k0_off13 i (BitVec.ofNat 32 1) = ![512 * ((N + 1 + 1) % 16), 0] := by rw [hN]; exact off13_eq i hr 1
  have k1 : ∀ h, View.ld (arg3.view.read (Elt F) f3) (Rect.unit (k0_off13 i (BitVec.ofNat 32 1)) S512x128.size h) = kB (arg3.view.read (Elt F) f3) (N + 1 + 1) := fun h => ld_unit_congr _ h _ ok1
  have s1 : (run_2.sl.v90 (F := F) c i arg2 arg3 hc3 f2 f3) = I.sc (N + 1) := congrArg (scores _) (k0 _)
  have s2 : (run_2.sl.v158 (F := F) c i arg2 arg3 hc3 f2 f3) = I.sc (N + 1 + 1) := congrArg (scores _) (k1 _)
  have b0 : (run_2.sl.v99 (F := F) c i arg5 hc3 f5) = Attn.bias (run_2.sl.r_1 (F := F) c i arg5 f5) (cB (arg5.view.read (Elt F) f5) (N)) := congrArg (Attn.bias _) (c0 _)
  have t0 : (run_2.sl.v102 (F := F) c i arg4 hc3 f4) = I.vt (N) := congrArg (vOnes _) (v0 _)
  have b1 : (run_2.sl.v167 (F := F) c i arg5 hc3 f5) = Attn.bias (run_2.sl.r_1 (F := F) c i arg5 f5) (cB (arg5.view.read (Elt F) f5) (N + 1)) := congrArg (Attn.bias _) (c1 _)
  have t1 : (run_2.sl.v170 (F := F) c i arg4 hc3 f4) = I.vt (N + 1) := congrArg (vOnes _) (v1 _)
  have ls0lo : (run_2.sl.v103 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = lo (I.sc (N)) := (readCov_loops _ _ _ _ _ t2_1).trans sl
  have lm0lo : (run_2.sl.v105 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).1 := (readCov_loops _ _ _ _ _ t2_3).trans ml
  have la0lo : (run_2.sl.v114 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).2 := (readCov_loops _ _ _ _ _ t2_4).trans al
  have g0lo : (run_2.sl.v104 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = I.gs lo (N) := congrArg₂ addf ls0lo b0
  have m0lo : (run_2.sl.v125 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1)).1 := congrArg₂ stepM g0lo lm0lo
  have a0lo : (run_2.sl.v122 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1)).2 := stepA_congr t0 g0lo lm0lo la0lo
  have ls0hi : (run_2.sl.v126 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = hi (I.sc (N)) := (readCov_loops _ _ _ _ _ t2_1).trans sr
  have lm0hi : (run_2.sl.v128 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N)).1 := (View.readCov_skip _ _ _ _ _ (by decide)).trans ((readCov_loops _ _ _ _ _ t2_3).trans mr)
  have la0hi : (run_2.sl.v137 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N)).2 := (View.readCov_skip _ _ _ _ _ (by decide)).trans ((readCov_loops _ _ _ _ _ t2_4).trans ar)
  have g0hi : (run_2.sl.v127 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = I.gs hi (N) := congrArg₂ addf ls0hi b0
  have m0hi : (run_2.sl.v148 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1)).1 := congrArg₂ stepM g0hi lm0hi
  have a0hi : (run_2.sl.v145 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1)).2 := stepA_congr t0 g0hi lm0hi la0hi
  have ls1lo : (run_2.sl.v171 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = lo (I.sc (N + 1)) := (View.readCov_fill _ _ _ _ _ (by decide)).trans (congrArg lo s1)
  have lm1lo : (run_2.sl.v173 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1)).1 := (View.readCov_skip _ _ _ _ _ (by decide)).trans ((View.readCov_cons_toLoadRect _ _ _ _).trans m0lo)
  have la1lo : (run_2.sl.v182 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1)).2 := (View.readCov_skip _ _ _ _ _ (by decide)).trans ((View.readCov_cons_toLoadRect _ _ _ _).trans a0lo)
  have g1lo : (run_2.sl.v172 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = I.gs lo (N + 1) := congrArg₂ addf ls1lo b1
  have m1lo : (run_2.sl.v193 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1 + 1)).1 := congrArg₂ stepM g1lo lm1lo
  have a1lo : (run_2.sl.v190 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1 + 1)).2 := stepA_congr t1 g1lo lm1lo la1lo
  have ls1hi : (run_2.sl.v194 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = hi (I.sc (N + 1)) := (View.readCov_fill _ _ _ _ _ (by decide)).trans (congrArg hi s1)
  have lm1hi : (run_2.sl.v196 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1)).1 := (View.readCov_skip _ _ _ _ _ (by decide)).trans ((View.readCov_cons_toLoadRect _ _ _ _).trans m0hi)
  have la1hi : (run_2.sl.v205 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1)).2 := (View.readCov_skip _ _ _ _ _ (by decide)).trans ((View.readCov_cons_toLoadRect _ _ _ _).trans a0hi)
  have g1hi : (run_2.sl.v195 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = I.gs hi (N + 1) := congrArg₂ addf ls1hi b1
  have m1hi : (run_2.sl.v216 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1 + 1)).1 := congrArg₂ stepM g1hi lm1hi
  have a1hi : (run_2.sl.v213 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1 + 1)).2 := stepA_congr t1 g1hi lm1hi la1hi
  have ls2lo : (run_2.sl.v229 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = lo (I.sc (N + 1 + 1)) := (View.readCov_fill _ _ _ _ _ (by decide)).trans (congrArg lo s2)
  have lm2lo : (run_2.sl.v238 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1 + 1)).1 := (View.readCov_skip _ _ _ _ _ (by decide)).trans ((View.readCov_cons_toLoadRect _ _ _ _).trans m1lo)
  have la2lo : (run_2.sl.v247 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st lo (N + 1 + 1)).2 := (View.readCov_skip _ _ _ _ _ (by decide)).trans ((View.readCov_cons_toLoadRect _ _ _ _).trans a1lo)
  have elo : (k0_pay154 (run_2.sl.v225 (F := F) c i arg5 hc3 f5) (run_2.sl.v228 (F := F) c i arg4 hc3 f4) (run_2.sl.v229 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) (run_2.sl.v238 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) (run_2.sl.v247 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12)) = I.fin lo 0#32 (N + 1 + 1) := stepA_congr (congrArg (vOnes _) (v2 _)) (congrArg (mask _) (congrArg₂ addf ls2lo (congrArg (Attn.bias _) (c2 _)))) lm2lo la2lo
  have ls2hi : (run_2.sl.v259 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = hi (I.sc (N + 1 + 1)) := (View.readCov_fill _ _ _ _ _ (by decide)).trans (congrArg hi s2)
  have lm2hi : (run_2.sl.v268 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1 + 1)).1 := (View.readCov_skip _ _ _ _ _ (by decide)).trans ((View.readCov_cons_toLoadRect _ _ _ _).trans m1hi)
  have la2hi : (run_2.sl.v277 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = (I.st hi (N + 1 + 1)).2 := (View.readCov_skip _ _ _ _ _ (by decide)).trans ((View.readCov_cons_toLoadRect _ _ _ _).trans a1hi)
  have ehi : (k0_pay2 (run_2.sl.v228 (F := F) c i arg4 hc3 f4) (run_2.sl.r_3 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) (run_2.sl.v268 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) (run_2.sl.v277 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12)) = I.fin hi 256#32 (N + 1 + 1) := stepA_congr (congrArg (vOnes _) (v2 _)) (congrArg (mask _) (congrArg₂ addf ls2hi (congrArg (Attn.bias _) (c2 _)))) lm2hi la2hi
  have e73 : (run_2.sl.v73 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = View.ld (I.acc (N + 1 + 1)) (Rect.unit (s := S144x512) ![0, 0] S128x512.size inb_S144x512_S128x512_0_0) := readCov_halves _ _ _ _ _ _ _ _ _ halves ehi elo
  have e74 : (run_2.sl.v74 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = View.ld (I.acc (N + 1 + 1)) (Rect.unit (s := S144x512) ![128, 0] S1x512.size inb_S144x512_S1x512_128_0) := readCov_halves _ _ _ _ _ _ _ _ _ halves ehi elo
  have eq : (run_2.sl.r (F := F) c arg2 f2) = arg2.view.read (Elt F) f2 := readAt_whole _ _ _ (by decide)
  have e8 : k0_pay6 (run_2.sl.v73 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) (run_2.sl.v74 (F := F) c i arg2 harg2 arg3 harg3 arg4 harg4 arg5 harg5 arg6 harg6 arg7 harg7 arg8 harg8 arg9 harg9 arg10 harg10 arg11 harg11 arg12 harg12 arg13 harg13 arg14 harg14 hc3 f2 f3 f4 f5 f12) = out8 i (arg2.view.read (Elt F) f2) (arg3.view.read (Elt F) f3) (arg4.view.read (Elt F) f4) (arg5.view.read (Elt F) f5) := by
    refine (congrArg₂ (fun a b => k0_pay6 a b) e73 e74).trans ?_
    show I.out (N + 1 + 1) = In.out _ (i 1).val
    rw [hi1, ← eq]
    rfl
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap
    · iexact H8
    · ipureintro; exact (read_fill _ _ _ _ _ (by decide)).trans e8
  isplitl [H9]
  · iexists _; isplitr
    swap
    · iexact H9
    · ipureintro; exact (read_fill _ _ _ _ _ (by decide)).trans (congrArg k0_pay202 (readAt_whole _ _ _ (by decide)))
  isplitl [H10]
  · iexists _; isplitr
    swap
    · iexact H10
    · ipureintro; exact (read_fill _ _ _ _ _ (by decide)).trans (congrArg k0_pay203 (readAt_whole _ _ _ (by decide)))
  isplitl [H11]
  · iexists _; iexists _; isplitr
    swap
    · iexact H11
    · ipureintro; rfl
  isplitl [H12]
  · iexists _; iexists _; isplitr
    swap
    · iexact H12
    · ipureintro; rfl
  isplitl [H13]
  · iexists _; iexists _; isplitr
    swap
    · iexact H13
    · ipureintro; rfl
  iexists _; iexists _; isplitr
  swap
  · iexact H14
  · ipureintro; rfl

end Cert.KernelAttnIdeal.Attn

end
-- ==== Proof.AttnBody3.lean ====
/- The attention's body, run once per case of its last blocks. -/
module

public import proofs.«01_k».proof.Proof.Gen.KernelAttnIdeal.Frame
public import proofs.«01_k».proof.Proof.AttnLoop

@[expose] public section

set_option maxRecDepth 16384

noncomputable section

namespace Cert.KernelAttnIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelAttnIdeal.Gen

variable {F : FTy → Type} [FloatOps F] [Named F]

local notation "𝕄" => MT nD τ sig Unit (Elt F) ℕ (UR sig nD τ) ℕ

set_option maxHeartbeats 2000000 in
/-- The body when the query block's index is 3 past a multiple of four: it leaves its inputs, the output block of the
    model, and the two tables rounded. -/
theorem run_3 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole) (x0 : Vec F S512x128 .bf16) (x1 : Vec F S8192x128 .bf16) (x2 : Vec F S128x8192 .bf16) (x3 : Vec F S1x8192x128 .f32) (x4 : Vec F S1x64x4096 .f32) (x5 : Vec F S1x64x4096 .f32)
    (hr : (i 1).val % 4 = 3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 i x0 x1 x2 x3) ∗ owns (c : Thread nD τ) arg9 fullShare (k0_pay202 x4) ∗ owns (c : Thread nD τ) arg10 fullShare (k0_pay203 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13 arg14 harg14) K := by
  simp only [cc0_fox_attention_eq_skeleton]; unfold cc0_fox_attention_skel
  have htr := trips2_eq i
  have hc1 : ¬ k0_cond1 i = 1#1 := by revert hr; revert i; decide +kernel
  have hc2 : ¬ k0_cond2 i = 1#1 := by revert hr; revert i; decide +kernel
  have hc3 : ¬ k0_cond3 i = 1#1 := by revert hr; revert i; decide +kernel
  have hc4 : k0_cond4 i = 1#1 := by revert hr; revert i; decide +kernel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf2 hf3 hf4 hf5 hf6 hf7
  sl_exec (disch := first | sl_exact hc1 | sl_exact hc2 | sl_exact hc3 | sl_exact hc4)
  obtain ⟨N, hN⟩ : ∃ N, N = 4 * ((i 1).val / 4) := ⟨_, rfl⟩
  have hi1 : (i 1).val = N + 1 + 1 + 1 := by omega
  let I : In F := In.mk (run_3.sl.r (F := F) c arg2 f2) (run_3.sl.r_1 (F := F) c i arg5 f5) (k0_pay207 (F := F)) (arg3.view.read (Elt F) f3) (arg4.view.read (Elt F) f4) (arg5.view.read (Elt F) f5)
  have z0 : k0_pay209 (run_3.sl.r_2 (F := F) c arg2 arg3 f2 f3) = I.sc 0 := congrArg (scores (run_3.sl.r (F := F) c arg2 f2)) (ld_unit_congr (arg3.view.read (Elt F) f3) inb_S8192x128_S512x128_0_0 (inbK 0) (by decide))
  have h0 : After I 0 arg11 arg13 arg14 (arg11.view.writes (Elt F) arg11.view.junk (run_3.sl.H11_1 (F := F) c arg2 arg3 f2 f3)) (arg13.view.writes (Elt F) arg13.view.junk (run_3.sl.H13_1 (F := F) )) (arg14.view.writes (Elt F) arg14.view.junk (run_3.sl.H14_1 (F := F) )) := ⟨(readAt_fill _ _ _ _ _ _ (by decide)).trans (congrArg lo z0), (readAt_fill _ _ _ _ _ _ (by decide)).trans (congrArg hi z0), (readAt_fill _ _ _ _ _ _ (by decide)).trans rfl, (readAt_fill _ _ _ _ _ _ (by decide)).trans rfl, (readAt_fill _ _ _ _ _ _ (by decide)).trans rfl, (readAt_fill _ _ _ _ _ _ (by decide)).trans rfl⟩
  have hA := after_pb (F := F) Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (run_3.sl.r (F := F) c arg2 f2) (run_3.sl.r_1 (F := F) c i arg5 f5) (k0_pay207 (F := F)) (run_3.sl.r_2 (F := F) c arg2 arg3 f2 f3) f3 f4 f5 (arg11.view.writes (Elt F) arg11.view.junk (run_3.sl.H11_1 (F := F) c arg2 arg3 f2 f3)) f12 (arg13.view.writes (Elt F) arg13.view.junk (run_3.sl.H13_1 (F := F) )) (arg14.view.writes (Elt F) arg14.view.junk (run_3.sl.H14_1 (F := F) )) h0 (k0_t1_loop i).trips le_rfl
  rw [show 4 * (k0_t1_loop i).trips = N from by rw [trips_eq]; exact hN.symm] at hA
  obtain ⟨sl, sr, ml, mr, al, ar⟩ := hA
  have oc0 : k0_off17 i (BitVec.ofNat 32 0) = ![0, 512 * ((N) % 16), 0] := by rw [hN]; exact off17_eq i hr 0
  have c0 : ∀ h, View.ld (arg5.view.read (Elt F) f5) (Rect.unit (k0_off17 i (BitVec.ofNat 32 0)) S1x512x128.size h) = cB (arg5.view.read (Elt F) f5) (N) := fun h => ld_unit_congr _ h _ oc0
  have ov0 : k0_off18 i (BitVec.ofNat 32 0) = ![0, 512 * ((N) % 16)] := by rw [hN]; exact off18_eq i hr 0
  have v0 : ∀ h, View.ld (arg4.view.read (Elt F) f4) (Rect.unit (k0_off18 i (BitVec.ofNat 32 0)) S128x512.size h) = vB (arg4.view.read (Elt F) f4) (N) := fun h => ld_unit_congr _ h _ ov0
  have oc1 : k0_off17 i (BitVec.ofNat 32 1) = ![0, 512 * ((N + 1) % 16), 0] := by rw [hN]; exact off17_eq i hr 1
  have c1 : ∀ h, View.ld (arg5.view.read (Elt F) f5) (Rect.unit (k0_off17 i (BitVec.ofNat 32 1)) S1x512x128.size h) = cB (arg5.view.read (Elt F) f5) (N + 1) := fun h => ld_unit_congr _ h _ oc1
  have ov1 : k0_off18 i (BitVec.ofNat 32 1) = ![0, 512 * ((N + 1) % 16)] := by rw [hN]; exact off18_eq i hr 1
  have v1 : ∀ h, View.ld (arg4.view.read (Elt F) f4) (Rect.unit (k0_off18 i (BitVec.ofNat 32 1)) S128x512.size h) = vB (arg4.view.read (Elt F) f4) (N + 1) := fun h => ld_unit_congr _ h _ ov1
  have oc2 : k0_off17 i (BitVec.ofNat 32 2) = ![0, 512 * ((N + 1 + 1) % 16), 0] := by rw [hN]; exact off17_eq i hr 2
  have c2 : ∀ h, View.ld (arg5.view.read (Elt F) f5) (Rect.unit (k0_off17 i (BitVec.ofNat 32 2)) S1x512x128.size h) = cB (arg5.view.read (Elt F) f5) (N + 1 + 1) := fun h => ld_unit_congr _ h _ oc2
  have ov2 : k0_off18 i (BitVec.ofNat 32 2) = ![0, 512 * ((N + 1 + 1) % 16)] := by rw [hN]; exact off18_eq i hr 2
  have v2 : ∀ h, View.ld (arg4.view.read (Elt F) f4) (Rect.unit (k0_off18 i (BitVec.ofNat 32 2)) S128x512.size h) = vB (arg4.view.read (Elt F) f4) (N + 1 + 1) := fun h => ld_unit_congr _ h _ ov2
  have oc3 : k0_off17 i (BitVec.ofNat 32 3) = ![0, 512 * ((N + 1 + 1 + 1) % 16), 0] := by rw [hN]; exact off17_eq i hr 3
  have c3 : ∀ h, View.ld (arg5.view.read (Elt F) f5) (Rect.unit (k0_off17 i (BitVec.ofNat 32 3)) S1x512x128.size h) = cB (arg5.view.read (Elt F) f5) (N + 1 + 1 + 1) := fun h => ld_unit_congr _ h _ oc3
  have ov3 : k0_off18 i (BitVec.ofNat 32 3) = ![0, 512 * ((N + 1 + 1 + 1) % 16)] := by rw [hN]; exact off18_eq i hr 3
  have v3 : ∀ h, View.ld (arg4.view.read (Elt F) f4) (Rect.unit (k0_off18 i (BitVec.ofNat 32 3)) S128x512.size h) = vB (arg4.view.read (Elt F) f4) (N + 1 + 1 + 1) := fun h => ld_unit_congr _ h _ ov3
  have ok0 : k0_off16 i (BitVec.ofNat 32 0) = ![512 * ((N + 1) % 16), 0] := by rw [hN]; exact off16_eq i hr 0
  have k0 : ∀ h, View.ld (arg3.view.read (Elt F) f3) (Rect.unit (k0_off16 i (BitVec.ofNat 32 0)) S512x128.size h) = kB (arg3.view.read (Elt F) f3) (N + 1) := fun h => ld_unit_congr _ h _ ok0
  have ok1 : k0_off16 i (BitVec.ofNat 32 1) = ![512 * ((N + 1 + 1) % 16), 0] := by rw [hN]; exact off16_eq i hr 1
  have k1 : ∀ h, View.ld (arg3.view.read (Elt F) f3) (Rect.unit (k0_off16 i (BitVec.ofNat 32 1)) S512x128.size h) = kB (arg3.view.read (Elt F) f3) (N + 1 + 1) := fun h => ld_unit_congr _ h _ ok1
  have ok2 : k0_off16 i (BitVec.ofNat 32 2) = ![512 * ((N + 1 + 1 + 1) % 16), 0] := by rw [hN]; exact off16_eq i hr 2
  have k2 : ∀ h, View.ld (arg3.view.read (Elt F) f3) (Rect.unit (k0_off16 i (BitVec.ofNat 32 2)) S512x128.size h) = kB (arg3.view.read (Elt F) f3) (N + 1 + 1 + 1) := fun h => ld_unit_congr _ h _ ok2
  have s1 : (run_3.sl.v90 (F := F) c i arg2 arg3 hc4 f2 f3) = I.sc (N + 1) := congrArg (scores _) (k0 _)
  have s2 : (run_3.sl.v158 (F := F) c i arg2 arg3 hc4 f2 f3) = I.sc (N + 1 + 1) := congrArg (scores _) (k1 _)
  have s3 : (run_3.sl.v226 (F := F) c i arg2 arg3 hc4 f2 f3) = I.sc (N + 1 + 1 + 1) := congrArg (scores _) (k2 _)
  have b0 : (run_3.sl.v99 (F := F) c i arg5 hc4 f5) = Attn.bias (run_3.sl.r_1 (F := F) c i arg5 f5) (cB (arg5.view.read (Elt F) f5) (N)) := congrArg (Attn.bias _) (c0 _)
  have t0 : (run_3.sl.v102 (F := F) c i arg4 hc4 f4) = I.vt (N) := congrArg (vOnes _) (v0 _)
  have b1 : (run_3.sl.v167 (F := F) c i arg5 hc4 f5) = Attn.bias (run_3.sl.r_1 (F := F) c i arg5 f5) (cB (arg5.view.read (Elt F) f5) (N + 1)) := congrArg (Attn.bias _) (c1 _)
  have t1 : (run_3.sl.v170 (F := F) c i arg4 hc4 f4) = I.vt (N + 1) := congrArg (vOnes _) (v1 _)
  have b2 : (run_3.sl.v235 (F := F) c i arg5 hc4 f5) = Attn.bias (run_3.sl.r_1 (F := F) c i arg5 f5) (cB (arg5.view.read (Elt F) f5) (N + 1 + 1)) := congrArg (Attn.bias _) (c2 _)
  have t2 : (run_3.sl.v238 (F := F) c i arg4 hc4 f4) = I.vt (N + 1 + 1) := congrArg (vOnes _) (v2 _)
  have ls0lo : (run_3.sl.v103 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = lo (I.sc (N)) := (readCov_loops _ _ _ _ _ t2_1).trans sl
  have lm0lo : (run_3.sl.v105 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).1 := (readCov_loops _ _ _ _ _ t2_3).trans ml
  have la0lo : (run_3.sl.v114 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = (I.st lo (N)).2 := (readCov_loops _ _ _ _ _ t2_4).trans al
  have g0lo : (run_3.sl.v104 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = I.gs lo (N) := congrArg₂ addf ls0lo b0
  have m0lo : (run_3.sl.v125 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1)).1 := congrArg₂ stepM g0lo lm0lo
  have a0lo : (run_3.sl.v122 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1)).2 := stepA_congr t0 g0lo lm0lo la0lo
  have ls0hi : (run_3.sl.v126 (F := F) c i arg2 harg2 arg3 harg3 arg4 harg4 arg5 harg5 arg6 harg6 arg7 harg7 arg8 harg8 arg9 harg9 arg10 harg10 arg11 harg11 arg12 harg12 arg13 harg13 arg14 harg14 f2 f3 f4 f5 f12) = hi (I.sc (N)) := (readCov_loops _ _ _ _ _ t2_1).trans sr
  have lm0hi : (run_3.sl.v128 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N)).1 := (View.readCov_skip _ _ _ _ _ (by decide)).trans ((readCov_loops _ _ _ _ _ t2_3).trans mr)
  have la0hi : (run_3.sl.v137 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N)).2 := (View.readCov_skip _ _ _ _ _ (by decide)).trans ((readCov_loops _ _ _ _ _ t2_4).trans ar)
  have g0hi : (run_3.sl.v127 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = I.gs hi (N) := congrArg₂ addf ls0hi b0
  have m0hi : (run_3.sl.v148 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1)).1 := congrArg₂ stepM g0hi lm0hi
  have a0hi : (run_3.sl.v145 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1)).2 := stepA_congr t0 g0hi lm0hi la0hi
  have ls1lo : (run_3.sl.v171 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = lo (I.sc (N + 1)) := (View.readCov_fill _ _ _ _ _ (by decide)).trans (congrArg lo s1)
  have lm1lo : (run_3.sl.v173 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1)).1 := (View.readCov_skip _ _ _ _ _ (by decide)).trans ((View.readCov_cons_toLoadRect _ _ _ _).trans m0lo)
  have la1lo : (run_3.sl.v182 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1)).2 := (View.readCov_skip _ _ _ _ _ (by decide)).trans ((View.readCov_cons_toLoadRect _ _ _ _).trans a0lo)
  have g1lo : (run_3.sl.v172 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = I.gs lo (N + 1) := congrArg₂ addf ls1lo b1
  have m1lo : (run_3.sl.v193 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1)).1 := congrArg₂ stepM g1lo lm1lo
  have a1lo : (run_3.sl.v190 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1)).2 := stepA_congr t1 g1lo lm1lo la1lo
  have ls1hi : (run_3.sl.v194 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = hi (I.sc (N + 1)) := (View.readCov_fill _ _ _ _ _ (by decide)).trans (congrArg hi s1)
  have lm1hi : (run_3.sl.v196 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1)).1 := (View.readCov_skip _ _ _ _ _ (by decide)).trans ((View.readCov_cons_toLoadRect _ _ _ _).trans m0hi)
  have la1hi : (run_3.sl.v205 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1)).2 := (View.readCov_skip _ _ _ _ _ (by decide)).trans ((View.readCov_cons_toLoadRect _ _ _ _).trans a0hi)
  have g1hi : (run_3.sl.v195 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = I.gs hi (N + 1) := congrArg₂ addf ls1hi b1
  have m1hi : (run_3.sl.v216 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1)).1 := congrArg₂ stepM g1hi lm1hi
  have a1hi : (run_3.sl.v213 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1)).2 := stepA_congr t1 g1hi lm1hi la1hi
  have ls2lo : (run_3.sl.v239 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = lo (I.sc (N + 1 + 1)) := (View.readCov_fill _ _ _ _ _ (by decide)).trans (congrArg lo s2)
  have lm2lo : (run_3.sl.v241 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1)).1 := (View.readCov_skip _ _ _ _ _ (by decide)).trans ((View.readCov_cons_toLoadRect _ _ _ _).trans m1lo)
  have la2lo : (run_3.sl.v250 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1)).2 := (View.readCov_skip _ _ _ _ _ (by decide)).trans ((View.readCov_cons_toLoadRect _ _ _ _).trans a1lo)
  have g2lo : (run_3.sl.v240 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = I.gs lo (N + 1 + 1) := congrArg₂ addf ls2lo b2
  have m2lo : (run_3.sl.v261 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1 + 1)).1 := congrArg₂ stepM g2lo lm2lo
  have a2lo : (run_3.sl.v258 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1 + 1)).2 := stepA_congr t2 g2lo lm2lo la2lo
  have ls2hi : (run_3.sl.v262 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = hi (I.sc (N + 1 + 1)) := (View.readCov_fill _ _ _ _ _ (by decide)).trans (congrArg hi s2)
  have lm2hi : (run_3.sl.v264 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1)).1 := (View.readCov_skip _ _ _ _ _ (by decide)).trans ((View.readCov_cons_toLoadRect _ _ _ _).trans m1hi)
  have la2hi : (run_3.sl.v273 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1)).2 := (View.readCov_skip _ _ _ _ _ (by decide)).trans ((View.readCov_cons_toLoadRect _ _ _ _).trans a1hi)
  have g2hi : (run_3.sl.v263 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = I.gs hi (N + 1 + 1) := congrArg₂ addf ls2hi b2
  have m2hi : (k0_pay191 (run_3.sl.v263 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.v264 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12)) = (I.st hi (N + 1 + 1 + 1)).1 := congrArg₂ stepM g2hi lm2hi
  have a2hi : (k0_pay190 (run_3.sl.v238 (F := F) c i arg4 hc4 f4) (run_3.sl.v263 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.v264 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.v273 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12)) = (I.st hi (N + 1 + 1 + 1)).2 := stepA_congr t2 g2hi lm2hi la2hi
  have ls3lo : (run_3.sl.v297 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = lo (I.sc (N + 1 + 1 + 1)) := (View.readCov_fill _ _ _ _ _ (by decide)).trans (congrArg lo s3)
  have lm3lo : (run_3.sl.v306 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1 + 1)).1 := (View.readCov_skip _ _ _ _ _ (by decide)).trans ((View.readCov_cons_toLoadRect _ _ _ _).trans m2lo)
  have la3lo : (run_3.sl.v315 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st lo (N + 1 + 1 + 1)).2 := (View.readCov_skip _ _ _ _ _ (by decide)).trans ((View.readCov_cons_toLoadRect _ _ _ _).trans a2lo)
  have elo : (k0_pay196 (run_3.sl.r_4 (F := F) c i arg4 hc4 f4) (run_3.sl.r_5 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.v306 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.v315 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12)) = I.fin lo 0#32 (N + 1 + 1 + 1) := stepA_congr (congrArg (vOnes _) (v3 _)) (congrArg (mask _) (congrArg₂ addf ls3lo (congrArg (Attn.bias _) (c3 _)))) lm3lo la3lo
  have ls3hi : (run_3.sl.v327 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = hi (I.sc (N + 1 + 1 + 1)) := (View.readCov_fill _ _ _ _ _ (by decide)).trans (congrArg hi s3)
  have lm3hi : (run_3.sl.v336 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1 + 1)).1 := (View.readCov_skip _ _ _ _ _ (by decide)).trans ((View.readCov_cons_toLoadRect _ _ _ _).trans m2hi)
  have la3hi : (run_3.sl.v345 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = (I.st hi (N + 1 + 1 + 1)).2 := (View.readCov_skip _ _ _ _ _ (by decide)).trans ((View.readCov_cons_toLoadRect _ _ _ _).trans a2hi)
  have ehi : (k0_pay4 (run_3.sl.r_4 (F := F) c i arg4 hc4 f4) (run_3.sl.r_7 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.r_8 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.v345 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12)) = I.fin hi 256#32 (N + 1 + 1 + 1) := stepA_congr (congrArg (vOnes _) (v3 _)) (congrArg (mask _) (congrArg₂ addf ls3hi (congrArg (Attn.bias _) (c3 _)))) lm3hi la3hi
  have e73 : (run_3.sl.v73 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = View.ld (I.acc (N + 1 + 1 + 1)) (Rect.unit (s := S144x512) ![0, 0] S128x512.size inb_S144x512_S128x512_0_0) := readCov_halves _ _ _ _ _ _ _ _ _ halves ehi elo
  have e74 : (run_3.sl.v74 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = View.ld (I.acc (N + 1 + 1 + 1)) (Rect.unit (s := S144x512) ![128, 0] S1x512.size inb_S144x512_S1x512_128_0) := readCov_halves _ _ _ _ _ _ _ _ _ halves ehi elo
  have eq : (run_3.sl.r (F := F) c arg2 f2) = arg2.view.read (Elt F) f2 := readAt_whole _ _ _ (by decide)
  have e8 : k0_pay6 (run_3.sl.v73 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) (run_3.sl.v74 (F := F) c i arg2 harg2 arg3 harg3 arg4 harg4 arg5 harg5 arg6 harg6 arg7 harg7 arg8 harg8 arg9 harg9 arg10 harg10 arg11 harg11 arg12 harg12 arg13 harg13 arg14 harg14 hc4 f2 f3 f4 f5 f12) = out8 i (arg2.view.read (Elt F) f2) (arg3.view.read (Elt F) f3) (arg4.view.read (Elt F) f4) (arg5.view.read (Elt F) f5) := by
    refine (congrArg₂ (fun a b => k0_pay6 a b) e73 e74).trans ?_
    show I.out (N + 1 + 1 + 1) = In.out _ (i 1).val
    rw [hi1, ← eq]
    rfl
  sl_step
  iapply Hk
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap
    · iexact H8
    · ipureintro; exact (read_fill _ _ _ _ _ (by decide)).trans e8
  isplitl [H9]
  · iexists _; isplitr
    swap
    · iexact H9
    · ipureintro; exact (read_fill _ _ _ _ _ (by decide)).trans (congrArg k0_pay202 (readAt_whole _ _ _ (by decide)))
  isplitl [H10]
  · iexists _; isplitr
    swap
    · iexact H10
    · ipureintro; exact (read_fill _ _ _ _ _ (by decide)).trans (congrArg k0_pay203 (readAt_whole _ _ _ (by decide)))
  isplitl [H11]
  · iexists _; iexists _; isplitr
    swap
    · iexact H11
    · ipureintro; rfl
  isplitl [H12]
  · iexists _; iexists _; isplitr
    swap
    · iexact H12
    · ipureintro; rfl
  isplitl [H13]
  · iexists _; iexists _; isplitr
    swap
    · iexact H13
    · ipureintro; rfl
  iexists _; iexists _; isplitr
  swap
  · iexact H14
  · ipureintro; rfl

end Cert.KernelAttnIdeal.Attn

end
-- ==== Proof.AttnFrame.lean ====
/- The attention's run: the body at every grid point, the launch, and the frame. -/
module

public import Idealize.ShloMosaic.Lib.Claim
public import proofs.«01_k».proof.Proof.Gen.KernelAttnIdeal.Frame
public import proofs.«01_k».proof.Proof.AttnBody0
public import proofs.«01_k».proof.Proof.AttnBody1
public import proofs.«01_k».proof.Proof.AttnBody2
public import proofs.«01_k».proof.Proof.AttnBody3

@[expose] public section

set_option maxRecDepth 16384

noncomputable section

namespace Cert.KernelAttnIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at any point: it leaves its inputs, the output block of the model, and the two tables rounded. -/
theorem sound_kernel (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S1x8192x128 .f32) (harg5 : arg5.IsWhole) (arg6 : Memref sig .tc .vmem S1x64x4096 .f32) (harg6 : arg6.IsWhole) (arg7 : Memref sig .tc .vmem S1x64x4096 .f32) (harg7 : arg7.IsWhole) (arg8 : Memref sig .tc .vmem S512x128 .bf16) (harg8 : arg8.IsWhole) (arg9 : Memref sig .tc .vmem S64x4096 .bf16) (harg9 : arg9.IsWhole) (arg10 : Memref sig .tc .vmem S64x4096 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S1x512 .f32) (harg13 : arg13.IsWhole) (arg14 : Memref sig .tc .vmem S144x512 .f32) (harg14 : arg14.IsWhole)
    (x0 : Vec F S512x128 .bf16) (x1 : Vec F S8192x128 .bf16) (x2 : Vec F S128x8192 .bf16) (x3 : Vec F S1x8192x128 .f32) (x4 : Vec F S1x64x4096 .f32) (x5 : Vec F S1x64x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 i x0 x1 x2 x3) ∗ owns (c : Thread nD τ) arg9 fullShare (k0_pay202 x4) ∗ owns (c : Thread nD τ) arg10 fullShare (k0_pay203 x5) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_fox_attention (F := F) i arg2 harg2 arg3 harg3 arg4 harg4 arg5 harg5 arg6 harg6 arg7 harg7 arg8 harg8 arg9 harg9 arg10 harg10 arg11 harg11 arg12 harg12 arg13 harg13 arg14 harg14) K := by
  have h4 : (i 1).val % 4 < 4 := Nat.mod_lt _ (by decide)
  by_cases h0 : (i 1).val % 4 = 0
  · exact run_0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 h0 E K
  by_cases h1 : (i 1).val % 4 = 1
  · exact run_1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 h1 E K
  by_cases h2 : (i 1).val % 4 = 2
  · exact run_2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 h2 E K
  · exact run_3 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (by omega) E K

/-- The proof data on core `c`: the arrays as the region finds them; after the body at a point each input's buffer at its
    block, the output's at the model's block and the two tables' at their blocks rounded; two windows on one array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out8 (grid0.coords t) (iblk m c 0 t) (iblk m c 1 t) (iblk m c 2 t) (iblk m c 3 t)
    | ⟨7, _⟩ => k0_pay202 (iblk m c 4 t)
    | ⟨8, _⟩ => k0_pay203 (iblk m c 5 t)
  Φ _ := Pipeline.ΦA spec0 c
  q w := Pipeline.shareOf spec0 w
  owed _ := 0

/-- The proof data's arrays are the launch's. -/
theorem A_eq (c : Dev nD) (w : Fin cfg0.W) : (dats m 0 c).A w = V m c (Pipeline.arrRef spec0 w) := by
  dsimp only [dats]

/-- What grid point `t` leaves in window 0. -/
theorem after0_0 (c : Dev nD) (t : Fin cfg0.N) : (dats m 0 c).after 0 t = iblk m c 0 t := by dsimp only [dats]
/-- What grid point `t` leaves in window 1. -/
theorem after0_1 (c : Dev nD) (t : Fin cfg0.N) : (dats m 0 c).after 1 t = iblk m c 1 t := by dsimp only [dats]
/-- What grid point `t` leaves in window 2. -/
theorem after0_2 (c : Dev nD) (t : Fin cfg0.N) : (dats m 0 c).after 2 t = iblk m c 2 t := by dsimp only [dats]
/-- What grid point `t` leaves in window 3. -/
theorem after0_3 (c : Dev nD) (t : Fin cfg0.N) : (dats m 0 c).after 3 t = iblk m c 3 t := by dsimp only [dats]
/-- What grid point `t` leaves in window 4. -/
theorem after0_4 (c : Dev nD) (t : Fin cfg0.N) : (dats m 0 c).after 4 t = iblk m c 4 t := by dsimp only [dats]
/-- What grid point `t` leaves in window 5. -/
theorem after0_5 (c : Dev nD) (t : Fin cfg0.N) : (dats m 0 c).after 5 t = iblk m c 5 t := by dsimp only [dats]
/-- What grid point `t` leaves in window 6. -/
theorem after0_6 (c : Dev nD) (t : Fin cfg0.N) : (dats m 0 c).after 6 t = out8 (grid0.coords t) (iblk m c 0 t) (iblk m c 1 t) (iblk m c 2 t) (iblk m c 3 t) := by dsimp only [dats]
/-- What grid point `t` leaves in window 7. -/
theorem after0_7 (c : Dev nD) (t : Fin cfg0.N) : (dats m 0 c).after 7 t = k0_pay202 (iblk m c 4 t) := by dsimp only [dats]
/-- What grid point `t` leaves in window 8. -/
theorem after0_8 (c : Dev nD) (t : Fin cfg0.N) : (dats m 0 c).after 8 t = k0_pay203 (iblk m c 5 t) := by dsimp only [dats]

/-- What grid point `t` finds in window 0. -/
theorem before0_0 (c : Dev nD) (t : Fin cfg0.N) (d) : (dats m 0 c).before 0 t d = iblk m c 0 t :=
  before0_0_of m (dats m 0 c) (A_eq m c 0) (after0_0 m c) t d
/-- What grid point `t` finds in window 1. -/
theorem before0_1 (c : Dev nD) (t : Fin cfg0.N) (d) : (dats m 0 c).before 1 t d = iblk m c 1 t :=
  before0_1_of m (dats m 0 c) (A_eq m c 1) (after0_1 m c) t d
/-- What grid point `t` finds in window 2. -/
theorem before0_2 (c : Dev nD) (t : Fin cfg0.N) (d) : (dats m 0 c).before 2 t d = iblk m c 2 t :=
  before0_2_of m (dats m 0 c) (A_eq m c 2) (after0_2 m c) t d
/-- What grid point `t` finds in window 3. -/
theorem before0_3 (c : Dev nD) (t : Fin cfg0.N) (d) : (dats m 0 c).before 3 t d = iblk m c 3 t :=
  before0_3_of m (dats m 0 c) (A_eq m c 3) (after0_3 m c) t d
/-- What grid point `t` finds in window 4. -/
theorem before0_4 (c : Dev nD) (t : Fin cfg0.N) (d) : (dats m 0 c).before 4 t d = iblk m c 4 t :=
  before0_4_of m (dats m 0 c) (A_eq m c 4) (after0_4 m c) t d
/-- What grid point `t` finds in window 5. -/
theorem before0_5 (c : Dev nD) (t : Fin cfg0.N) (d) : (dats m 0 c).before 5 t d = iblk m c 5 t :=
  before0_5_of m (dats m 0 c) (A_eq m c 5) (after0_5 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body leaves of a grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- What the region holds beside the windows: the four scratch buffers at anything, and the generator register. -/
theorem ΦA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [scopedRest0_eq]
  simp only [owns_whole]; try rfl

/-- The body of a grid point runs and leaves its results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (Pipeline.ΦA spec0 c : sProp 𝕄) from rfl, show (dats m 0 c).Φ t.castSucc = (Pipeline.ΦA spec0 c : sProp 𝕄) from rfl,
    show (dats m 0 c).owesAt () t.succ = (dats m 0 c).owesAt () t.castSucc from rfl,
    after0_0, after0_1, after0_2, after0_3, after0_4, after0_5, after0_6, after0_7, after0_8, ΦA_eq]
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  iintro ⟨H0, H1, H2, H3, H4, H5, H6, H7, H8, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The launch's body is the one run at the grid point. -/
theorem defs₀_row (t : Fin cfg0.N) :
    defs₀ (F := F) .tc cfg0.body (cfg0.bodyArgs t (cfg0.slots t)) = bodyAt0 t := by
  unfold defs₀; rw [Defs.onTc_tc]

/-- The body meets what the launch asks of every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array at what the proof data computes, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch: every array at what the proof data computes. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelAttnIdeal.Attn

end
-- ==== Proof.AttnBlocks.lean ====
/-
  What each grid point of the attention reads, entry by entry: the queries of its block, its head's keys, values and
  gates, and its part of the two tables.
-/
module

public import proofs.«01_k».proof.Proof.AttnFrame
public import Idealize.ShloMosaic.Lib.Pipeline.ValueKit
public import Idealize.ShloMosaic.Lib.Pointwise
public import Idealize.ShloMosaic.Lib.Claim

@[expose] public section

set_option maxRecDepth 16384

noncomputable section

namespace Cert.KernelAttnIdeal.Attn

open Cert.KernelAttnIdeal Cert.KernelAttnIdeal.Gen Idealize.ShloMosaic Idealize.ShloMosaic.TcCoe Idealize.SL.Sem
open Idealize.ShloMosaic.Pipeline (Dat)

variable (m : (ℓ : Loc nD τ sig) → Buf (Elt Ideal) ℓ)

/-- Where each window of grid point `t` sits: head `t / 16`, query block `t % 16`. -/
theorem places : ∀ t : Fin cfg0.N, win0_0.index t = ![t.val % 16, t.val / 16] ∧ win0_1.index t = ![0, 16 + t.val / 16]
    ∧ win0_2.index t = ![t.val / 16, 0] ∧ win0_3.index t = ![t.val / 16, 0, 0] ∧ win0_4.index t = ![0, t.val, 0] ∧ win0_5.index t = ![0, t.val, 0]
    ∧ win0_6.index t = ![t.val % 16, t.val / 16] ∧ win0_7.index t = ![t.val, 0] ∧ win0_8.index t = ![t.val, 0]
    ∧ t.val < 256 :=
  (by decide +kernel : ∀ t : Fin grid0.N, _)

/-- The query block's number, and where its first gate lies. -/
theorem block_at : ∀ t : Fin cfg0.N, (grid0.coords t 1).val = t.val % 16 ∧ k0_off1 (grid0.coords t) = ![0, 512 * (t.val % 16), 0] :=
  (by decide +kernel : ∀ t : Fin grid0.N, _)

/-- Where an index of a block of the gates lies in the gates. -/
theorem place3 (t : Fin cfg0.N) (z : S1x8192x128.Idx) (a : Fin 3) :
    (((View.whole main_v2).slice (win0_3.rect t)).emb z a : ℕ) = win0_3.index t a * win0_3.size a + (z a).val :=
  Pipeline.Window.rect_emb_val win0_3 t z a

/-- An entry of the query block is the query's. -/
theorem q_at (c : Dev nD) (t : Fin cfg0.N) (r : Fin 512) (x : Fin 128) (q : Fin 8192) (l : Fin 4096) (hq : q.val = 512 * (t.val % 16) + r.val) (hl : l.val = t.val / 16 * 128 + x.val) :
    (show EReal from iblk m c 0 t (ix2 r x)) = m ((c : Thread nD τ).loc main_arg0) (ix2 q l) := by
  blk_point [iblk, V, places t]
  all_goals omega

/-- An entry of a head's keys is the key's. -/
theorem k_at (c : Dev nD) (t : Fin cfg0.N) (k : Fin 8192) (x : Fin 128) (l : Fin 4096) (hl : l.val = 2048 + (t.val / 16 * 128 + x.val)) :
    (show EReal from iblk m c 1 t (ix2 k x)) = m ((c : Thread nD τ).loc main_arg0) (ix2 k l) := by
  blk_point [iblk, V, places t]
  all_goals omega

/-- An entry of a head's values is the value's. -/
theorem v_at (c : Dev nD) (t : Fin cfg0.N) (d : Fin 128) (k : Fin 8192) (e : Fin 2048) (he : e.val = t.val / 16 * 128 + d.val) :
    (show EReal from iblk m c 2 t (ix2 d k)) = m ((c : Thread nD τ).loc main_arg1) (ix2 e k) := by
  blk_point [iblk, V, places t]
  all_goals omega

/-- Every lane of a head's gates is the key's gate. -/
theorem c_at (c : Dev nD) (t : Fin cfg0.N) (k : Fin 8192) (a : Fin 128) (h : Fin 16) (hh : h.val = t.val / 16) :
    (show EReal from iblk m c 3 t (ix3 0 k a)) = m ((c : Thread nD τ).loc main_arg2) (ix2 k h) := by
  show V m c main_v2 (((View.whole main_v2).slice (win0_3.rect t)).emb (ix3 0 k a)) = _
  entry_read
  pointwise
  refine congrArg _ ((ix2_inj ..).2 ⟨Fin.ext ?_, Fin.ext ?_⟩)
  · refine (place3 t _ 1).trans ?_
    rw [(places t).2.2.2.1]
    exact (congrArg (· + k.val) (Nat.zero_mul _)).trans (Nat.zero_add _)
  · refine (place3 t _ 0).trans ?_
    rw [(places t).2.2.2.1, hh]
    show t.val / 16 * 1 + 0 = _
    omega

/-- The gate of the query block's first row. -/
theorem first_at (t : Fin cfg0.N) (x5 : Vec Ideal S1x8192x128 .f32) (a : Fin 128) (q0 : Fin 8192) (hq : q0.val = 512 * (t.val % 16)) :
    cFirst (grid0.coords t) x5 (ix2 0 a) = x5 (ix3 0 q0 a) := by
  unfold cFirst
  pointwise [k0_pay204]
  refine congrArg x5 ((ix3_inj ..).2 ⟨Fin.ext ?_, Fin.ext ?_, Fin.ext ?_⟩)
  · exact congrFun (block_at t).2 0
  · exact (congrFun (block_at t).2 1).trans hq.symm
  · exact (congrArg (· + a.val) (congrFun (block_at t).2 2)).trans (Nat.zero_add _)

/-- A table's rows, rounded. -/
def table (X : FVec Ideal S1x16384x4096 .f32) : FVec Ideal S16384x4096 .bf16 := fun i => X (ix3 0 (i 0) (i 1))

/-- The first table's array after the run. -/
theorem final7 (c : Dev nD) : (dats m 0 c).arrAt 7 cfg0.N = table (m ((c : Thread nD τ).loc main_arg3)) := by
  refine (dats m 0 c).arrAt_eq_of_covers 7 _ (by decide +kernel) fun t _ y => ?_
  blk_simp
  rw [after0_7]; frame_out
  pointwise [k0_pay202, table]
  blk_point [iblk, V, places t]

/-- The second table's array after the run. -/
theorem final8 (c : Dev nD) : (dats m 0 c).arrAt 8 cfg0.N = table (m ((c : Thread nD τ).loc main_arg4)) := by
  refine (dats m 0 c).arrAt_eq_of_covers 8 _ (by decide +kernel) fun t _ y => ?_
  blk_simp
  rw [after0_8]; frame_out
  pointwise [k0_pay203, table]
  blk_point [iblk, V, places t]

end Cert.KernelAttnIdeal.Attn

end
-- ==== Proof.AttnMath.lean ====
/-
  The arithmetic of a softmax kept block by block, over the extended reals: a running reference point that is any real
  number, sums scaled by a power of it, and the quotient in which the scale cancels.
-/
module

public import Idealize.ShloMosaic.PureOps.Ideal

@[expose] public section

noncomputable section

namespace Cert.Softmax

open Idealize.ShloMosaic

/-- A nonnegative real factor goes through a finite sum of extended reals. -/
theorem scale_sum {ι : Type} (c : ℝ) (hc : 0 ≤ c) (s : Finset ι) (f : ι → EReal) :
    ∑ i ∈ s, (c : EReal) * f i = (c : EReal) * ∑ i ∈ s, f i := by
  classical
  induction s using Finset.induction_on with
  | empty => simp
  | insert a s ha ih => rw [Finset.sum_insert ha, Finset.sum_insert ha, ih, EReal.left_distrib_of_nonneg_of_ne_top (EReal.coe_nonneg.2 hc) (EReal.coe_ne_top c)]

/-- The weight of a score that is not the top: a nonnegative real. -/
def weight (σ : EReal) : ℝ := (Ideal.exp2 σ).toReal

/-- The power of two of a score that is not the top is its weight. -/
theorem exp2_eq {σ : EReal} (h : σ ≠ ⊤) : Ideal.exp2 σ = (weight σ : EReal) := by
  induction σ using EReal.rec with
  | bot => simp [weight]
  | coe r => simp only [weight, Ideal.exp2_coe]; rfl
  | top => exact absurd rfl h

/-- A score that is a real number has a positive weight. -/
theorem weight_pos (r : ℝ) : 0 < weight (r : EReal) := by
  show 0 < ((Ideal.exp2 (r : EReal)).toReal)
  rw [Ideal.exp2_coe]
  exact Real.rpow_pos_of_pos two_pos r

/-- Nothing has no weight. -/
theorem weight_bot : weight ⊥ = 0 := by simp [weight]

/-- A weight is not negative. -/
theorem weight_nonneg (σ : EReal) (h : σ ≠ ⊤) : 0 ≤ weight σ := by
  induction σ using EReal.rec with
  | bot => exact weight_bot.ge
  | coe r => exact (weight_pos r).le
  | top => exact absurd rfl h

/-- Moving a score by a real number scales its power of two. -/
theorem exp2_sub (σ : EReal) (h : σ ≠ ⊤) (μ : ℝ) : Ideal.exp2 (σ - μ) = (((2 : ℝ) ^ (-μ) : ℝ) : EReal) * Ideal.exp2 σ := by
  induction σ using EReal.rec with
  | bot => rw [EReal.bot_sub]; simp
  | coe r =>
    rw [← EReal.coe_sub, Ideal.exp2_coe, Ideal.exp2_coe, ← EReal.coe_mul]
    refine congrArg _ ?_
    show (2 : ℝ) ^ (r - μ) = (2 : ℝ) ^ (-μ) * (2 : ℝ) ^ r
    rw [← Real.rpow_add two_pos]; ring_nf
  | top => exact absurd rfl h

/-- What a block-by-block softmax keeps: nothing yet, or a real reference point `m` and the sum `S` scaled by it. -/
def Kept (m a S : EReal) : Prop := (m = ⊥ ∧ a = 0 ∧ S = 0) ∨ ∃ μ : ℝ, m = μ ∧ a = (((2 : ℝ) ^ (-μ) : ℝ) : EReal) * S

/-- A block of scores, none the top and one a real number, takes what is kept to a real reference point and the sum with
    the block's terms added. -/
theorem Kept.step {n : ℕ} {m a S : EReal} (h : Kept m a S) (σ v : Fin n → EReal) (ht : ∀ k, σ k ≠ ⊤) (k₀ : Fin n) (hk : σ k₀ ≠ ⊥)
    (M : EReal) (hM : M = max m (Finset.fold max ⊥ σ Finset.univ)) :
    ∃ μ : ℝ, M = μ ∧ Ideal.exp2 (m - M) * a + ∑ x, v x * Ideal.exp2 (σ x - M)
      = (((2 : ℝ) ^ (-μ) : ℝ) : EReal) * (S + ∑ x, Ideal.exp2 (σ x) * v x) := by
  have hmt : m ≠ ⊤ := by
    rcases h with ⟨h, _, _⟩ | ⟨μ, h, _⟩ <;> rw [h]
    · exact bot_ne_top
    · exact EReal.coe_ne_top μ
  have hMt : M ≠ ⊤ := by
    rw [hM]
    refine ne_of_lt (max_lt (lt_top_iff_ne_top.2 hmt) ?_)
    exact (Finset.fold_max_lt _).2 ⟨bot_lt_top, fun x _ => lt_top_iff_ne_top.2 (ht x)⟩
  have hMb : M ≠ ⊥ := by
    rw [hM]
    refine ne_of_gt (lt_max_of_lt_right ?_)
    exact (Finset.lt_fold_max _).2 (Or.inr ⟨k₀, Finset.mem_univ _, bot_lt_iff_ne_bot.2 hk⟩)
  obtain ⟨μ, rfl⟩ : ∃ μ : ℝ, M = μ := ⟨M.toReal, (EReal.coe_toReal hMt hMb).symm⟩
  refine ⟨μ, rfl, ?_⟩
  have hp : (0 : ℝ) ≤ (2 : ℝ) ^ (-μ) := (Real.rpow_pos_of_pos two_pos _).le
  have hsum : ∑ x, v x * Ideal.exp2 (σ x - μ) = (((2 : ℝ) ^ (-μ) : ℝ) : EReal) * ∑ x, Ideal.exp2 (σ x) * v x := by
    rw [← scale_sum _ hp]
    exact Finset.sum_congr rfl fun x _ => by rw [exp2_sub _ (ht x), mul_comm, mul_assoc]
  rw [hsum, EReal.left_distrib_of_nonneg_of_ne_top (EReal.coe_nonneg.2 hp) (EReal.coe_ne_top _)]
  refine congrArg (· + _) ?_
  rcases h with ⟨_, ha, hS⟩ | ⟨ν, hm, ha⟩
  · rw [ha, hS, mul_zero, mul_zero]
  · rw [ha, hm, exp2_sub _ (EReal.coe_ne_top _), Ideal.exp2_coe, ← mul_assoc, ← EReal.coe_mul, ← EReal.coe_mul]
    refine congrArg (fun z : ℝ => (z : EReal) * S) ?_
    show (2 : ℝ) ^ (-μ) * (2 : ℝ) ^ ν * (2 : ℝ) ^ (-ν) = (2 : ℝ) ^ (-μ)
    rw [mul_assoc, ← Real.rpow_add two_pos, add_neg_cancel, Real.rpow_zero, mul_one]

/-- A sum of powers of two of scores, none the top and one a real number, is a positive real. -/
theorem total {ι : Type} (s : Finset ι) (σ : ι → EReal) (ht : ∀ k, σ k ≠ ⊤) (k₀ : ι) (h₀ : k₀ ∈ s) (hk : σ k₀ ≠ ⊥) :
    ∃ ω : ℝ, 0 < ω ∧ ∑ k ∈ s, Ideal.exp2 (σ k) = ω := by
  refine ⟨∑ k ∈ s, weight (σ k), ?_, ?_⟩
  · refine Finset.sum_pos' (fun k _ => weight_nonneg _ (ht k)) ⟨k₀, h₀, ?_⟩
    rw [← EReal.coe_toReal (ht k₀) hk]
    exact weight_pos _
  · rw [Finset.sum_congr rfl fun k _ => exp2_eq (ht k)]
    exact (map_sum (⟨⟨((↑) : ℝ → EReal), EReal.coe_zero⟩, EReal.coe_add⟩ : ℝ →+ EReal) _ _).symm

/-- A scale cancels in a quotient. -/
theorem ratio (c ω : ℝ) (hc : 0 < c) (hω : 0 < ω) (S : EReal) :
    Ideal.div ((c : EReal) * S) ((c : EReal) * (ω : EReal)) = ((1 / ω : ℝ) : EReal) * S := by
  rw [← EReal.coe_mul, Ideal.div_coe (mul_pos hc hω).ne', mul_comm, ← mul_assoc, ← EReal.coe_mul]
  refine congrArg (fun z : ℝ => (z : EReal) * S) ?_
  field_simp

/-- The softmax of scores in natural units, each a score in base-two units moved by `δ` and turned to natural units or the
    bottom where that is, weighs values as the powers of two over their sum do. -/
theorem softmax_eq {n : ℕ} (x σ v : Fin n → EReal) (δ : ℝ)
    (hx : ∀ k, (x k = ⊥ ∧ σ k = ⊥) ∨ ∃ r : ℝ, σ k = r ∧ x k = (((r + δ) * Real.log 2 : ℝ) : EReal))
    (k₀ : Fin n) (hk : σ k₀ ≠ ⊥) (M : EReal) (hM : M = max ⊥ (Finset.fold max ⊥ x Finset.univ)) (ω : ℝ) (hω : 0 < ω)
    (hW : ∑ k, Ideal.exp2 (σ k) = ω) :
    ∑ k, Ideal.div (Ideal.exp (x k - M)) (0 + ∑ j, Ideal.exp (x j - M)) * v k = ((1 / ω : ℝ) : EReal) * ∑ k, Ideal.exp2 (σ k) * v k := by
  have hxt : ∀ k, x k ≠ ⊤ := fun k => by
    rcases hx k with ⟨h, _⟩ | ⟨r, _, h⟩ <;> rw [h]
    · exact bot_ne_top
    · exact EReal.coe_ne_top _
  have hst : ∀ k, σ k ≠ ⊤ := fun k => by
    rcases hx k with ⟨_, h⟩ | ⟨r, h, _⟩ <;> rw [h]
    · exact bot_ne_top
    · exact EReal.coe_ne_top _
  have hMt : M ≠ ⊤ := by
    rw [hM]
    exact ne_of_lt (max_lt bot_lt_top ((Finset.fold_max_lt _).2 ⟨bot_lt_top, fun y _ => lt_top_iff_ne_top.2 (hxt y)⟩))
  have hMb : M ≠ ⊥ := by
    rw [hM]
    refine ne_of_gt (lt_max_of_lt_right ((Finset.lt_fold_max _).2 (Or.inr ⟨k₀, Finset.mem_univ _, ?_⟩)))
    rcases hx k₀ with ⟨_, h⟩ | ⟨r, _, h⟩
    · exact absurd h hk
    · rw [h]; exact EReal.bot_lt_coe _
  obtain ⟨μ, rfl⟩ : ∃ μ : ℝ, M = μ := ⟨M.toReal, (EReal.coe_toReal hMt hMb).symm⟩
  have hc : 0 < Real.exp (δ * Real.log 2 - μ) := Real.exp_pos _
  have he : ∀ k, Ideal.exp (x k - μ) = ((Real.exp (δ * Real.log 2 - μ) : ℝ) : EReal) * Ideal.exp2 (σ k) := fun k => by
    rcases hx k with ⟨h, h'⟩ | ⟨r, h', h⟩
    · rw [h, h', EReal.bot_sub]; simp
    · rw [h, h', ← EReal.coe_sub, Ideal.exp_coe, Ideal.exp2_coe, ← EReal.coe_mul]
      refine congrArg _ ?_
      show Real.exp _ = Real.exp _ * (2 : ℝ) ^ r
      rw [Real.rpow_def_of_pos two_pos, ← Real.exp_add]
      ring_nf
  simp only [he]
  rw [scale_sum _ hc.le, hW, zero_add]
  have hr : (0 : ℝ) ≤ 1 / ω := (one_div_pos.2 hω).le
  rw [← scale_sum _ hr]
  exact Finset.sum_congr rfl fun k _ => by rw [ratio _ _ hc hω, mul_assoc]

end Cert.Softmax

end
-- ==== Proof.AttnLane.lean ====
/-
  One query of the attention, over the extended reals: the running maximum and the accumulator of its lane after the key
  blocks it sees are a real number and the weighted sums of the values scaled by a power of it, so what the kernel writes
  is the weighted sum over the sum of the weights.
-/
module

public import proofs.«01_k».proof.Proof.AttnModel
public import proofs.«01_k».proof.Proof.AttnMath
public import Idealize.ShloMosaic.Lib.Pipeline.ValueKit
public import Idealize.ShloMosaic.Lib.Pointwise
public import Idealize.ShloMosaic.Lib.StableHlo.Predicate

@[expose] public section

set_option maxRecDepth 16384

noncomputable section

namespace Cert.KernelAttnIdeal.Attn

open Cert.KernelAttnIdeal Cert.KernelAttnIdeal.Gen Idealize.ShloMosaic Idealize.ShloMosaic.TcCoe Idealize.SL.Sem
open Cert.Softmax

/-- The named lowest value is the bottom. -/
theorem lowest_eq : (lowest (F := Ideal) : EReal) = ⊥ := IdealRules.named_const.ideal_named_scalar _ _ _ _ rfl

/-- The pattern a maximum starts from is the bottom. -/
theorem negInf_eq : Ideal.ofBits .f32 0xFF800000#32 = ⊥ := by simp [Ideal.ofBits, Ideal.ieee]

/-- A lane's maximum after a block: the old one and the block's scores. -/
theorem nm_at (s : FVec Ideal S512x256 .f32) (m : Vec Ideal S1x256 .f32) (l : Fin 256) :
    (nm s m (ix2 0 l) : EReal) = max (m (ix2 0 l) : EReal) (Finset.fold max ⊥ (fun x => (s (ix2 x l) : EReal)) Finset.univ) := by
  rw [← negInf_eq]
  pointwise [nm]

/-- The maximum is stored as it is. -/
theorem stepM_at (s : FVec Ideal S512x256 .f32) (m : Vec Ideal S1x256 .f32) (l : Fin 256) : stepM s m (ix2 0 l) = nm s m (ix2 0 l) := by
  pointwise [stepM]

/-- An accumulator entry after a block: the old one scaled, and the block's weighted values. -/
theorem stepA_at (vt : FVec Ideal S144x512 .bf16) (s : FVec Ideal S512x256 .f32) (m : Vec Ideal S1x256 .f32) (a : Vec Ideal S144x256 .f32) (d : Fin 144) (l : Fin 256) :
    (stepA vt s m a (ix2 d l) : EReal) = Ideal.exp2 ((m (ix2 0 l) : EReal) - nm s m (ix2 0 l)) * a (ix2 d l)
      + ∑ x : Fin 512, (vt (ix2 d x) : EReal) * Ideal.exp2 ((s (ix2 x l) : EReal) - nm s m (ix2 0 l)) := by
  pointwise [stepA]
  rfl

/-- A sum over the keys of one more block. -/
theorem sum_block (n : ℕ) (f : ℕ → EReal) : ∑ k ∈ Finset.range (512 * (n + 1)), f k = ∑ k ∈ Finset.range (512 * n), f k + ∑ x : Fin 512, f (512 * n + x.val) := by
  rw [Nat.mul_succ, Finset.sum_range_add, Finset.sum_range (fun x => f (512 * n + x))]

/-- What a lane keeps after `n` whole blocks of real scores `σ` and values `v`. -/
theorem st_at (I : In Ideal) (R : Vec Ideal S512x512 .f32 → Vec Ideal S512x256 .f32) (l : Fin 256) (σ : ℕ → EReal) (v : Fin 144 → ℕ → EReal) (N : ℕ)
    (hσ : ∀ j < N, ∀ k : Fin 512, (I.gs R j (ix2 k l) : EReal) = σ (512 * j + k.val)) (ht : ∀ k, σ k ≠ ⊤) (hb : ∀ k < 512 * N, σ k ≠ ⊥)
    (hv : ∀ j < N, ∀ (d : Fin 144) (k : Fin 512), (I.vt j (ix2 d k) : EReal) = v d (512 * j + k.val)) :
    ∀ n ≤ N, ∀ d : Fin 144, Kept ((I.st R n).1 (ix2 0 l)) ((I.st R n).2 (ix2 d l)) (∑ k ∈ Finset.range (512 * n), Ideal.exp2 (σ k) * v d k)
  | 0, _, d => Or.inl ⟨by show (lowest (F := Ideal) : EReal) = ⊥; exact lowest_eq, by show Ideal.ofBits .f32 0x00000000#32 = 0; simp, by simp⟩
  | n + 1, h, d => by
    obtain ⟨μ, hM, hA⟩ := (st_at I R l σ v N hσ ht hb hv n (by omega) d).step (fun k : Fin 512 => σ (512 * n + k.val)) (fun k => v d (512 * n + k.val))
      (fun k => ht _) 0 (hb _ (by show 512 * n + 0 < 512 * N; omega)) (nm (I.gs R n) (I.st R n).1 (ix2 0 l))
      (by rw [nm_at]; simp only [hσ n (by omega)])
    refine Or.inr ⟨μ, (stepM_at _ _ _).trans hM, ?_⟩
    rw [sum_block]
    refine Eq.trans ?_ hA
    show stepA (I.vt n) (I.gs R n) (I.st R n).1 (I.st R n).2 (ix2 d l) = _
    rw [stepA_at]
    simp only [hσ n (by omega), hv n (by omega)]

/-- A lane's accumulator after `n` whole blocks and a diagonal one, one of whose scores is a real number. -/
theorem fin_at (I : In Ideal) (R : Vec Ideal S512x512 .f32 → Vec Ideal S512x256 .f32) (o : BitVec 32) (l : Fin 256) (σ : ℕ → EReal) (v : Fin 144 → ℕ → EReal) (n : ℕ)
    (hσ : ∀ j < n, ∀ k : Fin 512, (I.gs R j (ix2 k l) : EReal) = σ (512 * j + k.val)) (ht : ∀ k, σ k ≠ ⊤) (hb : ∀ k < 512 * n, σ k ≠ ⊥)
    (hv : ∀ j ≤ n, ∀ (d : Fin 144) (k : Fin 512), (I.vt j (ix2 d k) : EReal) = v d (512 * j + k.val))
    (hd : ∀ k : Fin 512, (mask o (I.gs R n) (ix2 k l) : EReal) = σ (512 * n + k.val)) (h0 : σ (512 * n + 0) ≠ ⊥) :
    ∃ c : ℝ, 0 < c ∧ ∀ d : Fin 144, (I.fin R o n (ix2 d l) : EReal) = (c : EReal) * ∑ k ∈ Finset.range (512 * (n + 1)), Ideal.exp2 (σ k) * v d k := by
  have key : ∀ d : Fin 144, ∃ μ : ℝ, (nm (mask o (I.gs R n)) (I.st R n).1 (ix2 0 l) : EReal) = μ
      ∧ (I.fin R o n (ix2 d l) : EReal) = (((2 : ℝ) ^ (-μ) : ℝ) : EReal) * ∑ k ∈ Finset.range (512 * (n + 1)), Ideal.exp2 (σ k) * v d k := fun d => by
    obtain ⟨μ, hM, hA⟩ := (st_at I R l σ v n hσ ht hb (fun j hj => hv j hj.le) n le_rfl d).step (fun k : Fin 512 => σ (512 * n + k.val)) (fun k => v d (512 * n + k.val))
      (fun k => ht _) 0 h0 (nm (mask o (I.gs R n)) (I.st R n).1 (ix2 0 l)) (by rw [nm_at]; simp only [hd])
    refine ⟨μ, hM, ?_⟩
    rw [sum_block]
    refine Eq.trans ?_ hA
    show stepA (I.vt n) (mask o (I.gs R n)) (I.st R n).1 (I.st R n).2 (ix2 d l) = _
    rw [stepA_at]
    simp only [hd, hv n le_rfl]
  obtain ⟨μ, hμ, _⟩ := key 0
  refine ⟨(2 : ℝ) ^ (-μ), Real.rpow_pos_of_pos two_pos _, fun d => ?_⟩
  obtain ⟨ν, hν, e⟩ := key d
  obtain rfl : ν = μ := EReal.coe_injective (hν.symm.trans hμ)
  exact e

/-- The diagonal block keeps the scores of the keys up to the query. -/
theorem mask_at (s : FVec Ideal S512x256 .f32) (o : ℕ) (ho : o ≤ 256) (k : Fin 512) (l : Fin 256) :
    (mask (BitVec.ofNat 32 o) s (ix2 k l) : EReal) = if k.val ≤ l.val + o then (s (ix2 k l) : EReal) else ⊥ := by
  pointwise [mask]
  rw [show IntOp.addi (BitVec.ofNat 32 l.val) (BitVec.ofNat 32 o) = BitVec.ofNat 32 (l.val + o) from (BitVec.ofNat_add ..).symm, lowest_eq]
  have h := StableHlo.Predicate.sle_ofNat_iff k.val (l.val + o) (by omega) (by omega)
  show (if BitVec.ofBool ((BitVec.ofNat 32 k.val).sle (BitVec.ofNat 32 (l.val + o))) = 1#1 then (s (ix2 k l) : EReal) else ⊥) = _
  by_cases hk : k.val ≤ l.val + o
  · exact (if_pos (h.2 hk)).trans (if_pos hk).symm
  · exact (if_neg (fun e => hk (h.1 e))).trans (if_neg hk).symm

/-- A gated score of the lower lanes and of the upper ones, where the gate's lanes agree. -/
theorem gs_lo (I : In Ideal) (j : ℕ) (k : Fin 512) (l : Fin 256) (γ g : EReal) (hγ : ∀ a : Fin 128, (I.cf (ix2 0 a) : EReal) = γ)
    (hg : ∀ a : Fin 128, (cB I.x5 j (ix3 0 k a) : EReal) = g) :
    (I.gs lo j (ix2 k l) : EReal) = (∑ x : Fin 128, (kB I.x3 j (ix2 k x) : EReal) * I.q (ix2 (⟨l.val, by omega⟩ : Fin 512) x)) + (γ - g) := by
  pointwise [In.gs, In.sc, bias, scores, lo]
  simp only [hγ, hg, dite_eq_ite, ite_self]

/-- The upper lanes' gated scores. -/
theorem gs_hi (I : In Ideal) (j : ℕ) (k : Fin 512) (l : Fin 256) (γ g : EReal) (hγ : ∀ a : Fin 128, (I.cf (ix2 0 a) : EReal) = γ)
    (hg : ∀ a : Fin 128, (cB I.x5 j (ix3 0 k a) : EReal) = g) :
    (I.gs hi j (ix2 k l) : EReal) = (∑ x : Fin 128, (kB I.x3 j (ix2 k x) : EReal) * I.q (ix2 (⟨256 + l.val, by omega⟩ : Fin 512) x)) + (γ - g) := by
  pointwise [In.gs, In.sc, bias, scores, hi]
  simp only [hγ, hg, dite_eq_ite, ite_self]

/-- The values of a block over rows of ones. -/
theorem vt_at (I : In Ideal) (hvo : ∀ z, (I.vo z : EReal) = 1) (j : ℕ) (d : Fin 144) (k : Fin 512) :
    (I.vt j (ix2 d k) : EReal) = if h : d.val < 128 then (vB I.x4 j (ix2 (⟨d.val, h⟩ : Fin 128) k) : EReal) else 1 := by
  pointwise [In.vt, vOnes]
  split
  · rfl
  · exact hvo _

/-- The ones are ones. -/
theorem ones_at (z) : (k0_pay207 (F := Ideal) z : EReal) = 1 := by
  show Ideal.ofBits .bf16 0x3F80#16 = 1
  simp [Ideal.ofBits, Ideal.ieee, -EReal.coe_mul]
  norm_num

/-- The accumulator's lanes are the two groups'. -/
theorem acc_lo (I : In Ideal) (n : ℕ) (d : Fin 144) (r : Fin 512) (h : r.val < 256) :
    I.acc n (ix2 d r) = I.fin lo 0#32 n (ix2 d (⟨r.val, h⟩ : Fin 256)) := by
  unfold In.acc
  canon_tiles x h'
  case piece0 => exfalso; have : r.val = 256 + (x 1).val := h'1; omega
  case piece1 => exact congrArg _ ((eq_ix2 x).trans ((ix2_inj ..).2 ⟨Fin.ext h'0.symm, Fin.ext h'1.symm⟩))

/-- The upper lanes of the accumulator. -/
theorem acc_hi (I : In Ideal) (n : ℕ) (d : Fin 144) (r : Fin 512) (l : Fin 256) (h : r.val = 256 + l.val) :
    I.acc n (ix2 d r) = I.fin hi 256#32 n (ix2 d l) := by
  unfold In.acc
  canon_tiles x h'
  case piece0 => exact congrArg _ ((eq_ix2 x).trans ((ix2_inj ..).2 ⟨Fin.ext h'0.symm, Fin.ext (by have : r.val = 256 + (x 1).val := h'1; omega)⟩))
  case piece1 => exfalso; have : r.val = (x 1).val := h'1; omega

/-- What is written is the accumulator's entry over the query's row of sums. -/
theorem out_ratio (I : In Ideal) (n : ℕ) (r : Fin 512) (d : Fin 128) :
    (I.out n (ix2 r d) : EReal) = Ideal.div (I.acc n (ix2 (⟨d.val, by omega⟩ : Fin 144) r)) (I.acc n (ix2 (128 : Fin 144) r)) := by
  pointwise [In.out]

end Cert.KernelAttnIdeal.Attn

end
-- ==== Proof.AttnQuery.lean ====
/-
  One query's row of what the kernel writes: for every column the weighted sum of the values over the sum of the weights,
  a weight being two to the power of the key's score and nothing after the query.
-/
module

public import proofs.«01_k».proof.Proof.AttnLane

@[expose] public section

set_option maxRecDepth 16384

noncomputable section

namespace Cert.KernelAttnIdeal.Attn

open Cert.KernelAttnIdeal Cert.KernelAttnIdeal.Gen Idealize.ShloMosaic Idealize.ShloMosaic.TcCoe Idealize.SL.Sem
open Cert.Softmax

/-- The scores up to key `q`, and nothing after it. -/
def upTo (q : ℕ) (s : ℕ → ℝ) (k : ℕ) : EReal := if k ≤ q then (s k : EReal) else ⊥

/-- A score is never the top. -/
theorem upTo_ne_top (q : ℕ) (s : ℕ → ℝ) (k : ℕ) : upTo q s k ≠ ⊤ := by
  unfold upTo
  split
  · exact EReal.coe_ne_top _
  · exact bot_ne_top

/-- A key up to the query has its score. -/
theorem upTo_of_le {q : ℕ} {s : ℕ → ℝ} {k : ℕ} (h : k ≤ q) : upTo q s k = s k := if_pos h

/-- The accumulator's column of query `r` of block `n` is a positive number times the weighted sums of the values. -/
theorem acc_at (I : In Ideal) (n : ℕ) (r : Fin 512) (γ : EReal) (hγ : ∀ a : Fin 128, (I.cf (ix2 0 a) : EReal) = γ)
    (g : ℕ → EReal) (hg : ∀ j ≤ n, ∀ (k : Fin 512) (a : Fin 128), (cB I.x5 j (ix3 0 k a) : EReal) = g (512 * j + k.val))
    (v : Fin 144 → ℕ → EReal) (hv : ∀ j ≤ n, ∀ (d : Fin 144) (k : Fin 512), (I.vt j (ix2 d k) : EReal) = v d (512 * j + k.val))
    (s : ℕ → ℝ) (hs : ∀ j ≤ n, ∀ k : Fin 512, (∑ x : Fin 128, (kB I.x3 j (ix2 k x) : EReal) * I.q (ix2 r x)) + (γ - g (512 * j + k.val)) = (s (512 * j + k.val) : EReal)) :
    ∃ c : ℝ, 0 < c ∧ ∀ d : Fin 144, (I.acc n (ix2 d r) : EReal) = (c : EReal) * ∑ k ∈ Finset.range (512 * (n + 1)), Ideal.exp2 (upTo (512 * n + r.val) s k) * v d k := by
  by_cases h : r.val < 256
  · have hr : r = (⟨(⟨r.val, h⟩ : Fin 256).val, by omega⟩ : Fin 512) := rfl
    have sc : ∀ j ≤ n, ∀ k : Fin 512, (I.gs lo j (ix2 k (⟨r.val, h⟩ : Fin 256)) : EReal) = (s (512 * j + k.val) : EReal) := fun j hj k =>
      (gs_lo I j k ⟨r.val, h⟩ γ _ hγ (hg j hj k)).trans (hs j hj k)
    obtain ⟨c, hc, hd⟩ := fin_at I lo 0#32 ⟨r.val, h⟩ (upTo (512 * n + r.val) s) v n
      (fun j hj k => (sc j hj.le k).trans (upTo_of_le (by have := k.isLt; omega)).symm) (upTo_ne_top _ _)
      (fun k hk => by rw [upTo_of_le (by omega)]; exact EReal.coe_ne_bot _) hv
      (fun k => (mask_at _ 0 (by omega) k _).trans (by
        rw [sc n le_rfl]
        unfold upTo
        exact if_congr (by show k.val ≤ r.val + 0 ↔ _; omega) rfl rfl))
      (by rw [upTo_of_le (by omega)]; exact EReal.coe_ne_bot _)
    exact ⟨c, hc, fun d => (congrArg (fun z => (z : EReal)) (acc_lo I n d r h)).trans (hd d)⟩
  · have hl : r.val - 256 < 256 := by omega
    have hr : r = (⟨256 + (⟨r.val - 256, hl⟩ : Fin 256).val, by omega⟩ : Fin 512) := Fin.ext (by show r.val = 256 + (r.val - 256); omega)
    have sc : ∀ j ≤ n, ∀ k : Fin 512, (I.gs hi j (ix2 k (⟨r.val - 256, hl⟩ : Fin 256)) : EReal) = (s (512 * j + k.val) : EReal) := fun j hj k => by
      rw [gs_hi I j k ⟨r.val - 256, hl⟩ γ _ hγ (hg j hj k), ← hr]
      exact hs j hj k
    obtain ⟨c, hc, hd⟩ := fin_at I hi 256#32 ⟨r.val - 256, hl⟩ (upTo (512 * n + r.val) s) v n
      (fun j hj k => (sc j hj.le k).trans (upTo_of_le (by have := k.isLt; omega)).symm) (upTo_ne_top _ _)
      (fun k hk => by rw [upTo_of_le (by omega)]; exact EReal.coe_ne_bot _) hv
      (fun k => (mask_at _ 256 le_rfl k _).trans (by
        rw [sc n le_rfl]
        unfold upTo
        exact if_congr (by show k.val ≤ r.val - 256 + 256 ↔ _; omega) rfl rfl))
      (by rw [upTo_of_le (by omega)]; exact EReal.coe_ne_bot _)
    exact ⟨c, hc, fun d => (congrArg (fun z => (z : EReal)) (acc_hi I n d r ⟨r.val - 256, hl⟩ (by show r.val = 256 + (r.val - 256); omega))).trans (hd d)⟩

/-- What is written for query `r` of block `n`. -/
theorem row_out (I : In Ideal) (hvo : ∀ z, (I.vo z : EReal) = 1) (n : ℕ) (r : Fin 512) (γ : EReal) (hγ : ∀ a : Fin 128, (I.cf (ix2 0 a) : EReal) = γ)
    (g : ℕ → EReal) (hg : ∀ j ≤ n, ∀ (k : Fin 512) (a : Fin 128), (cB I.x5 j (ix3 0 k a) : EReal) = g (512 * j + k.val))
    (w : Fin 128 → ℕ → EReal) (hw : ∀ j ≤ n, ∀ (d : Fin 128) (k : Fin 512), (vB I.x4 j (ix2 d k) : EReal) = w d (512 * j + k.val))
    (s : ℕ → ℝ) (hs : ∀ j ≤ n, ∀ k : Fin 512, (∑ x : Fin 128, (kB I.x3 j (ix2 k x) : EReal) * I.q (ix2 r x)) + (γ - g (512 * j + k.val)) = (s (512 * j + k.val) : EReal)) :
    ∃ ω : ℝ, 0 < ω ∧ ∑ k ∈ Finset.range (512 * (n + 1)), Ideal.exp2 (upTo (512 * n + r.val) s k) = ω
      ∧ ∀ d : Fin 128, (I.out n (ix2 r d) : EReal) = ((1 / ω : ℝ) : EReal) * ∑ k ∈ Finset.range (512 * (n + 1)), Ideal.exp2 (upTo (512 * n + r.val) s k) * w d k := by
  obtain ⟨c, hc, hd⟩ := acc_at I n r γ hγ g hg (fun d k => if h : d.val < 128 then w ⟨d.val, h⟩ k else 1)
    (fun j hj d k => (vt_at I hvo j d k).trans (by
      by_cases h : d.val < 128
      · rw [dif_pos h, dif_pos h]; exact hw j hj _ k
      · rw [dif_neg h, dif_neg h])) s hs
  obtain ⟨ω, hω, hW⟩ := total (Finset.range (512 * (n + 1))) (upTo (512 * n + r.val) s) (upTo_ne_top _ _) 0 (Finset.mem_range.2 (by omega))
    (by rw [upTo_of_le (by omega)]; exact EReal.coe_ne_bot _)
  refine ⟨ω, hω, hW, fun d => ?_⟩
  have e1 : (I.acc n (ix2 (⟨d.val, by omega⟩ : Fin 144) r) : EReal) = (c : EReal) * ∑ k ∈ Finset.range (512 * (n + 1)), Ideal.exp2 (upTo (512 * n + r.val) s k) * w d k := by
    refine (hd _).trans (congrArg (fun z => (c : EReal) * z) (Finset.sum_congr rfl fun k _ => ?_))
    rw [dif_pos d.isLt]
  have e2 : (I.acc n (ix2 (128 : Fin 144) r) : EReal) = (c : EReal) * (ω : EReal) := by
    refine (hd _).trans (congrArg (fun z => (c : EReal) * z) (Eq.trans (Finset.sum_congr rfl fun k _ => ?_) hW))
    rw [dif_neg (by decide), mul_one]
  rw [out_ratio, e1, e2]
  exact ratio c ω hc hω _

/-- A weighted sum over the keys up to the query's block is the sum over all keys. -/
theorem sum_all (n r : ℕ) (hn : n < 16) (hr : r < 512) (s : ℕ → ℝ) (w : ℕ → EReal) :
    ∑ k ∈ Finset.range (512 * (n + 1)), Ideal.exp2 (upTo (512 * n + r) s k) * w k = ∑ k : Fin 8192, Ideal.exp2 (upTo (512 * n + r) s k.val) * w k.val := by
  rw [← Finset.sum_range (fun k => Ideal.exp2 (upTo (512 * n + r) s k) * w k)]
  refine Finset.sum_subset (fun k hk => ?_) (fun k _ hk => ?_)
  · rw [Finset.mem_range] at hk ⊢; omega
  · rw [Finset.mem_range] at hk
    rw [upTo, if_neg (by omega), Ideal.exp2_bot, zero_mul]

end Cert.KernelAttnIdeal.Attn

end
-- ==== Proof.AttnRef.lean ====
/-
  The reference's attention entry by entry: a score is the product of the query and the key with the gate's difference,
  a key after the query has none, a weight is the exponential of the score less the row's largest over the sum of those,
  and a result is the weighted sum of the values.
-/
module

public import proofs.«01_k».proof.Defs
public import proofs.«01_k».proof.Proof.Gen.ReferenceAttnIdeal.Run
public import Idealize.ShloMosaic.Lib.Pipeline.ValueKit
public import Idealize.ShloMosaic.Lib.Pointwise
public import Idealize.ShloMosaic.Lib.StableHlo.Predicate
public import Idealize.ShloMosaic.Lib.Claim

@[expose] public section

set_option maxRecDepth 16384

noncomputable section

namespace Cert.ReferenceAttnIdeal.Attn

open Cert.ReferenceAttnIdeal Cert.ReferenceAttnIdeal.Gen Idealize.ShloMosaic Idealize.ShloMosaic.TcCoe Idealize.SL.Sem

/-- Every key up to the query. -/
def causal : IVec S16x8192x8192 1 :=
  broadcastInDim S16x8192x8192 ![1, 2] bcast_S8192x8192_S16x8192x8192_1_2 (cmpi .sle
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- The gated products of every query and key. -/
def products (QK : FVec Ideal S8192x4096 .bf16) (C : FVec Ideal S8192x16 .f32) : FVec Ideal S16x8192x8192 .f32 :=
  subf (addf (Host.dotGeneral dot_S16x8192x128_S16x8192x128_S16x8192x8192_2_2_1_1_0_0 none
      (transpose S16x8192x128 [1, 0, 2] (shapeCast _ (extf .f32 (extractStridedSlice S8192x2048 ![0, 0] QK slices_S8192x4096_S8192x2048_0_0) bitsLt_bf16_f32) shapeCasts_S8192x2048_S8192x16x128) transposes_S8192x16x128_S16x8192x128_1_0_2)
      (transpose S16x8192x128 [1, 0, 2] (shapeCast _ (extf .f32 (extractStridedSlice S8192x2048 ![0, 2048] QK slices_S8192x4096_S8192x2048_0_2048) bitsLt_bf16_f32) shapeCasts_S8192x2048_S8192x16x128) transposes_S8192x16x128_S16x8192x128_1_0_2))
      (broadcastInDim S16x8192x8192 ![0, 1, 2] bcast_S16x8192x1_S16x8192x8192_0_1_2 (broadcastInDim S16x8192x1 ![0, 1] bcast_S16x8192_S16x8192x1_0_1 (transpose S16x8192 [1, 0] C transposes_S8192x16_S16x8192_1_0))))
    (broadcastInDim S16x8192x8192 ![0, 1, 2] bcast_S16x1x8192_S16x8192x8192_0_1_2 (broadcastInDim S16x1x8192 ![0, 2] bcast_S16x8192_S16x1x8192_0_2 (transpose S16x8192 [1, 0] C transposes_S8192x16_S16x8192_1_0)))

/-- The scores: the products in natural units, and none after the query. -/
def scoresOf (QK : FVec Ideal S8192x4096 .bf16) (C : FVec Ideal S8192x16 .f32) : FVec Ideal S16x8192x8192 .f32 :=
  select causal (mulf (products QK C) (broadcastInDim S16x8192x8192 ![] bcast_S_S16x8192x8192 (id (Host.log (constant S_ .f32 0x40000000#32)))))
    (broadcastInDim S16x8192x8192 ![] bcast_S_S16x8192x8192 (id (constant S_ .f32 0xFF800000#32)))

/-- The exponentials of the scores less each row's largest. -/
def exps (X : FVec Ideal S16x8192x8192 .f32) : FVec Ideal S16x8192x8192 .f32 :=
  Host.exp (subf X (broadcastInDim S16x8192x8192 ![0, 1, 2] bcast_S16x8192x1_S16x8192x8192_0_1_2 (broadcastInDim S16x8192x1 ![0, 1] bcast_S16x8192_S16x8192x1_0_1
    (maximumf (broadcastInDim S16x8192 ![] bcast_S_S16x8192 (constant S_ .f32 0xFF800000#32))
      (Host.reduce FloatOps.maximumf X (constant S_ .f32 0xFF800000#32) reducesTo_S16x8192x8192_S16x8192_d2 h_S_)))))

/-- Each row over its sum. -/
def weights (E : FVec Ideal S16x8192x8192 .f32) : FVec Ideal S16x8192x8192 .f32 :=
  Host.divf E (broadcastInDim S16x8192x8192 ![0, 1, 2] bcast_S16x8192x1_S16x8192x8192_0_1_2 (broadcastInDim S16x8192x1 ![0, 1] bcast_S16x8192_S16x8192x1_0_1
    (Host.reduceAdd E (constant S_ .f32 0x00000000#32) reducesTo_S16x8192x8192_S16x8192_d2 h_S_)))

/-- The weighted sums of the values, the heads side by side. -/
def mixed (W : FVec Ideal S16x8192x8192 .f32) (VT : FVec Ideal S2048x8192 .bf16) : FVec Ideal S8192x2048 .bf16 :=
  truncf .bf16 (shapeCast _ (transpose S8192x16x128 [1, 0, 2] (Host.dotGeneral dot_S16x8192x8192_S16x8192x128_S16x8192x128_2_1_1_2_0_0 none W
    (transpose S16x8192x128 [1, 0, 2] (shapeCast _ (transpose S8192x2048 [1, 0] (extf .f32 VT bitsLt_bf16_f32) transposes_S2048x8192_S8192x2048_1_0) shapeCasts_S8192x2048_S8192x16x128) transposes_S8192x16x128_S16x8192x128_1_0_2))
    transposes_S16x8192x128_S8192x16x128_1_0_2) shapeCasts_S8192x16x128_S8192x2048) bitsLt_bf16_f32

/-- The reference's result is the mixed values. -/
theorem res_eq (m : (ℓ : Loc nD τ sig) → Buf (Elt Ideal) ℓ) (c : Dev nD) :
    Value.res_main_v45 m c = mixed (weights (exps (scoresOf (m ((c.tc : Thread nD τ).loc main_arg0)) (m ((c.tc : Thread nD τ).loc main_arg2))))) (m ((c.tc : Thread nD τ).loc main_arg1)) := rfl

/-- The negative infinity is the bottom. -/
theorem negInf_eq : Ideal.ofBits .f32 0xFF800000#32 = ⊥ := by simp [Ideal.ofBits, Ideal.ieee]

/-- The constant two. -/
theorem two_eq : Ideal.ofBits .f32 0x40000000#32 = ((2 : ℝ) : EReal) := by
  simp [Ideal.ofBits, Ideal.ieee, -EReal.coe_mul]
  try norm_num

/-- The gated product of query `q` and key `k` in head `h`. -/
theorem products_at (QK : FVec Ideal S8192x4096 .bf16) (C : FVec Ideal S8192x16 .f32) (h : Fin 16) (q k : Fin 8192) :
    (products QK C (ix3 h q k) : EReal) = (∑ x : Fin 128, (QK (ix2 q (⟨h.val * 128 + x.val, by omega⟩ : Fin 4096)) : EReal) * QK (ix2 k (⟨2048 + (h.val * 128 + x.val), by omega⟩ : Fin 4096)))
      + C (ix2 q h) - C (ix2 k h) := by
  pointwise [products]

/-- A key is kept up to the query. -/
theorem causal_at (h : Fin 16) (q k : Fin 8192) : causal (ix3 h q k) = BitVec.ofBool ((BitVec.ofNat 32 k.val).sle (BitVec.ofNat 32 q.val)) := by
  pointwise [causal]
  rfl

/-- The score of query `q` and key `k`. -/
theorem scores_at (QK : FVec Ideal S8192x4096 .bf16) (C : FVec Ideal S8192x16 .f32) (h : Fin 16) (q k : Fin 8192) :
    (scoresOf QK C (ix3 h q k) : EReal) = if k.val ≤ q.val then (products QK C (ix3 h q k) : EReal) * ((Real.log 2 : ℝ) : EReal) else ⊥ := by
  have e : (scoresOf QK C (ix3 h q k) : EReal) = Scalar.select (causal (ix3 h q k)) ((products QK C (ix3 h q k) : EReal) * Ideal.log (Ideal.ofBits .f32 0x40000000#32)) (Ideal.ofBits .f32 0xFF800000#32) := by
    pointwise [scoresOf]
    rfl
  rw [e, causal_at, negInf_eq, two_eq, Ideal.log_coe, if_neg (by norm_num)]
  have hs := StableHlo.Predicate.sle_ofNat_iff k.val q.val (by omega) (by omega)
  by_cases hk : k.val ≤ q.val
  · exact (if_pos (hs.2 hk)).trans (if_pos hk).symm
  · exact (if_neg (fun e => hk (hs.1 e))).trans (if_neg hk).symm

/-- A row's largest score, from the bottom. -/
def top (X : FVec Ideal S16x8192x8192 .f32) (h : Fin 16) (q : Fin 8192) : EReal := max ⊥ (Finset.fold max ⊥ (fun k : Fin 8192 => (X (ix3 h q k) : EReal)) Finset.univ)

/-- A maximum over the last of three axes is the fold over it. -/
theorem row_max {n0 n1 n2 : ℕ} (X : FVec Ideal ⟨3, ![n0, n1, n2]⟩ .f32) (h : (⟨3, ![n0, n1, n2]⟩ : Shape).ReducesTo [2] ⟨2, ![n0, n1]⟩)
    (c : FVec Ideal ⟨0, ![]⟩ .f32) (hu : 0 < (⟨0, ![]⟩ : Shape).numel) (a : Fin n0) (b : Fin n1) :
    ((Host.reduce FloatOps.maximumf X c h hu : FVec Ideal ⟨2, ![n0, n1]⟩ .f32) (ix2 a b) : EReal) = Finset.univ.fold max (c (Shape.Idx.first hu) : EReal) fun k : Fin n2 => (X (ix3 a b k) : EReal) := by
  simp only [pointwise]

/-- Each row's largest score. -/
def largest (X : FVec Ideal S16x8192x8192 .f32) : FVec Ideal S16x8192 .f32 :=
  maximumf (broadcastInDim S16x8192 ![] bcast_S_S16x8192 (constant S_ .f32 0xFF800000#32))
    (Host.reduce FloatOps.maximumf X (constant S_ .f32 0xFF800000#32) reducesTo_S16x8192x8192_S16x8192_d2 h_S_)

/-- The larger of a table and the bottom. -/
theorem atLeast_at (R : FVec Ideal S16x8192 .f32) (h : Fin 16) (q : Fin 8192) :
    ((maximumf (broadcastInDim S16x8192 ![] bcast_S_S16x8192 (constant S_ .f32 0xFF800000#32)) R : FVec Ideal S16x8192 .f32) (ix2 h q) : EReal)
      = max ⊥ (R (ix2 h q) : EReal) := by
  rw [← negInf_eq]
  pointwise

/-- The largest score of a row, entry by entry. -/
theorem largest_at (X : FVec Ideal S16x8192x8192 .f32) (h : Fin 16) (q : Fin 8192) : (largest X (ix2 h q) : EReal) = top X h q := by
  refine (atLeast_at _ h q).trans (congrArg (fun z : EReal => max ⊥ z) ?_)
  refine (row_max X _ _ _ h q).trans ?_
  have e : ((constant S_ .f32 0xFF800000#32 : FVec Ideal S_ .f32) (Shape.Idx.first h_S_) : EReal) = ⊥ := negInf_eq
  exact congrArg (fun z : EReal => Finset.fold max z (fun k : Fin 8192 => (X (ix3 h q k) : EReal)) Finset.univ) e

/-- The exponentials less a row's number. -/
theorem shifted_at (X : FVec Ideal S16x8192x8192 .f32) (L : FVec Ideal S16x8192 .f32) (h : Fin 16) (q k : Fin 8192) :
    ((Host.exp (subf X (broadcastInDim S16x8192x8192 ![0, 1, 2] bcast_S16x8192x1_S16x8192x8192_0_1_2 (broadcastInDim S16x8192x1 ![0, 1] bcast_S16x8192_S16x8192x1_0_1 L)))
      : FVec Ideal S16x8192x8192 .f32) (ix3 h q k) : EReal) = Ideal.exp ((X (ix3 h q k) : EReal) - L (ix2 h q)) := by
  pointwise

/-- An exponential of a score less its row's largest. -/
theorem exps_at (X : FVec Ideal S16x8192x8192 .f32) (h : Fin 16) (q k : Fin 8192) :
    (exps X (ix3 h q k) : EReal) = Ideal.exp ((X (ix3 h q k) : EReal) - top X h q) := by
  rw [← largest_at]
  exact shifted_at X (largest X) h q k

/-- A weight is its exponential over the row's sum. -/
theorem weights_at (E : FVec Ideal S16x8192x8192 .f32) (h : Fin 16) (q k : Fin 8192) :
    (weights E (ix3 h q k) : EReal) = Ideal.div (E (ix3 h q k)) (0 + ∑ j : Fin 8192, (E (ix3 h q j) : EReal)) := by
  pointwise [weights]

/-- A result is the weighted sum of the values. -/
theorem mixed_at (W : FVec Ideal S16x8192x8192 .f32) (VT : FVec Ideal S2048x8192 .bf16) (h : Fin 16) (q : Fin 8192) (d : Fin 128) (e : Fin 2048) (he : e.val = h.val * 128 + d.val) :
    (mixed W VT (ix2 q e) : EReal) = ∑ k : Fin 8192, (W (ix3 h q k) : EReal) * VT (ix2 e k) := by
  pointwise [mixed]
  rw [show (⟨e.val / 128, _⟩ : Fin 16) = h from Fin.ext (by show e.val / 128 = h.val; omega)]

end Cert.ReferenceAttnIdeal.Attn

end
-- ==== Proof.AttnEntry.lean ====
/-
  One entry of the attention: what the kernel writes for a query and a column is what the reference writes there, when
  the queries, the keys and the gates are real numbers.
-/
module

public import proofs.«01_k».proof.Proof.AttnQuery
public import proofs.«01_k».proof.Proof.AttnRef

@[expose] public section

set_option maxRecDepth 16384

noncomputable section

namespace Cert.KernelAttnIdeal.Attn

open Cert.KernelAttnIdeal Cert.KernelAttnIdeal.Gen Idealize.ShloMosaic Idealize.ShloMosaic.TcCoe Idealize.SL.Sem
open Cert.Softmax
open Cert.ReferenceAttnIdeal.Attn (scoresOf products exps weights mixed top)

/-- The key of a number. -/
def key (k : ℕ) : Fin 8192 := ⟨k % 8192, by omega⟩

/-- A key below the length is itself. -/
theorem key_val (k : Fin 8192) : key k.val = k := Fin.ext (Nat.mod_eq_of_lt k.isLt)

/-- The key of a number is the index with that value. -/
theorem key_eq {k : ℕ} (z : Fin 8192) (h : z.val = k) : key k = z := h ▸ key_val z

/-- Entries of a key, a value and a gate block. -/
theorem kB_at (x3 : Vec Ideal S8192x128 .bf16) (j : ℕ) (hj : j < 16) (k : Fin 512) (x : Fin 128) : kB x3 j (ix2 k x) = x3 (ix2 (key (512 * j + k.val)) x) := by
  pointwise [kB]
  exact congrArg x3 ((ix2_inj ..).2 ⟨(key_eq _ (by simp [Nat.mod_eq_of_lt hj])).symm, rfl⟩)
/-- An entry of a value block. -/
theorem vB_at (x4 : Vec Ideal S128x8192 .bf16) (j : ℕ) (hj : j < 16) (d : Fin 128) (k : Fin 512) : vB x4 j (ix2 d k) = x4 (ix2 d (key (512 * j + k.val))) := by
  pointwise [vB]
  exact congrArg x4 ((ix2_inj ..).2 ⟨rfl, (key_eq _ (by simp [Nat.mod_eq_of_lt hj])).symm⟩)
/-- An entry of a gate block. -/
theorem cB_at (x5 : Vec Ideal S1x8192x128 .f32) (j : ℕ) (hj : j < 16) (k : Fin 512) (a : Fin 128) : cB x5 j (ix3 0 k a) = x5 (ix3 0 (key (512 * j + k.val)) a) := by
  pointwise [cB]
  exact congrArg x5 ((ix3_inj ..).2 ⟨rfl, (key_eq _ (by simp [Nat.mod_eq_of_lt hj])).symm, rfl⟩)

/-- What the kernel writes for query `512 n + r` of head `h` is what the reference writes. -/
theorem entry (QK : FVec Ideal Cert.ReferenceAttnIdeal.S8192x4096 .bf16) (C : FVec Ideal Cert.ReferenceAttnIdeal.S8192x16 .f32) (VT : FVec Ideal Cert.ReferenceAttnIdeal.S2048x8192 .bf16)
    (hQ : ∀ i, ∃ a : ℝ, (QK i : EReal) = a) (hC : ∀ i, ∃ a : ℝ, (C i : EReal) = a)
    (I : In Ideal) (hvo : ∀ z, (I.vo z : EReal) = 1) (n : ℕ) (hn : n < 16) (h : Fin 16) (r : Fin 512)
    (q0 q : Fin 8192) (hq0 : q0.val = 512 * n) (hq : q.val = 512 * n + r.val)
    (hIq : ∀ x : Fin 128, (I.q (ix2 r x) : EReal) = QK (ix2 q (⟨h.val * 128 + x.val, by omega⟩ : Fin 4096)))
    (hIc : ∀ a : Fin 128, (I.cf (ix2 0 a) : EReal) = C (ix2 q0 h))
    (hI3 : ∀ (k : Fin 8192) (x : Fin 128), (I.x3 (ix2 k x) : EReal) = QK (ix2 k (⟨2048 + (h.val * 128 + x.val), by omega⟩ : Fin 4096)))
    (hI5 : ∀ (k : Fin 8192) (a : Fin 128), (I.x5 (ix3 0 k a) : EReal) = C (ix2 k h))
    (d : Fin 128) (e : Fin 2048) (he : e.val = h.val * 128 + d.val)
    (hI4 : ∀ k : Fin 8192, (I.x4 (ix2 d k) : EReal) = VT (ix2 e k)) :
    (I.out n (ix2 r d) : EReal) = mixed (weights (exps (scoresOf QK C))) VT (ix2 q e) := by
  choose a ha using hQ
  choose g hg using hC
  let dot : Fin 8192 → ℝ := fun k => ∑ x : Fin 128, a (ix2 q (⟨h.val * 128 + x.val, by omega⟩ : Fin 4096)) * a (ix2 k (⟨2048 + (h.val * 128 + x.val), by omega⟩ : Fin 4096))
  have hdot : ∀ k : Fin 8192, (∑ x : Fin 128, (QK (ix2 q (⟨h.val * 128 + x.val, by omega⟩ : Fin 4096)) : EReal) * QK (ix2 k (⟨2048 + (h.val * 128 + x.val), by omega⟩ : Fin 4096))) = (dot k : EReal) := fun k => by
    simp only [ha, ← EReal.coe_mul]
    exact (map_sum (⟨⟨((↑) : ℝ → EReal), EReal.coe_zero⟩, EReal.coe_add⟩ : ℝ →+ EReal) _ _).symm
  let s : ℕ → ℝ := fun k => dot (key k) + (g (ix2 q0 h) - g (ix2 (key k) h))
  obtain ⟨ω, hω, hW, ho⟩ := row_out I hvo n r (C (ix2 q0 h)) hIc (fun k => C (ix2 (key k) h))
    (fun j hj k b => (congrArg (fun z => (z : EReal)) (cB_at I.x5 j (by omega) k b)).trans (hI5 _ _))
    (fun d k => I.x4 (ix2 d (key k))) (fun j hj d k => vB_at I.x4 j (by omega) d k) s
    (fun j hj k => by
      rw [hg, hg, EReal.coe_add, EReal.coe_sub, ← hdot]
      refine congrArg (fun z : EReal => z + _) (Finset.sum_congr rfl fun x _ => ?_)
      rw [kB_at I.x3 j (by omega) k x, hI3, hIq, mul_comm])
  refine (ho d).trans ?_
  rw [sum_all n r.val hn r.isLt s (fun k => I.x4 (ix2 d (key k)))]
  have hW' := hW
  have e1 := sum_all n r.val hn r.isLt s (fun _ => 1)
  simp only [mul_one] at e1
  rw [e1] at hW'
  have hX : ∀ k : Fin 8192, ((scoresOf QK C (ix3 h q k) : EReal) = ⊥ ∧ upTo (512 * n + r.val) s k.val = ⊥)
      ∨ ∃ ρ : ℝ, upTo (512 * n + r.val) s k.val = ρ ∧ (scoresOf QK C (ix3 h q k) : EReal) = (((ρ + (g (ix2 q h) - g (ix2 q0 h))) * Real.log 2 : ℝ) : EReal) := fun k => by
    rw [Cert.ReferenceAttnIdeal.Attn.scores_at]
    by_cases hk : k.val ≤ q.val
    · refine Or.inr ⟨s k.val, upTo_of_le (by omega), ?_⟩
      rw [if_pos hk, Cert.ReferenceAttnIdeal.Attn.products_at, hdot, hg, hg, ← EReal.coe_add, ← EReal.coe_sub, ← EReal.coe_mul]
      refine congrArg _ (congrArg (fun z => z * Real.log 2) ?_)
      show _ = dot (key k.val) + (g (ix2 q0 h) - g (ix2 (key k.val) h)) + _
      rw [key_val]
      ring
    · exact Or.inl ⟨if_neg hk, if_neg (by omega)⟩
  have hs := softmax_eq (fun k : Fin 8192 => (scoresOf QK C (ix3 h q k) : EReal)) (fun k => upTo (512 * n + r.val) s k.val) (fun k => (VT (ix2 e k) : EReal))
    (g (ix2 q h) - g (ix2 q0 h)) hX q (by rw [upTo_of_le (by omega)]; exact EReal.coe_ne_bot _) (top (scoresOf QK C) h q) rfl ω hω hW'
  rw [Cert.ReferenceAttnIdeal.Attn.mixed_at _ _ h q d e he]
  refine Eq.trans ?_ (hs.symm.trans (Finset.sum_congr rfl fun k _ => ?_))
  · refine congrArg (fun z : EReal => _ * z) (Finset.sum_congr rfl fun k _ => ?_)
    show _ * I.x4 (ix2 d (key k.val)) = _
    rw [key_val, hI4]
  · rw [Cert.ReferenceAttnIdeal.Attn.weights_at, Cert.ReferenceAttnIdeal.Attn.exps_at]
    refine congrArg (fun z : EReal => Ideal.div _ (0 + z) * _) (Finset.sum_congr rfl fun j _ => ?_)
    exact (Cert.ReferenceAttnIdeal.Attn.exps_at _ _ _ _).symm

end Cert.KernelAttnIdeal.Attn

end
-- ==== Proof.AttnArray.lean ====
/-
  The array of the attention after the run: at every query and column the reference's entry, when the queries, the keys
  and the gates are real numbers.
-/
module

public import proofs.«01_k».proof.Proof.AttnBlocks
public import proofs.«01_k».proof.Proof.AttnEntry

@[expose] public section

set_option maxRecDepth 16384

noncomputable section

namespace Cert.KernelAttnIdeal.Attn

open Cert.KernelAttnIdeal Cert.KernelAttnIdeal.Gen Idealize.ShloMosaic Idealize.ShloMosaic.TcCoe Idealize.SL.Sem
open Cert.ReferenceAttnIdeal.Attn (scoresOf exps weights mixed)

variable (m : (ℓ : Loc nD τ sig) → Buf (Elt Ideal) ℓ)

/-- The queries and keys, the transposed values, and the gates. -/
def argQ (c : Dev nD) : FVec Ideal Cert.ReferenceAttnIdeal.S8192x4096 .bf16 := m ((c : Thread nD τ).loc main_arg0)
/-- The transposed values. -/
def argV (c : Dev nD) : FVec Ideal Cert.ReferenceAttnIdeal.S2048x8192 .bf16 := m ((c : Thread nD τ).loc main_arg1)
/-- The gates. -/
def argC (c : Dev nD) : FVec Ideal Cert.ReferenceAttnIdeal.S8192x16 .f32 := m ((c : Thread nD τ).loc main_arg2)

/-- What grid point `t` writes at row `r` and column `d` of its block is the reference's entry there. -/
theorem point_at (c : Dev nD) (t : Fin cfg0.N) (hQ : ∀ i, ∃ a : ℝ, (argQ m c i : EReal) = a)
    (hC : ∀ i, ∃ a : ℝ, (argC m c i : EReal) = a) (r : Fin 512) (d : Fin 128) (q : Fin 8192) (e : Fin 2048)
    (hq : q.val = 512 * (t.val % 16) + r.val) (he : e.val = t.val / 16 * 128 + d.val) :
    (out8 (grid0.coords t) (iblk m c 0 t) (iblk m c 1 t) (iblk m c 2 t) (iblk m c 3 t) (ix2 r d) : EReal)
      = mixed (weights (exps (scoresOf (argQ m c) (argC m c)))) (argV m c) (ix2 q e) := by
  have ht : t.val < 256 := (places t).2.2.2.2.2.2.2.2.2
  unfold out8
  rw [(block_at t).1]
  refine entry (argQ m c) (argC m c) (argV m c) hQ hC _ ones_at
    (t.val % 16) (by omega) (⟨t.val / 16, by omega⟩ : Fin 16) r (⟨512 * (t.val % 16), by omega⟩ : Fin 8192) q rfl hq ?_ ?_ ?_ ?_ d e he ?_
  · exact fun x => q_at m c t r x q _ hq rfl
  · exact fun a => (congrArg (fun z => (z : EReal)) (first_at t (iblk m c 3 t) a (⟨512 * (t.val % 16), by omega⟩ : Fin 8192) rfl)).trans (c_at m c t _ a _ rfl)
  · exact fun k x => k_at m c t k x _ rfl
  · exact fun k a => c_at m c t k a _ rfl
  · exact fun k => v_at m c t d k e he

/-- Where an index of a block of the attention's array lies in the array. -/
theorem place6 (t : Fin cfg0.N) (z : S512x128.Idx) (a : Fin 2) : (((cfg0.win 6).blk t).view.emb z a : ℕ) = win0_6.index t a * win0_6.size a + (z a).val :=
  Pipeline.Window.rect_emb_val win0_6 t z a

/-- The attention's array after the run. -/
theorem final6 (c : Dev nD) (hQ : ∀ i, ∃ a : ℝ, (argQ m c i : EReal) = a) (hC : ∀ i, ∃ a : ℝ, (argC m c i : EReal) = a) :
    (dats m 0 c).arrAt 6 cfg0.N = mixed (weights (exps (scoresOf (argQ m c) (argC m c)))) (argV m c) := by
  refine (dats m 0 c).arrAt_eq_of_covers 6 _ (by decide +kernel) fun t _ y => ?_
  have hw := (places t).2.2.2.2.2.2.1
  blk_simp
  rw [after0_6]
  refine (congrArg _ (eq_ix2 y)).trans ((point_at m c t hQ hC (y 0) (y 1) (((cfg0.win 6).blk t).view.emb y 0) (((cfg0.win 6).blk t).view.emb y 1) ?_ ?_).trans
    (congrArg _ (eq_ix2 (((cfg0.win 6).blk t).view.emb y)).symm))
  · refine (place6 t y 0).trans ?_
    rw [hw]
    exact congrArg (· + (y 0).val) (Nat.mul_comm _ _)
  · refine (place6 t y 1).trans ?_
    rw [hw]
    rfl

end Cert.KernelAttnIdeal.Attn

end
-- ==== Proof.AttnFinite.lean ====
/-
  The precondition read entry by entry: every query, key and gate is a real number.
-/
module

public import proofs.«01_k».proof.Defs
public import proofs.«01_k».proof.Proof.Gen.Pre_finite
public import Idealize.ShloMosaic.Lib.Pointwise
public import Idealize.ShloMosaic.Lib.ReduceAll

@[expose] public section

set_option maxRecDepth 16384

noncomputable section

namespace Cert.Pre_finite.Entries

open Cert.Pre_finite Idealize.ShloMosaic

/-- A number whose magnitude is below the top is a real number. -/
theorem real_of_abs {x : EReal} (h : max x (-x) < ⊤) : ∃ a : ℝ, x = a := by
  induction x with
  | bot => exact absurd h (by simp)
  | top => exact absurd h (by simp)
  | coe a => exact ⟨a, rfl⟩

/-- The positive infinity of 32 bits is the top. -/
theorem posInf32 : Ideal.ofBits .f32 0x7F800000#32 = ⊤ := by simp [Ideal.ofBits, Ideal.ieee]
/-- The positive infinity of 16 bits is the top. -/
theorem posInf16 : Ideal.ofBits .bf16 0x7F80#16 = ⊤ := by simp [Ideal.ofBits, Ideal.ieee]

/-- A comparison whose bit is one holds. -/
theorem lt_of_bit {x y : EReal} (h : BitVec.ofBool (decide (x < y)) = 1#1) : x < y := by
  by_contra hn
  rw [decide_eq_false hn] at h
  exact absurd h (by decide)

/-- Where the precondition holds every entry of the first and of the third argument is a real number. -/
theorem reals [Facts] (A : FVec Ideal S8192x4096 .bf16) (B : FVec Ideal S2048x8192 .bf16) (C : FVec Ideal S8192x16 .f32) (D E : FVec Ideal S1x16384x4096 .f32)
    (h : fn (F := Ideal) A B C D E = fun _ => 1#1) : (∀ i, ∃ a : ℝ, (A i : EReal) = a) ∧ ∀ i, ∃ a : ℝ, (C i : EReal) = a := by
  have h0 := congrFun h ix0
  have hh : IntOp.andi (Host.reduce IntOp.andi (cmpf .olt (Host.absf A) (broadcastInDim S8192x4096 ![] Facts.bcast_S_S8192x4096 (constant S_ .bf16 0x7F80#16))) (constantI S_ 1 1#1) Facts.reducesTo_S8192x4096_S_d0_1 Facts.h_S_ ix0)
      (Host.reduce IntOp.andi (cmpf .olt (Host.absf C) (broadcastInDim S8192x16 ![] Facts.bcast_S_S8192x16 (constant S_ .f32 0x7F800000#32))) (constantI S_ 1 1#1) Facts.reducesTo_S8192x16_S_d0_1 Facts.h_S_ ix0) = 1#1 := h0
  have key : ∀ a b : BitVec 1, IntOp.andi a b = 1#1 → a = 1#1 ∧ b = 1#1 := by decide
  obtain ⟨ha, hb⟩ := key _ _ hh
  haveI : Subsingleton S_.Idx := ⟨fun a b => funext fun k => k.elim0⟩
  refine ⟨fun i => ?_, fun i => ?_⟩
  · have e := Host.reduce_andi_all _ _ _ _ _ ha i
    exact real_of_abs (posInf16 ▸ lt_of_bit e)
  · have e := Host.reduce_andi_all _ _ _ _ _ hb i
    exact real_of_abs (posInf32 ▸ lt_of_bit e)

end Cert.Pre_finite.Entries

end
-- ==== Proof.AttnValue.lean ====
/-
  The attention call: over the extended reals the array the call leaves is the reference's softmax of the gated scores
  applied to the values, when the queries, the keys and the gates are real numbers; and the two tables it also rounds
  are the reference's.
-/
module

public import proofs.«01_k».proof.Proof.AttnArray
public import proofs.«01_k».proof.Proof.AttnFinite

@[expose] public section

set_option maxRecDepth 16384

noncomputable section

namespace Cert

open Idealize.ShloMosaic Idealize.ShloMosaic.TcCoe Idealize.SL.Sem

/-- The reference's table without its leading axis is the kernel's. -/
theorem rounded_eq (X : FVec Ideal Cert.ReferenceAttnIdeal.S1x16384x4096 .f32) :
    truncf .bf16 (shapeCast Cert.ReferenceAttnIdeal.S16384x4096 X Cert.ReferenceAttnIdeal.Gen.shapeCasts_S1x16384x4096_S16384x4096) Cert.ReferenceAttnIdeal.Gen.bitsLt_bf16_f32
      = Cert.KernelAttnIdeal.Attn.table X := by
  funext i
  rw [eq_ix2 i]
  pointwise [Cert.KernelAttnIdeal.Attn.table]

/-- The attention call leaves its reference's results, over the extended reals. -/
theorem attn_algebraic : Cert.algebraic_KernelAttnIdeal_ReferenceAttnIdeal_pre_finite
    (hKernelAttnIdeal := Cert.KernelAttnIdeal.Gen.facts) (hReferenceAttnIdeal := Cert.ReferenceAttnIdeal.Gen.facts) (hPre_finite := Cert.Pre_finite.Gen.facts) := by
  pair_intro
  · run_from Cert.KernelAttnIdeal.Attn.run_main m g
  · run_from Cert.ReferenceAttnIdeal.Value.run m' g'
    · obtain ⟨e0, e1, e2, _, _⟩ := hagree c
      obtain ⟨hQ, hC⟩ := Cert.Pre_finite.Entries.reals _ _ _ _ _ (hpre c)
      rw [Cert.ReferenceAttnIdeal.Attn.res_eq, e0, e1, e2]
      exact (Cert.KernelAttnIdeal.Attn.final6 m c hQ hC).symm
    · exact (rounded_eq _).trans (Cert.KernelAttnIdeal.Attn.final7 m c).symm
    · exact (rounded_eq _).trans (Cert.KernelAttnIdeal.Attn.final8 m c).symm

/-- The attention's reference runs to the end and leaves its arguments. -/
theorem attn_reference_frame : Cert.quiescent_ReferenceAttnIdeal (hReferenceAttnIdeal := Cert.ReferenceAttnIdeal.Gen.facts) := by
  intro m g _
  exact (θ_run Cert.ReferenceAttnIdeal.defs _ _).mono
    (fun r h => ⟨fun c => (h c).2.2.2, Idealize.ShloMosaic.sem_eq_zero_of_no_sems (by decide) r.2⟩)
    (Cert.ReferenceAttnIdeal.Value.run m g)

/-- It does so where the precondition holds. -/
theorem attn_reference_frame_finite : Cert.quiescent_ReferenceAttnIdeal_pre_finite
    (hReferenceAttnIdeal := Cert.ReferenceAttnIdeal.Gen.facts) (hPre_finite := Cert.Pre_finite.Gen.facts) := by
  intro m g _
  exact (θ_run Cert.ReferenceAttnIdeal.defs _ _).mono
    (fun r h => ⟨fun c => (h c).2.2.2, Idealize.ShloMosaic.sem_eq_zero_of_no_sems (by decide) r.2⟩)
    (Cert.ReferenceAttnIdeal.Value.run m g)

end Cert

end
-- ==== Proof.lean ====
module

public import proofs.«01_k».proof.Defs
public import proofs.«01_k».proof.Proof.Gen.KernelQK
public import proofs.«01_k».proof.Proof.Gen.KernelQK.Skeleton
public import proofs.«01_k».proof.Proof.Gen.KernelQK.Launch
public import proofs.«01_k».proof.Proof.Gen.KernelQK.Points
public import proofs.«01_k».proof.Proof.Gen.KernelQK.Frame
public import proofs.«01_k».proof.Proof.Gen.KernelQKIdeal
public import proofs.«01_k».proof.Proof.Gen.KernelQKIdeal.Skeleton
public import proofs.«01_k».proof.Proof.Gen.KernelQKIdeal.Launch
public import proofs.«01_k».proof.Proof.Gen.KernelQKIdeal.Points
public import proofs.«01_k».proof.Proof.Gen.KernelQKIdeal.Frame
public import proofs.«01_k».proof.Proof.Gen.ReferenceQKIdeal
public import proofs.«01_k».proof.Proof.Gen.KernelV
public import proofs.«01_k».proof.Proof.Gen.KernelV.Skeleton
public import proofs.«01_k».proof.Proof.Gen.KernelV.Launch
public import proofs.«01_k».proof.Proof.Gen.KernelV.Points
public import proofs.«01_k».proof.Proof.Gen.KernelV.Frame
public import proofs.«01_k».proof.Proof.Gen.KernelVIdeal
public import proofs.«01_k».proof.Proof.Gen.KernelVIdeal.Skeleton
public import proofs.«01_k».proof.Proof.Gen.KernelVIdeal.Launch
public import proofs.«01_k».proof.Proof.Gen.KernelVIdeal.Points
public import proofs.«01_k».proof.Proof.Gen.KernelVIdeal.Frame
public import proofs.«01_k».proof.Proof.Gen.ReferenceVIdeal
public import proofs.«01_k».proof.Proof.Gen.KernelHgrn
public import proofs.«01_k».proof.Proof.Gen.KernelHgrn.Skeleton
public import proofs.«01_k».proof.Proof.Gen.KernelHgrn.Launch
public import proofs.«01_k».proof.Proof.Gen.KernelHgrn.Points
public import proofs.«01_k».proof.Proof.Gen.KernelHgrn.Frame
public import proofs.«01_k».proof.Proof.Gen.KernelHgrnIdeal
public import proofs.«01_k».proof.Proof.Gen.KernelHgrnIdeal.Skeleton
public import proofs.«01_k».proof.Proof.Gen.KernelHgrnIdeal.Launch
public import proofs.«01_k».proof.Proof.Gen.KernelHgrnIdeal.Points
public import proofs.«01_k».proof.Proof.Gen.KernelHgrnIdeal.Frame
public import proofs.«01_k».proof.Proof.Gen.ReferenceHgrnIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelDown
public import proofs.«01_k».proof.Proof.Gen.KernelDown.Frame
public import proofs.«01_k».proof.Proof.Gen.KernelDownIdeal
public import proofs.«01_k».proof.Proof.Gen.KernelDownIdeal.Frame
public import proofs.«01_k».proof.Proof.Gen.ReferenceDownIdeal
public import proofs.«01_k».proof.Proof.Gen.KernelAttn
public import proofs.«01_k».proof.Proof.Gen.KernelAttn.Frame
public import proofs.«01_k».proof.Proof.Gen.KernelAttn.Loops
public import proofs.«01_k».proof.Proof.Gen.KernelAttnIdeal
public import proofs.«01_k».proof.Proof.Gen.KernelAttnIdeal.Frame
public import proofs.«01_k».proof.Proof.Gen.KernelAttnIdeal.Loops
public import proofs.«01_k».proof.Proof.Gen.ReferenceAttnIdeal
public import proofs.«01_k».proof.Proof.Gen.ReferenceAttnIdeal.Run
public import proofs.«01_k».proof.Proof.Gen.Pre_finite
public import proofs.«01_k».proof.Proof.QKValue
public import proofs.«01_k».proof.Proof.VValue
public import proofs.«01_k».proof.Proof.HgrnValue
public import proofs.«01_k».proof.Proof.OutValue
public import proofs.«01_k».proof.Proof.DownValue
public import proofs.«01_k».proof.Proof.AttnFrameBits
public import proofs.«01_k».proof.Proof.AttnFrame
public import proofs.«01_k».proof.Proof.AttnValue

@[expose] public section

noncomputable section

namespace Cert.Proof

/-- Everything the certificate claims: every program runs to the end and leaves its arguments, the idealized kernels are
    the kernels' own text, up to the attention's mask, and each of the six calls leaves its reference's result over the extended reals. -/
theorem claim : Cert.Claim :=
  ⟨Cert.KernelQK.Gen.facts, Cert.KernelQKIdeal.Gen.facts, Cert.ReferenceQKIdeal.Gen.facts, Cert.KernelV.Gen.facts, Cert.KernelVIdeal.Gen.facts, Cert.ReferenceVIdeal.Gen.facts, Cert.KernelHgrn.Gen.facts, Cert.KernelHgrnIdeal.Gen.facts, Cert.ReferenceHgrnIdeal.Gen.facts, Cert.KernelOut.Gen.facts, Cert.KernelOutIdeal.Gen.facts, Cert.ReferenceOutIdeal.Gen.facts, Cert.KernelAttn.Gen.facts, Cert.KernelAttnIdeal.Gen.facts, Cert.ReferenceAttnIdeal.Gen.facts, Cert.KernelDown.Gen.facts, Cert.KernelDownIdeal.Gen.facts, Cert.ReferenceDownIdeal.Gen.facts, Cert.Pre_finite.Gen.facts,
    fun m g _ => Cert.KernelQK.Gen.frame m g, fun m g _ => Cert.KernelQKIdeal.Gen.frame m g, Cert.qk_reference_frame,
    fun m g _ => Cert.KernelV.Gen.frame m g, fun m g _ => Cert.KernelVIdeal.Gen.frame m g, Cert.v_reference_frame,
    fun m g _ => Cert.KernelHgrn.Gen.frame m g, fun m g _ => Cert.KernelHgrnIdeal.Gen.frame m g, Cert.hgrn_reference_frame,
    fun m g _ => Cert.KernelOut.Gen.frame m g, fun m g _ => Cert.KernelOutIdeal.Gen.frame m g, Cert.out_reference_frame,
    fun m g _ => Cert.KernelAttn.Attn.frame m g, fun m g _ => Cert.KernelAttnIdeal.Attn.frame m g, fun m g _ => Cert.KernelAttnIdeal.Attn.frame m g, Cert.attn_reference_frame, Cert.attn_reference_frame_finite,
    fun m g _ => Cert.KernelDown.Gen.frame m g, fun m g _ => Cert.KernelDownIdeal.Gen.frame m g, Cert.down_reference_frame,
    trivial, Cert.qk_algebraic,
    trivial, Cert.v_algebraic,
    trivial, Cert.hgrn_algebraic,
    trivial, Cert.out_algebraic,
    Idealize.ShloMosaic.IdealRules.named_const.statement Cert.KernelAttnIdeal.κ "masked" .f32 0xF149F2CA#32 ⊥ rfl, Cert.attn_algebraic,
    trivial, Cert.down_algebraic⟩

end Cert.Proof

end
